-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 [hPre_groups_exist : Cert.Pre_groups_exist.Facts] (m : (ℓ : Loc Cert.Kernel2.nD Cert.Kernel2.τ Cert.Kernel2.sig) → Buf (Elt Bits) ℓ) : Prop :=
  ∀ c : Dev Cert.Kernel2.nD,
    (Cert.Pre_groups_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_groups_exist.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_groups_exist : Cert.Pre_groups_exist.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_groups_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_groups_exist.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_groups_exist [hPre_groups_exist : Cert.Pre_groups_exist.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_groups_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_groups_exist.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gates [hPre_finite_gates : Cert.Pre_finite_gates.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gates [hPre_finite_gates : Cert.Pre_finite_gates.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_steps [hPre_finite_steps : Cert.Pre_finite_steps.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_steps.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_steps.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_steps [hPre_finite_steps : Cert.Pre_finite_steps.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_steps.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_steps.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_groups_exist : Cert.Pre_groups_exist.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_groups_exist : Cert.Pre_groups_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_groups_exist [hReference2Ideal : Cert.Reference2Ideal.Facts] [hPre_groups_exist : Cert.Pre_groups_exist.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_groups_exist m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_gates [hKernel5Ideal : Cert.Kernel5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gates m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_gates [hReference5Ideal : Cert.Reference5Ideal.Facts] [hPre_finite_gates : Cert.Pre_finite_gates.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gates m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_steps [hKernel6Ideal : Cert.Kernel6Ideal.Facts] [hPre_finite_steps : Cert.Pre_finite_steps.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_steps m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_steps [hReference6Ideal : Cert.Reference6Ideal.Facts] [hPre_finite_steps : Cert.Pre_finite_steps.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_steps m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_groups_exist : Cert.Pre_groups_exist.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_gates [hKernel5Ideal : Cert.Kernel5Ideal.Facts] [hReference5Ideal : Cert.Reference5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gates m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_steps [hKernel6Ideal : Cert.Kernel6Ideal.Facts] [hReference6Ideal : Cert.Reference6Ideal.Facts] [hPre_finite_steps : Cert.Pre_finite_steps.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_steps m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts) (hPre_groups_exist : Cert.Pre_groups_exist.Facts) (hPre_finite_gates : Cert.Pre_finite_gates.Facts) (hPre_finite_steps : Cert.Pre_finite_steps.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2) (hPre_groups_exist := hPre_groups_exist)
    ∧ quiescent_Kernel2Ideal (hKernel2Ideal := hKernel2Ideal) (hPre_groups_exist := hPre_groups_exist)
    ∧ quiescent_Reference2Ideal (hReference2Ideal := hReference2Ideal)
    ∧ quiescent_Reference2Ideal_pre_groups_exist (hReference2Ideal := hReference2Ideal) (hPre_groups_exist := hPre_groups_exist)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gates (hKernel5Ideal := hKernel5Ideal) (hPre_finite_gates := hPre_finite_gates)
    ∧ quiescent_Reference5Ideal (hReference5Ideal := hReference5Ideal)
    ∧ quiescent_Reference5Ideal_pre_finite_gates (hReference5Ideal := hReference5Ideal) (hPre_finite_gates := hPre_finite_gates)
    ∧ quiescent_Kernel6 (hKernel6 := hKernel6)
    ∧ quiescent_Kernel6Ideal (hKernel6Ideal := hKernel6Ideal)
    ∧ quiescent_Kernel6Ideal_pre_finite_steps (hKernel6Ideal := hKernel6Ideal) (hPre_finite_steps := hPre_finite_steps)
    ∧ quiescent_Reference6Ideal (hReference6Ideal := hReference6Ideal)
    ∧ quiescent_Reference6Ideal_pre_finite_steps (hReference6Ideal := hReference6Ideal) (hPre_finite_steps := hPre_finite_steps)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal) (hPre_groups_exist := hPre_groups_exist)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gates (hKernel5Ideal := hKernel5Ideal) (hReference5Ideal := hReference5Ideal) (hPre_finite_gates := hPre_finite_gates)
    ∧ preserves_Kernel6_Kernel6Ideal
    ∧ algebraic_Kernel6Ideal_Reference6Ideal_pre_finite_steps (hKernel6Ideal := hKernel6Ideal) (hReference6Ideal := hReference6Ideal) (hPre_finite_steps := hPre_finite_steps)
-- ==== Pre_finite_gates.lean ====
abbrev S32768x1024 : Shape := ⟨2, ![32768, 1024]⟩
abbrev S1024 : Shape := ⟨1, ![1024]⟩
abbrev S1024x7192 : Shape := ⟨2, ![1024, 7192]⟩
abbrev S_ : Shape := ⟨0, ![]⟩
abbrev S1024x8 : Shape := ⟨2, ![1024, 8]⟩
abbrev S1024x16 : Shape := ⟨2, ![1024, 16]⟩

class Facts : Prop where
  bcast_S_S1024 : S_.BroadcastsInDim S1024 (![] : Fin 0 → Fin S1024.rank)
  slices_S1024x7192_S1024x8_0_3072 : S1024x7192.Slices ![0, 3072] S1024x8
  bcast_S_S1024x8 : S_.BroadcastsInDim S1024x8 (![] : Fin 0 → Fin S1024x8.rank)
  slices_S1024x7192_S1024x16_0_7176 : S1024x7192.Slices ![0, 7176] S1024x16
  bcast_S_S1024x16 : S_.BroadcastsInDim S1024x16 (![] : Fin 0 → Fin S1024x16.rank)

variable [Facts]

def fn {F : FTy → Type} [FloatOps F] (main_arg0 : FVec F S32768x1024 .f32) (main_arg1 : FVec F S1024 .f32) (main_arg2 : FVec F S1024x7192 .f32) : IVec S1024 1 × IVec S1024x8 1 × IVec S1024x16 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x8 .f32 := (extractStridedSlice S1024x8 ![0, 3072] · slices_S1024x7192_S1024x8_0_3072) main_arg2
  let main_v4 : FVec F S1024x8 .f32 := Host.absf main_v3
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_v7 : FVec F S1024x16 .f32 := (extractStridedSlice S1024x16 ![0, 7176] · slices_S1024x7192_S1024x16_0_7176) main_arg2
  let main_v8 : FVec F S1024x16 .f32 := Host.absf main_v7
  let main_cst_1 : FVec F S_ .f32 := constant S_ .f32 0x7F800000#32
  let main_v9 : FVec F S1024x16 .f32 := broadcastInDim S1024x16 ![] bcast_S_S1024x16 main_cst_1
  let main_v10 : IVec S1024x16 1 := cmpf .olt main_v8 main_v9
  (main_v2, main_v6, main_v10)
-- ==== Pre_finite_inputs.lean ====
abbrev S32768x3072 : Shape := ⟨2, ![32768, 3072]⟩
abbrev S16x2048x16x64 : Shape := ⟨4, ![16, 2048, 16, 64]⟩
abbrev S32768x2048 : Shape := ⟨2, ![32768, 2048]⟩
abbrev S16x320 : Shape := ⟨2, ![16, 320]⟩
abbrev S_ : Shape := ⟨0, ![]⟩

class Facts : Prop where
  bcast_S_S16x2048x16x64 : S_.BroadcastsInDim S16x2048x16x64 (![] : Fin 0 → Fin S16x2048x16x64.rank)
  bcast_S_S16x320 : S_.BroadcastsInDim S16x320 (![] : Fin 0 → Fin S16x320.rank)

variable [Facts]

def fn {F : FTy → Type} [FloatOps F] (main_arg0 : FVec F S32768x3072 .f32) (main_arg1 : FVec F S16x2048x16x64 .f32) (main_arg2 : FVec F S16x2048x16x64 .f32) (main_arg3 : FVec F S16x2048x16x64 .f32) (main_arg4 : FVec F S32768x2048 .f32) (main_arg5 : FVec F S16x320 .f32) : IVec S16x2048x16x64 1 × IVec S16x2048x16x64 1 × IVec S16x320 1 :=
  let main_v0 : FVec F S16x2048x16x64 .f32 := Host.absf main_arg1
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_v3 : FVec F S16x2048x16x64 .f32 := Host.absf main_arg2
  let main_cst_0 : FVec F S_ .f32 := constant S_ .f32 0x7F800000#32
  let main_v4 : FVec F S16x2048x16x64 .f32 := broadcastInDim S16x2048x16x64 ![] bcast_S_S16x2048x16x64 main_cst_0
  let main_v5 : IVec S16x2048x16x64 1 := cmpf .olt main_v3 main_v4
  let main_v6 : FVec F S16x320 .f32 := Host.absf main_arg5
  let main_cst_1 : FVec F S_ .f32 := constant S_ .f32 0x7F800000#32
  let main_v7 : FVec F S16x320 .f32 := broadcastInDim S16x320 ![] bcast_S_S16x320 main_cst_1
  let main_v8 : IVec S16x320 1 := cmpf .olt main_v6 main_v7
  (main_v2, main_v5, main_v8)
-- ==== Pre_finite_steps.lean ====
abbrev S32768x1024 : Shape := ⟨2, ![32768, 1024]⟩
abbrev S1024 : Shape := ⟨1, ![1024]⟩
abbrev S1024x8224 : Shape := ⟨2, ![1024, 8224]⟩
abbrev S64 : Shape := ⟨1, ![64]⟩
abbrev S_ : Shape := ⟨0, ![]⟩
abbrev S1024x32 : Shape := ⟨2, ![1024, 32]⟩

class Facts : Prop where
  bcast_S_S1024 : S_.BroadcastsInDim S1024 (![] : Fin 0 → Fin S1024.rank)
  slices_S1024x8224_S1024x32_0_8192 : S1024x8224.Slices ![0, 8192] S1024x32
  bcast_S_S1024x32 : S_.BroadcastsInDim S1024x32 (![] : Fin 0 → Fin S1024x32.rank)

variable [Facts]

def fn {F : FTy → Type} [FloatOps F] (main_arg0 : FVec F S32768x1024 .f32) (main_arg1 : FVec F S1024 .f32) (main_arg2 : FVec F S1024x8224 .f32) (main_arg3 : FVec F S64 .f32) (main_arg4 : FVec F S64 .f32) : IVec S1024 1 × IVec S1024x32 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x32 .f32 := (extractStridedSlice S1024x32 ![0, 8192] · slices_S1024x8224_S1024x32_0_8192) main_arg2
  let main_v4 : FVec F S1024x32 .f32 := Host.absf main_v3
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  (main_v2, main_v6)
-- ==== Pre_groups_exist.lean ====
abbrev S68 : Shape := ⟨1, ![68]⟩
abbrev S1 : Shape := ⟨1, ![1]⟩
abbrev S34816x1152 : Shape := ⟨2, ![34816, 1152]⟩
abbrev S4x8x1024x256 : Shape := ⟨4, ![4, 8, 1024, 256]⟩
abbrev S4x8x256x1024 : Shape := ⟨4, ![4, 8, 256, 1024]⟩
abbrev S_ : Shape := ⟨0, ![]⟩

class Facts : Prop where
  bcast_S_S68 : S_.BroadcastsInDim S68 (![] : Fin 0 → Fin S68.rank)

variable [Facts]

def fn {F : FTy → Type} [FloatOps F] (main_arg0 : IVec S68 32) (main_arg1 : IVec S1 32) (main_arg2 : FVec F S34816x1152 .f32) (main_arg3 : FVec F S4x8x1024x256 .bf16) (main_arg4 : FVec F S4x8x1024x256 .bf16) (main_arg5 : FVec F S4x8x256x1024 .bf16) : IVec S68 1 × IVec S68 1 :=
  let main_c : IVec S_ 32 := constantI S_ 32 0#32
  let main_v0 : IVec S68 32 := broadcastInDim S68 ![] bcast_S_S68 main_c
  let main_v1 : IVec S68 1 := cmpi .sge main_arg0 main_v0
  let main_c_0 : IVec S_ 32 := constantI S_ 32 4#32
  let main_v2 : IVec S68 32 := broadcastInDim S68 ![] bcast_S_S68 main_c_0
  let main_v3 : IVec S68 1 := cmpi .slt main_arg0 main_v2
  (main_v1, main_v3)
-- ==== Kernel.lean ====
abbrev S32768x3072 : Shape := ⟨2, ![32768, 3072]⟩
abbrev S16x2048x16x64 : Shape := ⟨4, ![16, 2048, 16, 64]⟩
abbrev S32768x2048 : Shape := ⟨2, ![32768, 2048]⟩
abbrev S16x320 : Shape := ⟨2, ![16, 320]⟩
abbrev S32768x1024 : Shape := ⟨2, ![32768, 1024]⟩
abbrev S32768x8192 : Shape := ⟨2, ![32768, 8192]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S1x64x576 : Shape := ⟨3, ![1, 64, 576]⟩
abbrev S320 : Shape := ⟨1, ![320]⟩
abbrev S320x1x1 : Shape := ⟨3, ![320, 1, 1]⟩
abbrev S320x64x576 : Shape := ⟨3, ![320, 64, 576]⟩
abbrev S16x64x576 : Shape := ⟨3, ![16, 64, 576]⟩
abbrev S16x64x768 : Shape := ⟨3, ![16, 64, 768]⟩
abbrev S16x256x768 : Shape := ⟨3, ![16, 256, 768]⟩
abbrev S16x768x256 : Shape := ⟨3, ![16, 768, 256]⟩
abbrev S256x1024 : Shape := ⟨2, ![256, 1024]⟩
abbrev S1x128 : Shape := ⟨2, ![1, 128]⟩
abbrev S128x1 : Shape := ⟨2, ![128, 1]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S128x256 : Shape := ⟨2, ![128, 256]⟩

abbrev nBuf : Space → Nat
  | .hbm => 55
  | .vmem => 17
  | .smem => 0
  | _ => 0

abbrev bufTy : (tb : Table) → Fin (tcTables nBuf tb) → BufTy
  | .hbm, ⟨0, _⟩ => ⟨S32768x3072, .f32⟩
  | .hbm, ⟨1, _⟩ => ⟨S16x2048x16x64, .f32⟩
  | .hbm, ⟨2, _⟩ => ⟨S16x2048x16x64, .f32⟩
  | .hbm, ⟨3, _⟩ => ⟨S16x2048x16x64, .f32⟩
  | .hbm, ⟨4, _⟩ => ⟨S32768x2048, .f32⟩
  | .hbm, ⟨5, _⟩ => ⟨S16x320, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S32768x8192, .f32⟩
  | .hbm, ⟨10, _⟩ => ⟨S32768x8192, .bf16⟩
  | .hbm, ⟨11, _⟩ => ⟨S64, .i32⟩
  | .hbm, ⟨12, _⟩ => ⟨S64x1, .i32⟩
  | .hbm, ⟨13, _⟩ => ⟨S_, .i32⟩
  | .hbm, ⟨14, _⟩ => ⟨S64x1, .i32⟩
  | .hbm, ⟨15, _⟩ => ⟨S64x1, .i32⟩
  | .hbm, ⟨16, _⟩ => ⟨S576, .i32⟩
  | .hbm, ⟨17, _⟩ => ⟨S1x576, .i32⟩
  | .hbm, ⟨18, _⟩ => ⟨S64x576, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S1x64x576, .i32⟩
  | .hbm, ⟨33, _⟩ => ⟨S320, .i32⟩
  | .hbm, ⟨34, _⟩ => ⟨S320x1x1, .i32⟩
  | .hbm, ⟨35, _⟩ => ⟨S320x64x576, .i32⟩
  | .hbm, ⟨36, _⟩ => ⟨S320x64x576, .i32⟩
  | .hbm, ⟨37, _⟩ => ⟨S320x64x576, .i1⟩
  | .hbm, ⟨38, _⟩ => ⟨S320x64x576, .f32⟩
  | .hbm, ⟨39, _⟩ => ⟨S16x64x576, .f32⟩
  | .hbm, ⟨40, _⟩ => ⟨S_, .f32⟩
  | .hbm, ⟨41, _⟩ => ⟨S_, .f32⟩
  | .hbm, ⟨42, _⟩ => ⟨S16x64x768, .f32⟩
  | .hbm, ⟨43, _⟩ => ⟨S_, .f32⟩
  | .hbm, ⟨44, _⟩ => ⟨S_, .f32⟩
  | .hbm, ⟨45, _⟩ => ⟨S16x64x768, .f32⟩
  | .hbm, ⟨46, _⟩ => ⟨S_, .f32⟩
  | .hbm, ⟨47, _⟩ => ⟨S_, .f32⟩
  | .hbm, ⟨48, _⟩ => ⟨S16x64x768, .f32⟩
  | .hbm, ⟨49, _⟩ => ⟨S_, .f32⟩
  | .hbm, ⟨50, _⟩ => ⟨S_, .f32⟩
  | .hbm, ⟨51, _⟩ => ⟨S16x64x768, .f32⟩
  | .hbm, ⟨52, _⟩ => ⟨S16x256x768, .f32⟩
  | .hbm, ⟨53, _⟩ => ⟨S16x768x256, .f32⟩
  | .hbm, ⟨54, _⟩ => ⟨S32768x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S16x768x256, .f32⟩
  | .local _ .vmem, ⟨15, _⟩ => ⟨S256x1024, .bf16⟩
  | .local _ .vmem, ⟨16, _⟩ => ⟨S256x1024, .bf16⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_call1_v0 : Ref sig .tc := ⟨.hbm, 41, rfl⟩
abbrev main_v25 : Ref sig .tc := ⟨.hbm, 42, rfl⟩
abbrev main_cst_3 : Ref sig .tc := ⟨.hbm, 43, rfl⟩
abbrev main_call2_v0 : Ref sig .tc := ⟨.hbm, 44, rfl⟩
abbrev main_v26 : Ref sig .tc := ⟨.hbm, 45, rfl⟩
abbrev main_cst_4 : Ref sig .tc := ⟨.hbm, 46, rfl⟩
abbrev main_call3_v0 : Ref sig .tc := ⟨.hbm, 47, rfl⟩
abbrev main_v27 : Ref sig .tc := ⟨.hbm, 48, rfl⟩
abbrev main_cst_5 : Ref sig .tc := ⟨.hbm, 49, rfl⟩
abbrev main_call4_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c3_i32 : BitVec 32 := 3#32
  let c0_i32_1 : BitVec 32 := 0#32
  ![v3.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c4_i32 : BitVec 32 := 4#32
  let c0_i32_1 : BitVec 32 := 0#32
  ![v3.toNat, c4_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c5_i32 : BitVec 32 := 5#32
  let c0_i32_1 : BitVec 32 := 0#32
  ![v3.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x768x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S32768x3072 : Shape := ⟨2, ![32768, 3072]⟩
abbrev S16x2048x16x64 : Shape := ⟨4, ![16, 2048, 16, 64]⟩
abbrev S32768x2048 : Shape := ⟨2, ![32768, 2048]⟩
abbrev S16x320 : Shape := ⟨2, ![16, 320]⟩
abbrev S_ : Shape := ⟨0, ![]⟩
abbrev S16x2560x16x64 : Shape := ⟨4, ![16, 2560, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S32 : Shape := ⟨1, ![32]⟩
abbrev S32x1 : Shape := ⟨2, ![32, 1]⟩
abbrev S32x576 : Shape := ⟨2, ![32, 576]⟩
abbrev S16x32x64x16x64 : Shape := ⟨5, ![16, 32, 64, 16, 64]⟩
abbrev S32x576x1 : Shape := ⟨3, ![32, 576, 1]⟩
abbrev S16x32x576x16x64 : Shape := ⟨5, ![16, 32, 576, 16, 64]⟩
abbrev S16x32x16x64x576 : Shape := ⟨5, ![16, 32, 16, 64, 576]⟩
abbrev S1x1x16x64x576 : Shape := ⟨5, ![1, 1, 16, 64, 576]⟩
abbrev S32x1x1x576 : Shape := ⟨4, ![32, 1, 1, 576]⟩
abbrev S16x32x16x64 : Shape := ⟨4, ![16, 32, 16, 64]⟩
abbrev S16x32x16x64x1 : Shape := ⟨5, ![16, 32, 16, 64, 1]⟩
abbrev S16x32x16x64x64 : Shape := ⟨5, ![16, 32, 16, 64, 64]⟩
abbrev S32768x1024 : Shape := ⟨2, ![32768, 1024]⟩

abbrev nBuf : Space → Nat
  | .hbm => 105
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S16x2048x16x64, .f32⟩
  | .hbm, ⟨2, _⟩ => ⟨S16x2048x16x64, .f32⟩
  | .hbm, ⟨3, _⟩ => ⟨S16x2048x16x64, .f32⟩
  | .hbm, ⟨4, _⟩ => ⟨S32768x2048, .f32⟩
  | .hbm, ⟨5, _⟩ => ⟨S16x320, .f32⟩
  | .hbm, ⟨6, _⟩ => ⟨S_, .i32⟩
  | .hbm, ⟨7, _⟩ => ⟨S_, .f32⟩
  | .hbm, ⟨8, _⟩ => ⟨S16x2560x16x64, .f32⟩
  | .hbm, ⟨9, _⟩ => ⟨S_, .i32⟩
  | .hbm, ⟨10, _⟩ => ⟨S_, .f32⟩
  | .hbm, ⟨11, _⟩ => ⟨S16x2560x16x64, .f32⟩
  | .hbm, ⟨12, _⟩ => ⟨S64, .i32⟩
  | .hbm, ⟨13, _⟩ => ⟨S64x1, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S576, .i32⟩
  | .hbm, ⟨18, _⟩ => ⟨S1x576, .i32⟩
  | .hbm, ⟨19, _⟩ => ⟨S64x576, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S_, .i32⟩
  | .hbm, ⟨34, _⟩ => ⟨S64x576, .i32⟩
  | .hbm, ⟨35, _⟩ => ⟨S64x576, .i1⟩
  | .hbm, ⟨36, _⟩ => ⟨S_, .i32⟩
  | .hbm, ⟨37, _⟩ => ⟨S64x576, .i32⟩
  | .hbm, ⟨38, _⟩ => ⟨S64x576, .i32⟩
  | .hbm, ⟨39, _⟩ => ⟨S64x576, .i32⟩
  | .hbm, ⟨40, _⟩ => ⟨S64x576x1, .i32⟩
  | .hbm, ⟨41, _⟩ => ⟨S16x64x576, .f32⟩
  | .hbm, ⟨42, _⟩ => ⟨S32, .i32⟩
  | .hbm, ⟨43, _⟩ => ⟨S32x1, .i32⟩
  | .hbm, ⟨44, _⟩ => ⟨S_, .i32⟩
  | .hbm, ⟨45, _⟩ => ⟨S32x1, .i32⟩
  | .hbm, ⟨46, _⟩ => ⟨S32x1, .i32⟩
  | .hbm, ⟨47, _⟩ => ⟨S576, .i32⟩
  | .hbm, ⟨48, _⟩ => ⟨S1x576, .i32⟩
  | .hbm, ⟨49, _⟩ => ⟨S32x576, .i32⟩
  | .hbm, ⟨50, _⟩ => ⟨S32x576, .i32⟩
  | .hbm, ⟨51, _⟩ => ⟨S32x576, .i32⟩
  | .hbm, ⟨52, _⟩ => ⟨S16x32x64x16x64, .f32⟩
  | .hbm, ⟨53, _⟩ => ⟨S_, .i32⟩
  | .hbm, ⟨54, _⟩ => ⟨S32x576, .i32⟩
  | .hbm, ⟨55, _⟩ => ⟨S32x576, .i1⟩
  | .hbm, ⟨56, _⟩ => ⟨S_, .i32⟩
  | .hbm, ⟨57, _⟩ => ⟨S32x576, .i32⟩
  | .hbm, ⟨58, _⟩ => ⟨S32x576, .i32⟩
  | .hbm, ⟨59, _⟩ => ⟨S32x576, .i32⟩
  | .hbm, ⟨60, _⟩ => ⟨S32x576x1, .i32⟩
  | .hbm, ⟨61, _⟩ => ⟨S16x32x576x16x64, .f32⟩
  | .hbm, ⟨62, _⟩ => ⟨S_, .i32⟩
  | .hbm, ⟨63, _⟩ => ⟨S32x576, .i32⟩
  | .hbm, ⟨64, _⟩ => ⟨S32x576, .i1⟩
  | .hbm, ⟨65, _⟩ => ⟨S_, .i32⟩
  | .hbm, ⟨66, _⟩ => ⟨S32x576, .i32⟩
  | .hbm, ⟨67, _⟩ => ⟨S32x576, .i32⟩
  | .hbm, ⟨68, _⟩ => ⟨S32x576, .i32⟩
  | .hbm, ⟨69, _⟩ => ⟨S32x576x1, .i32⟩
  | .hbm, ⟨70, _⟩ => ⟨S16x32x576x16x64, .f32⟩
  | .hbm, ⟨71, _⟩ => ⟨S16x32x16x64x576, .f32⟩
  | .hbm, ⟨72, _⟩ => ⟨S1x1x16x64x576, .f32⟩
  | .hbm, ⟨73, _⟩ => ⟨S16x32x16x64x576, .f32⟩
  | .hbm, ⟨74, _⟩ => ⟨S16x32x16x64x576, .f32⟩
  | .hbm, ⟨75, _⟩ => ⟨S_, .i32⟩
  | .hbm, ⟨76, _⟩ => ⟨S32x576, .i32⟩
  | .hbm, ⟨77, _⟩ => ⟨S32x576, .i32⟩
  | .hbm, ⟨78, _⟩ => ⟨S_, .i32⟩
  | .hbm, ⟨79, _⟩ => ⟨S32x576, .i32⟩
  | .hbm, ⟨80, _⟩ => ⟨S32x576, .i1⟩
  | .hbm, ⟨81, _⟩ => ⟨S32x1x1x576, .i1⟩
  | .hbm, ⟨82, _⟩ => ⟨S_, .f32⟩
  | .hbm, ⟨83, _⟩ => ⟨S_, .f32⟩
  | .hbm, ⟨84, _⟩ => ⟨S16x32x16x64x576, .i1⟩
  | .hbm, ⟨85, _⟩ => ⟨S16x32x16x64x576, .f32⟩
  | .hbm, ⟨86, _⟩ => ⟨S16x32x16x64x576, .f32⟩
  | .hbm, ⟨87, _⟩ => ⟨S_, .f32⟩
  | .hbm, ⟨88, _⟩ => ⟨S16x32x16x64, .f32⟩
  | .hbm, ⟨89, _⟩ => ⟨S_, .f32⟩
  | .hbm, ⟨90, _⟩ => ⟨S16x32x16x64, .f32⟩
  | .hbm, ⟨91, _⟩ => ⟨S16x32x16x64, .f32⟩
  | .hbm, ⟨92, _⟩ => ⟨S16x32x16x64x1, .f32⟩
  | .hbm, ⟨93, _⟩ => ⟨S16x32x16x64x576, .f32⟩
  | .hbm, ⟨94, _⟩ => ⟨S16x32x16x64x576, .f32⟩
  | .hbm, ⟨95, _⟩ => ⟨S16x32x16x64x576, .f32⟩
  | .hbm, ⟨96, _⟩ => ⟨S_, .f32⟩
  | .hbm, ⟨97, _⟩ => ⟨S16x32x16x64, .f32⟩
  | .hbm, ⟨98, _⟩ => ⟨S16x32x16x64x1, .f32⟩
  | .hbm, ⟨99, _⟩ => ⟨S16x32x16x64x576, .f32⟩
  | .hbm, ⟨100, _⟩ => ⟨S16x32x16x64x576, .f32⟩
  | .hbm, ⟨101, _⟩ => ⟨S16x32x16x64x64, .f32⟩
  | .hbm, ⟨102, _⟩ => ⟨S16x32x64x16x64, .f32⟩
  | .hbm, ⟨103, _⟩ => ⟨S32768x1024, .f32⟩
  | .hbm, ⟨104, _⟩ => ⟨S32768x1024, .bf16⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_c_3 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_c_6 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_c_11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Kernel2.lean ====
abbrev S68 : Shape := ⟨1, ![68]⟩
abbrev S1 : Shape := ⟨1, ![1]⟩
abbrev S34816x1152 : Shape := ⟨2, ![34816, 1152]⟩
abbrev S4x8x1024x256 : Shape := ⟨4, ![4, 8, 1024, 256]⟩
abbrev S4x8x256x1024 : Shape := ⟨4, ![4, 8, 256, 1024]⟩
abbrev S34816x1024 : Shape := ⟨2, ![34816, 1024]⟩
abbrev S512x1152 : Shape := ⟨2, ![512, 1152]⟩
abbrev S1x8x1024x256 : Shape := ⟨4, ![1, 8, 1024, 256]⟩
abbrev S1x8x256x1024 : Shape := ⟨4, ![1, 8, 256, 1024]⟩
abbrev S512x1024 : Shape := ⟨2, ![512, 1024]⟩
abbrev S512x2048 : Shape := ⟨2, ![512, 2048]⟩
abbrev S512x128 : Shape := ⟨2, ![512, 128]⟩
abbrev S1x1x1024x256 : Shape := ⟨4, ![1, 1, 1024, 256]⟩
abbrev S1024x256 : Shape := ⟨2, ![1024, 256]⟩
abbrev S512x256 : Shape := ⟨2, ![512, 256]⟩
abbrev S512x1 : Shape := ⟨2, ![512, 1]⟩
abbrev S8x256x1024 : Shape := ⟨3, ![8, 256, 1024]⟩
abbrev S2048x1024 : Shape := ⟨2, ![2048, 1024]⟩

abbrev nBuf : Space → Nat
  | .hbm => 5
  | .vmem => 11
  | .smem => 2
  | _ => 0

abbrev bufTy : (tb : Table) → Fin (tcTables nBuf tb) → BufTy
  | .hbm, ⟨0, _⟩ => ⟨S34816x1152, .f32⟩
  | .hbm, ⟨1, _⟩ => ⟨S4x8x1024x256, .bf16⟩
  | .hbm, ⟨2, _⟩ => ⟨S4x8x1024x256, .bf16⟩
  | .hbm, ⟨3, _⟩ => ⟨S4x8x256x1024, .bf16⟩
  | .hbm, ⟨4, _⟩ => ⟨S34816x1024, .f32⟩
  | .local _ .vmem, ⟨0, _⟩ => ⟨S512x1152, .f32⟩
  | .local _ .vmem, ⟨1, _⟩ => ⟨S512x1152, .f32⟩
  | .local _ .vmem, ⟨2, _⟩ => ⟨S1x8x1024x256, .bf16⟩
  | .local _ .vmem, ⟨3, _⟩ => ⟨S1x8x1024x256, .bf16⟩
  | .local _ .vmem, ⟨4, _⟩ => ⟨S1x8x1024x256, .bf16⟩
  | .local _ .vmem, ⟨5, _⟩ => ⟨S1x8x1024x256, .bf16⟩
  | .local _ .vmem, ⟨6, _⟩ => ⟨S1x8x256x1024, .bf16⟩
  | .local _ .vmem, ⟨7, _⟩ => ⟨S1x8x256x1024, .bf16⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .smem, ⟨0, _⟩ => ⟨S68, .i32⟩
  | .local _ .smem, ⟨1, _⟩ => ⟨S1, .i32⟩
  | _, _ => ⟨S34816x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S68 : Shape := ⟨1, ![68]⟩
abbrev S1 : Shape := ⟨1, ![1]⟩
abbrev S34816x1152 : Shape := ⟨2, ![34816, 1152]⟩
abbrev S4x8x1024x256 : Shape := ⟨4, ![4, 8, 1024, 256]⟩
abbrev S4x8x256x1024 : Shape := ⟨4, ![4, 8, 256, 1024]⟩
abbrev S34816x1024 : Shape := ⟨2, ![34816, 1024]⟩
abbrev S34816x8 : Shape := ⟨2, ![34816, 8]⟩
abbrev S_ : Shape := ⟨0, ![]⟩
abbrev S68x1 : Shape := ⟨2, ![68, 1]⟩
abbrev S4 : Shape := ⟨1, ![4]⟩
abbrev S1x4 : Shape := ⟨2, ![1, 4]⟩
abbrev S68x4 : Shape := ⟨2, ![68, 4]⟩
abbrev S68x1x4x1 : Shape := ⟨4, ![68, 1, 4, 1]⟩
abbrev S68x512x1x8 : Shape := ⟨4, ![68, 512, 1, 8]⟩
abbrev S68x512x4x8 : Shape := ⟨4, ![68, 512, 4, 8]⟩
abbrev S34816x4x8 : Shape := ⟨3, ![34816, 4, 8]⟩
abbrev S1x8x1024x256 : Shape := ⟨4, ![1, 8, 1024, 256]⟩
abbrev S8x1024x256 : Shape := ⟨3, ![8, 1024, 256]⟩
abbrev S34816x8x256 : Shape := ⟨3, ![34816, 8, 256]⟩
abbrev S34816x1x8 : Shape := ⟨3, ![34816, 1, 8]⟩
abbrev S34816x8x1 : Shape := ⟨3, ![34816, 8, 1]⟩
abbrev S1x8x256x1024 : Shape := ⟨4, ![1, 8, 256, 1024]⟩
abbrev S8x256x1024 : Shape := ⟨3, ![8, 256, 1024]⟩

abbrev nBuf : Space → Nat
  | .hbm => 147
  | .vmem => 0
  | .smem => 0
  | _ => 0

abbrev hbmTy0_0 (i : Nat) : BufTy := match i % 128 with
  | 0 => ⟨S68, .i32⟩
  | 1 => ⟨S1, .i32⟩
  | 2 => ⟨S34816x1152, .f32⟩
  | 3 => ⟨S4x8x1024x256, .bf16⟩
  | 4 => ⟨S4x8x1024x256, .bf16⟩
  | 5 => ⟨S4x8x256x1024, .bf16⟩
  | 6 => ⟨S34816x1024, .f32⟩
  | 7 => ⟨S34816x8, .f32⟩
  | 8 => ⟨S68, .i32⟩
  | 9 => ⟨S_, .i32⟩
  | 10 => ⟨S68, .i32⟩
  | 11 => ⟨S68, .i1⟩
  | 12 => ⟨S68x1, .i1⟩
  | 13 => ⟨S68x1, .i32⟩
  | 14 => ⟨S4, .i32⟩
  | 15 => ⟨S1x4, .i32⟩
  | 16 => ⟨S68x4, .i32⟩
  | 17 => ⟨S68x4, .i32⟩
  | 18 => ⟨S68x4, .i1⟩
  | 19 => ⟨S68x4, .i1⟩
  | 20 => ⟨S68x4, .i1⟩
  | 21 => ⟨S_, .f32⟩
  | 22 => ⟨S_, .f32⟩
  | 23 => ⟨S68x4, .f32⟩
  | 24 => ⟨S68x4, .f32⟩
  | 25 => ⟨S68x4, .f32⟩
  | 26 => ⟨S68x1x4x1, .f32⟩
  | 27 => ⟨S68x512x1x8, .f32⟩
  | 28 => ⟨S68x1x4x1, .f32⟩
  | 29 => ⟨S68x512x4x8, .f32⟩
  | 30 => ⟨S68x512x4x8, .f32⟩
  | 31 => ⟨S68x512x4x8, .f32⟩
  | 32 => ⟨S34816x4x8, .f32⟩
  | 33 => ⟨S_, .f32⟩
  | 34 => ⟨S34816x1024, .f32⟩
  | 35 => ⟨S1x8x1024x256, .bf16⟩
  | 36 => ⟨S8x1024x256, .bf16⟩
  | 37 => ⟨S8x1024x256, .f32⟩
  | 38 => ⟨S34816x8x256, .f32⟩
  | 39 => ⟨S1x8x1024x256, .bf16⟩
  | 40 => ⟨S8x1024x256, .bf16⟩
  | 41 => ⟨S8x1024x256, .f32⟩
  | 42 => ⟨S34816x8x256, .f32⟩
  | 43 => ⟨S34816x8x256, .f32⟩
  | 44 => ⟨S34816x8x256, .f32⟩
  | 45 => ⟨S_, .f32⟩
  | 46 => ⟨S34816x8x256, .f32⟩
  | 47 => ⟨S34816x8x256, .f32⟩
  | 48 => ⟨S_, .f32⟩
  | 49 => ⟨S34816x8x256, .f32⟩
  | 50 => ⟨S34816x8x256, .f32⟩
  | 51 => ⟨S34816x8x256, .f32⟩
  | 52 => ⟨S34816x8x256, .f32⟩
  | 53 => ⟨S34816x1x8, .f32⟩
  | 54 => ⟨S34816x8, .f32⟩
  | 55 => ⟨S34816x8x1, .f32⟩
  | 56 => ⟨S34816x8x256, .f32⟩
  | 57 => ⟨S34816x8x256, .f32⟩
  | 58 => ⟨S1x8x256x1024, .bf16⟩
  | 59 => ⟨S8x256x1024, .bf16⟩
  | 60 => ⟨S8x256x1024, .f32⟩
  | 61 => ⟨S34816x1024, .f32⟩
  | 62 => ⟨S34816x1024, .f32⟩
  | 63 => ⟨S1x8x1024x256, .bf16⟩
  | 64 => ⟨S8x1024x256, .bf16⟩
  | 65 => ⟨S8x1024x256, .f32⟩
  | 66 => ⟨S34816x8x256, .f32⟩
  | 67 => ⟨S1x8x1024x256, .bf16⟩
  | 68 => ⟨S8x1024x256, .bf16⟩
  | 69 => ⟨S8x1024x256, .f32⟩
  | 70 => ⟨S34816x8x256, .f32⟩
  | 71 => ⟨S34816x8x256, .f32⟩
  | 72 => ⟨S34816x8x256, .f32⟩
  | 73 => ⟨S_, .f32⟩
  | 74 => ⟨S34816x8x256, .f32⟩
  | 75 => ⟨S34816x8x256, .f32⟩
  | 76 => ⟨S_, .f32⟩
  | 77 => ⟨S34816x8x256, .f32⟩
  | 78 => ⟨S34816x8x256, .f32⟩
  | 79 => ⟨S34816x8x256, .f32⟩
  | 80 => ⟨S34816x8x256, .f32⟩
  | 81 => ⟨S34816x1x8, .f32⟩
  | 82 => ⟨S34816x8, .f32⟩
  | 83 => ⟨S34816x8x1, .f32⟩
  | 84 => ⟨S34816x8x256, .f32⟩
  | 85 => ⟨S34816x8x256, .f32⟩
  | 86 => ⟨S1x8x256x1024, .bf16⟩
  | 87 => ⟨S8x256x1024, .bf16⟩
  | 88 => ⟨S8x256x1024, .f32⟩
  | 89 => ⟨S34816x1024, .f32⟩
  | 90 => ⟨S34816x1024, .f32⟩
  | 91 => ⟨S1x8x1024x256, .bf16⟩
  | 92 => ⟨S8x1024x256, .bf16⟩
  | 93 => ⟨S8x1024x256, .f32⟩
  | 94 => ⟨S34816x8x256, .f32⟩
  | 95 => ⟨S1x8x1024x256, .bf16⟩
  | 96 => ⟨S8x1024x256, .bf16⟩
  | 97 => ⟨S8x1024x256, .f32⟩
  | 98 => ⟨S34816x8x256, .f32⟩
  | 99 => ⟨S34816x8x256, .f32⟩
  | 100 => ⟨S34816x8x256, .f32⟩
  | 101 => ⟨S_, .f32⟩
  | 102 => ⟨S34816x8x256, .f32⟩
  | 103 => ⟨S34816x8x256, .f32⟩
  | 104 => ⟨S_, .f32⟩
  | 105 => ⟨S34816x8x256, .f32⟩
  | 106 => ⟨S34816x8x256, .f32⟩
  | 107 => ⟨S34816x8x256, .f32⟩
  | 108 => ⟨S34816x8x256, .f32⟩
  | 109 => ⟨S34816x1x8, .f32⟩
  | 110 => ⟨S34816x8, .f32⟩
  | 111 => ⟨S34816x8x1, .f32⟩
  | 112 => ⟨S34816x8x256, .f32⟩
  | 113 => ⟨S34816x8x256, .f32⟩
  | 114 => ⟨S1x8x256x1024, .bf16⟩
  | 115 => ⟨S8x256x1024, .bf16⟩
  | 116 => ⟨S8x256x1024, .f32⟩
  | 117 => ⟨S34816x1024, .f32⟩
  | 118 => ⟨S34816x1024, .f32⟩
  | 119 => ⟨S1x8x1024x256, .bf16⟩
  | 120 => ⟨S8x1024x256, .bf16⟩
  | 121 => ⟨S8x1024x256, .f32⟩
  | 122 => ⟨S34816x8x256, .f32⟩
  | 123 => ⟨S1x8x1024x256, .bf16⟩
  | 124 => ⟨S8x1024x256, .bf16⟩
  | 125 => ⟨S8x1024x256, .f32⟩
  | 126 => ⟨S34816x8x256, .f32⟩
  | 127 => ⟨S34816x8x256, .f32⟩
  | _ => ⟨S68, .i32⟩

abbrev hbmTy0_1 (i : Nat) : BufTy := match i % 128 with
  | 0 => ⟨S34816x8x256, .f32⟩
  | 1 => ⟨S_, .f32⟩
  | 2 => ⟨S34816x8x256, .f32⟩
  | 3 => ⟨S34816x8x256, .f32⟩
  | 4 => ⟨S_, .f32⟩
  | 5 => ⟨S34816x8x256, .f32⟩
  | 6 => ⟨S34816x8x256, .f32⟩
  | 7 => ⟨S34816x8x256, .f32⟩
  | 8 => ⟨S34816x8x256, .f32⟩
  | 9 => ⟨S34816x1x8, .f32⟩
  | 10 => ⟨S34816x8, .f32⟩
  | 11 => ⟨S34816x8x1, .f32⟩
  | 12 => ⟨S34816x8x256, .f32⟩
  | 13 => ⟨S34816x8x256, .f32⟩
  | 14 => ⟨S1x8x256x1024, .bf16⟩
  | 15 => ⟨S8x256x1024, .bf16⟩
  | 16 => ⟨S8x256x1024, .f32⟩
  | 17 => ⟨S34816x1024, .f32⟩
  | 18 => ⟨S34816x1024, .f32⟩
  | _ => ⟨S68, .i32⟩

abbrev hbmTy (i : Nat) : BufTy := match i / 128 with
  | 0 => hbmTy0_0 i
  | 1 => hbmTy0_1 i
  | _ => ⟨S68, .i32⟩

abbrev bufTy : (tb : Table) → Fin (tcTables nBuf tb) → BufTy
  | .hbm, ⟨i, _⟩ => hbmTy i
  | _, _ => ⟨S68, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call2_v0 : Ref sig .tc := ⟨.hbm, 71, rfl⟩
abbrev main_call2_v1 : Ref sig .tc := ⟨.hbm, 72, rfl⟩
abbrev main_call2_cst : Ref sig .tc := ⟨.hbm, 73, rfl⟩
abbrev main_call2_v2 : Ref sig .tc := ⟨.hbm, 74, rfl⟩
abbrev main_call2_v3 : Ref sig .tc := ⟨.hbm, 75, rfl⟩
abbrev main_call2_cst_0 : Ref sig .tc := ⟨.hbm, 76, rfl⟩
abbrev main_call2_v4 : Ref sig .tc := ⟨.hbm, 77, rfl⟩
abbrev main_call2_v5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call4_v0 : Ref sig .tc := ⟨.hbm, 127, rfl⟩
abbrev main_call4_v1 : Ref sig .tc := ⟨.hbm, 128, rfl⟩
abbrev main_call4_cst : Ref sig .tc := ⟨.hbm, 129, rfl⟩
abbrev main_call4_v2 : Ref sig .tc := ⟨.hbm, 130, rfl⟩
abbrev main_call4_v3 : Ref sig .tc := ⟨.hbm, 131, rfl⟩
abbrev main_call4_cst_0 : Ref sig .tc := ⟨.hbm, 132, rfl⟩
abbrev main_call4_v4 : Ref sig .tc := ⟨.hbm, 133, rfl⟩
abbrev main_call4_v5 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]
-- ==== Kernel3.lean ====
abbrev S32768x1024 : Shape := ⟨2, ![32768, 1024]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S2048x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S2048x1024 : Shape := ⟨2, ![2048, 1024]⟩
abbrev S32768x2048 : Shape := ⟨2, ![32768, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S2048x1024, .f32⟩
  | .hbm, ⟨4, _⟩ => ⟨S32768x2048, .bf16⟩
  | .hbm, ⟨5, _⟩ => ⟨S32768x2048, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S32768x1024 : Shape := ⟨2, ![32768, 1024]⟩
abbrev S32768x2048 : Shape := ⟨2, ![32768, 2048]⟩
abbrev S3072x1024 : Shape := ⟨2, ![3072, 1024]⟩
abbrev S1024x1024 : Shape := ⟨2, ![1024, 1024]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S3072x1024, .f32⟩
  | .hbm, ⟨4, _⟩ => ⟨S1024x1024, .f32⟩
  | .hbm, ⟨5, _⟩ => ⟨S1024x1024, .bf16⟩
  | .hbm, ⟨6, _⟩ => ⟨S2048x1024, .f32⟩
  | .hbm, ⟨7, _⟩ => ⟨S2048x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1024x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x1024 : Shape := ⟨2, ![32768, 1024]⟩
abbrev S32768x2048 : Shape := ⟨2, ![32768, 2048]⟩
abbrev S3072x1024 : Shape := ⟨2, ![3072, 1024]⟩
abbrev S32768x3072 : Shape := ⟨2, ![32768, 3072]⟩

abbrev nBuf : Space → Nat
  | .hbm => 8
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S3072x1024, .f32⟩
  | .hbm, ⟨4, _⟩ => ⟨S32768x3072, .bf16⟩
  | .hbm, ⟨5, _⟩ => ⟨S32768x3072, .f32⟩
  | .hbm, ⟨6, _⟩ => ⟨S32768x1024, .f32⟩
  | .hbm, ⟨7, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1024x7192 : Shape := ⟨2, ![1024, 7192]⟩
abbrev S1024x3072 : Shape := ⟨2, ![1024, 3072]⟩
abbrev S1024x4096 : Shape := ⟨2, ![1024, 4096]⟩
abbrev S1024x7168 : Shape := ⟨2, ![1024, 7168]⟩
abbrev S_ : Shape := ⟨0, ![]⟩
abbrev S1024x128 : Shape := ⟨2, ![1024, 128]⟩
abbrev S1024x4 : Shape := ⟨2, ![1024, 4]⟩
abbrev S1024x8 : Shape := ⟨2, ![1024, 8]⟩
abbrev S1024x256 : Shape := ⟨2, ![1024, 256]⟩
abbrev S1x7168 : Shape := ⟨2, ![1, 7168]⟩
abbrev S1x1024 : Shape := ⟨2, ![1, 1024]⟩
abbrev S32768x7168 : Shape := ⟨2, ![32768, 7168]⟩
abbrev S32768x128 : Shape := ⟨2, ![32768, 128]⟩
abbrev S1024x1024 : Shape := ⟨2, ![1024, 1024]⟩
abbrev S1024x1792 : Shape := ⟨2, ![1024, 1792]⟩
abbrev S1x1792 : Shape := ⟨2, ![1, 1792]⟩
abbrev S1024x1 : Shape := ⟨2, ![1024, 1]⟩

abbrev nBuf : Space → Nat
  | .hbm => 35
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7192, .f32⟩
  | .hbm, ⟨3, _⟩ => ⟨S1024x3072, .f32⟩
  | .hbm, ⟨4, _⟩ => ⟨S1024x4096, .f32⟩
  | .hbm, ⟨5, _⟩ => ⟨S1024x7168, .f32⟩
  | .hbm, ⟨6, _⟩ => ⟨S1024x7168, .bf16⟩
  | .hbm, ⟨7, _⟩ => ⟨S_, .f32⟩
  | .hbm, ⟨8, _⟩ => ⟨S1024x128, .f32⟩
  | .hbm, ⟨9, _⟩ => ⟨S1024x4, .f32⟩
  | .hbm, ⟨10, _⟩ => ⟨S_, .i32⟩
  | .hbm, ⟨11, _⟩ => ⟨S_, .i32⟩
  | .hbm, ⟨12, _⟩ => ⟨S1024x128, .f32⟩
  | .hbm, ⟨13, _⟩ => ⟨S1024x4, .f32⟩
  | .hbm, ⟨14, _⟩ => ⟨S_, .i32⟩
  | .hbm, ⟨15, _⟩ => ⟨S_, .i32⟩
  | .hbm, ⟨16, _⟩ => ⟨S1024x128, .f32⟩
  | .hbm, ⟨17, _⟩ => ⟨S1024x8, .f32⟩
  | .hbm, ⟨18, _⟩ => ⟨S_, .i32⟩
  | .hbm, ⟨19, _⟩ => ⟨S_, .i32⟩
  | .hbm, ⟨20, _⟩ => ⟨S1024x128, .f32⟩
  | .hbm, ⟨21, _⟩ => ⟨S1024x8, .f32⟩
  | .hbm, ⟨22, _⟩ => ⟨S_, .i32⟩
  | .hbm, ⟨23, _⟩ => ⟨S_, .i32⟩
  | .hbm, ⟨24, _⟩ => ⟨S1024x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x256, .bf16⟩
  | .hbm, ⟨30, _⟩ => ⟨S_, .f32⟩
  | .hbm, ⟨31, _⟩ => ⟨S1x7168, .f32⟩
  | .hbm, ⟨32, _⟩ => ⟨S1x1024, .f32⟩
  | .hbm, ⟨33, _⟩ => ⟨S32768x7168, .bf16⟩
  | .hbm, ⟨34, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1792, .bf16⟩
  | .local _ .vmem, ⟨5, _⟩ => ⟨S1024x256, .bf16⟩
  | .local _ .vmem, ⟨6, _⟩ => ⟨S1x1792, .f32⟩
  | .local _ .vmem, ⟨7, _⟩ => ⟨S1x1792, .f32⟩
  | .local _ .vmem, ⟨8, _⟩ => ⟨S1024x1792, .bf16⟩
  | .local _ .vmem, ⟨9, _⟩ => ⟨S1024x1792, .bf16⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_c_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S32768x1024 : Shape := ⟨2, ![32768, 1024]⟩
abbrev S1024 : Shape := ⟨1, ![1024]⟩
abbrev S1024x7192 : Shape := ⟨2, ![1024, 7192]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7192 : Shape := ⟨2, ![32768, 7192]⟩
abbrev S32768x3072 : Shape := ⟨2, ![32768, 3072]⟩
abbrev S32768x4096 : Shape := ⟨2, ![32768, 4096]⟩
abbrev S32768x7168 : Shape := ⟨2, ![32768, 7168]⟩
abbrev S32768x8 : Shape := ⟨2, ![32768, 8]⟩
abbrev S32768x16 : Shape := ⟨2, ![32768, 16]⟩
abbrev S32768x96 : Shape := ⟨2, ![32768, 96]⟩
abbrev S32768x128 : Shape := ⟨2, ![32768, 128]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7192, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x7192, .f32⟩
  | .hbm, ⟨20, _⟩ => ⟨S32768x3072, .f32⟩
  | .hbm, ⟨21, _⟩ => ⟨S32768x4096, .f32⟩
  | .hbm, ⟨22, _⟩ => ⟨S32768x7168, .f32⟩
  | .hbm, ⟨23, _⟩ => ⟨S32768x8, .f32⟩
  | .hbm, ⟨24, _⟩ => ⟨S_, .f32⟩
  | .hbm, ⟨25, _⟩ => ⟨S32768x8, .f32⟩
  | .hbm, ⟨26, _⟩ => ⟨S32768x16, .f32⟩
  | .hbm, ⟨27, _⟩ => ⟨S_, .f32⟩
  | .hbm, ⟨28, _⟩ => ⟨S32768x96, .f32⟩
  | .hbm, ⟨29, _⟩ => ⟨S32768x128, .f32⟩
  | .hbm, ⟨30, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S32768x1024 : Shape := ⟨2, ![32768, 1024]⟩
abbrev S1024 : Shape := ⟨1, ![1024]⟩
abbrev S1024x8224 : Shape := ⟨2, ![1024, 8224]⟩
abbrev S64 : Shape := ⟨1, ![64]⟩
abbrev S1024x3072 : Shape := ⟨2, ![1024, 3072]⟩
abbrev S1024x2048 : Shape := ⟨2, ![1024, 2048]⟩
abbrev S1024x8192 : Shape := ⟨2, ![1024, 8192]⟩
abbrev S1024x32 : Shape := ⟨2, ![1024, 32]⟩
abbrev S1024x16 : Shape := ⟨2, ![1024, 16]⟩
abbrev S1024x64 : Shape := ⟨2, ![1024, 64]⟩
abbrev S_ : Shape := ⟨0, ![]⟩
abbrev S1024x128 : Shape := ⟨2, ![1024, 128]⟩
abbrev S1x8192 : Shape := ⟨2, ![1, 8192]⟩
abbrev S1x64 : Shape := ⟨2, ![1, 64]⟩
abbrev S16x64 : Shape := ⟨2, ![16, 64]⟩
abbrev S1x1024 : Shape := ⟨2, ![1, 1024]⟩
abbrev S1024x256 : Shape := ⟨2, ![1024, 256]⟩
abbrev S32768x8192 : Shape := ⟨2, ![32768, 8192]⟩
abbrev S32768x128 : Shape := ⟨2, ![32768, 128]⟩
abbrev S1024x1024 : Shape := ⟨2, ![1024, 1024]⟩
abbrev S1024x1 : Shape := ⟨2, ![1024, 1]⟩
abbrev S128x128 : Shape := ⟨2, ![128, 128]⟩
abbrev S1x128 : Shape := ⟨2, ![1, 128]⟩

abbrev nBuf : Space → Nat
  | .hbm => 47
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8224, .f32⟩
  | .hbm, ⟨3, _⟩ => ⟨S64, .f32⟩
  | .hbm, ⟨4, _⟩ => ⟨S64, .f32⟩
  | .hbm, ⟨5, _⟩ => ⟨S1024x3072, .f32⟩
  | .hbm, ⟨6, _⟩ => ⟨S1024x3072, .f32⟩
  | .hbm, ⟨7, _⟩ => ⟨S1024x2048, .f32⟩
  | .hbm, ⟨8, _⟩ => ⟨S1024x8192, .f32⟩
  | .hbm, ⟨9, _⟩ => ⟨S1024x8192, .bf16⟩
  | .hbm, ⟨10, _⟩ => ⟨S1024x32, .f32⟩
  | .hbm, ⟨11, _⟩ => ⟨S1024x16, .f32⟩
  | .hbm, ⟨12, _⟩ => ⟨S1024x16, .f32⟩
  | .hbm, ⟨13, _⟩ => ⟨S1024x32, .f32⟩
  | .hbm, ⟨14, _⟩ => ⟨S1024x64, .f32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .i32⟩
  | .hbm, ⟨19, _⟩ => ⟨S1024x128, .f32⟩
  | .hbm, ⟨20, _⟩ => ⟨S_, .f32⟩
  | .hbm, ⟨21, _⟩ => ⟨S1x8192, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S16x64, .f32⟩
  | .hbm, ⟨27, _⟩ => ⟨S1024, .f32⟩
  | .hbm, ⟨28, _⟩ => ⟨S1x1024, .f32⟩
  | .hbm, ⟨29, _⟩ => ⟨S_, .i32⟩
  | .hbm, ⟨30, _⟩ => ⟨S_, .i32⟩
  | .hbm, ⟨31, _⟩ => ⟨S1x8192, .f32⟩
  | .hbm, ⟨32, _⟩ => ⟨S1x64, .f32⟩
  | .hbm, ⟨33, _⟩ => ⟨S16x64, .f32⟩
  | .hbm, ⟨34, _⟩ => ⟨S1024, .f32⟩
  | .hbm, ⟨35, _⟩ => ⟨S1x1024, .f32⟩
  | .hbm, ⟨36, _⟩ => ⟨S_, .i32⟩
  | .hbm, ⟨37, _⟩ => ⟨S_, .i32⟩
  | .hbm, ⟨38, _⟩ => ⟨S1x8192, .f32⟩
  | .hbm, ⟨39, _⟩ => ⟨S1024x128, .bf16⟩
  | .hbm, ⟨40, _⟩ => ⟨S1024x128, .f32⟩
  | .hbm, ⟨41, _⟩ => ⟨S1024x128, .f32⟩
  | .hbm, ⟨42, _⟩ => ⟨S1024x128, .bf16⟩
  | .hbm, ⟨43, _⟩ => ⟨S1024x256, .bf16⟩
  | .hbm, ⟨44, _⟩ => ⟨S1x1024, .f32⟩
  | .hbm, ⟨45, _⟩ => ⟨S32768x8192, .bf16⟩
  | .hbm, ⟨46, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x256, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_c_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v9 : BitVec 1 := Scalar.ori v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v9 : BitVec 1 := Scalar.ori v7 v8
  let v_true : BitVec 1 := 1#1
  let v12 : BitVec 1 := Scalar.xori v9 v_true
  let v13 : BitVec 32 := Scalar.extui v12
  let c0_i32_5 : BitVec 32 := 0#32
  let v14 : BitVec 1 := Scalar.cmpi .ne v13 c0_i32_5
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S32768x1024 : Shape := ⟨2, ![32768, 1024]⟩
abbrev S1024 : Shape := ⟨1, ![1024]⟩
abbrev S1024x8224 : Shape := ⟨2, ![1024, 8224]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8224 : Shape := ⟨2, ![32768, 8224]⟩
abbrev S32768x16x64 : Shape := ⟨3, ![32768, 16, 64]⟩
abbrev S32768x16 : Shape := ⟨2, ![32768, 16]⟩
abbrev S32768x16x1 : Shape := ⟨3, ![32768, 16, 1]⟩
abbrev S1x1x64 : Shape := ⟨3, ![1, 1, 64]⟩
abbrev S32768x3072 : Shape := ⟨2, ![32768, 3072]⟩
abbrev S32768x8192 : Shape := ⟨2, ![32768, 8192]⟩
abbrev S32768x32 : Shape := ⟨2, ![32768, 32]⟩
abbrev S32768x64 : Shape := ⟨2, ![32768, 64]⟩
abbrev S32768x128 : Shape := ⟨2, ![32768, 128]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8224, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x8224, .f32⟩
  | .hbm, ⟨22, _⟩ => ⟨S32768x1024, .f32⟩
  | .hbm, ⟨23, _⟩ => ⟨S32768x16x64, .f32⟩
  | .hbm, ⟨24, _⟩ => ⟨S32768x16x64, .f32⟩
  | .hbm, ⟨25, _⟩ => ⟨S_, .f32⟩
  | .hbm, ⟨26, _⟩ => ⟨S32768x16, .f32⟩
  | .hbm, ⟨27, _⟩ => ⟨S32768x16x1, .f32⟩
  | .hbm, ⟨28, _⟩ => ⟨S_, .f32⟩
  | .hbm, ⟨29, _⟩ => ⟨S32768x16x1, .f32⟩
  | .hbm, ⟨30, _⟩ => ⟨S32768x16x1, .f32⟩
  | .hbm, ⟨31, _⟩ => ⟨S_, .f32⟩
  | .hbm, ⟨32, _⟩ => ⟨S32768x16x1, .f32⟩
  | .hbm, ⟨33, _⟩ => ⟨S32768x16x1, .f32⟩
  | .hbm, ⟨34, _⟩ => ⟨S32768x16x1, .f32⟩
  | .hbm, ⟨35, _⟩ => ⟨S32768x16x64, .f32⟩
  | .hbm, ⟨36, _⟩ => ⟨S32768x16x64, .f32⟩
  | .hbm, ⟨37, _⟩ => ⟨S1x1x64, .f32⟩
  | .hbm, ⟨38, _⟩ => ⟨S32768x16x64, .f32⟩
  | .hbm, ⟨39, _⟩ => ⟨S32768x16x64, .f32⟩
  | .hbm, ⟨40, _⟩ => ⟨S_, .f32⟩
  | .hbm, ⟨41, _⟩ => ⟨S32768x16x64, .f32⟩
  | .hbm, ⟨42, _⟩ => ⟨S32768x16x64, .f32⟩
  | .hbm, ⟨43, _⟩ => ⟨S32768x1024, .f32⟩
  | .hbm, ⟨44, _⟩ => ⟨S32768x16x64, .f32⟩
  | .hbm, ⟨45, _⟩ => ⟨S32768x16x64, .f32⟩
  | .hbm, ⟨46, _⟩ => ⟨S_, .f32⟩
  | .hbm, ⟨47, _⟩ => ⟨S32768x16, .f32⟩
  | .hbm, ⟨48, _⟩ => ⟨S32768x16x1, .f32⟩
  | .hbm, ⟨49, _⟩ => ⟨S_, .f32⟩
  | .hbm, ⟨50, _⟩ => ⟨S32768x16x1, .f32⟩
  | .hbm, ⟨51, _⟩ => ⟨S32768x16x1, .f32⟩
  | .hbm, ⟨52, _⟩ => ⟨S_, .f32⟩
  | .hbm, ⟨53, _⟩ => ⟨S32768x16x1, .f32⟩
  | .hbm, ⟨54, _⟩ => ⟨S32768x16x1, .f32⟩
  | .hbm, ⟨55, _⟩ => ⟨S32768x16x1, .f32⟩
  | .hbm, ⟨56, _⟩ => ⟨S32768x16x64, .f32⟩
  | .hbm, ⟨57, _⟩ => ⟨S32768x16x64, .f32⟩
  | .hbm, ⟨58, _⟩ => ⟨S1x1x64, .f32⟩
  | .hbm, ⟨59, _⟩ => ⟨S32768x16x64, .f32⟩
  | .hbm, ⟨60, _⟩ => ⟨S32768x16x64, .f32⟩
  | .hbm, ⟨61, _⟩ => ⟨S32768x3072, .f32⟩
  | .hbm, ⟨62, _⟩ => ⟨S32768x1024, .f32⟩
  | .hbm, ⟨63, _⟩ => ⟨S32768x1024, .f32⟩
  | .hbm, ⟨64, _⟩ => ⟨S32768x3072, .f32⟩
  | .hbm, ⟨65, _⟩ => ⟨S32768x8192, .f32⟩
  | .hbm, ⟨66, _⟩ => ⟨S32768x32, .f32⟩
  | .hbm, ⟨67, _⟩ => ⟨S32768x16, .f32⟩
  | .hbm, ⟨68, _⟩ => ⟨S32768x16, .f32⟩
  | .hbm, ⟨69, _⟩ => ⟨S32768x32, .f32⟩
  | .hbm, ⟨70, _⟩ => ⟨S_, .f32⟩
  | .hbm, ⟨71, _⟩ => ⟨S32768x64, .f32⟩
  | .hbm, ⟨72, _⟩ => ⟨S32768x128, .f32⟩
  | .hbm, ⟨73, _⟩ => ⟨S32768x8192, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Proof.Head.lean ====
module

public import proofs.«01_k».proof.Proof.Gen.KernelIdeal.Frame
public import Idealize.ShloMosaic.Lib.Pointwise

@[expose] public section

set_option maxRecDepth 16384

noncomputable section

namespace Cert.KernelIdeal.Band

open Cert.KernelIdeal Cert.KernelIdeal.Gen Idealize.ShloMosaic Idealize.ShloMosaic.TcCoe Idealize.SL.Sem
open Facts

variable {F : FTy → Type} [FloatOps F]

/-! ## The body of the attention call, stated once for a pair of heads

Eight stores each write the 128 lanes of two heads; every one is `pairBlock` of the same loads at other lanes. -/

/-- The lanes of the first head of a pair. -/
def loHalf : IVec S1x128 1 := cmpi .slt (iota .tc S1x128 32 [1] iota_S1x128_d1_w32) (broadcast S1x128 64#32)

/-- The lanes of the second head of a pair. -/
def hiHalf : IVec S1x128 1 := xori loHalf (constantI S1x128 1 1#1)

/-- The rows of the first head in the transposed result. -/
def loRows : IVec S128x1 1 := cmpi .slt (iota .tc S128x1 32 [0] iota_S128x1_d0_w32) (broadcast S128x1 64#32)

/-- A tile on its own head's lanes, the constant `c` on the other head's. -/
def ownLanes (own : IVec S1x128 1) (x : FVec F S256x128 .bf16) (c : BitVec 16) : FVec F S256x128 .bf16 :=
  select (broadcastTo S256x128 (shapeCast S1x128 own shapeCasts_S1x128_S1x128) broadcasts_S1x128_S256x128)
    (shapeCast S256x128 x shapeCasts_S256x128_S256x128) (broadcast S256x128 (Scalar.ofBits .bf16 c))

/-- Scores of one key tile: rows are keys, columns queries; the bias tile is added. -/
def scoreTile (own : IVec S1x128 1) (q k : FVec F S256x128 .bf16) (b : FVec F S1x256x256 .f32) : FVec F S256x256 .f32 :=
  addf (matmul dot_S256x128_S256x128_S256x256_1_1_0_0_n_n none (shapeCast S256x128 k shapeCasts_S256x128_S256x128)
    (ownLanes own q 0x0000#16) (constant S256x256 .f32 0x00000000#32))
    (shapeCast S256x256 b shapeCasts_S1x256x256_S256x256)

/-- Scores of a tile that exists only from the `n`-th tile of the sequence on. -/
def fromTile (i n : BitVec 32) (s : FVec F S256x256 .f32) : FVec F S256x256 .f32 :=
  Scalar.select (Scalar.cmpi .sge i n) s (broadcast S256x256 (Scalar.ofBits .f32 0xFF800000#32))

/-- The largest score of each query. -/
def colMax (s : FVec F S256x256 .f32) : FVec F S1x256 .f32 :=
  shapeCast S1x256 (multiReduction .maximumf [0] S256 s 0xFF800000#32 reduces_S256x256_S256 (.inl rfl) rfl) shapeCasts_S256_S1x256

/-- A tile's part of the product of values (and of ones, on the other head's lanes) with the weights. -/
def valueTile (own : IVec S1x128 1) (v : FVec F S256x128 .bf16) (s : FVec F S256x256 .f32) (m : FVec F S1x256 .f32) :
    FVec F S128x256 .f32 :=
  matmul dot_S256x128_S256x256_S128x256_0_0_1_1_n_n none (ownLanes own v 0x3F80#16)
    (exp (truncf .bf16 (subf s (broadcastTo S256x256 m broadcasts_S1x256_S256x256)) bitsLt_bf16_f32))
    (constant S128x256 .f32 0x00000000#32)

/-- Values weighted and summed over the three tiles; the other head's lanes hold the sum of the weights. -/
def weighted (own : IVec S1x128 1) (v0 v1 v2 : FVec F S256x128 .bf16) (s0 s1 s2 : FVec F S256x256 .f32) :
    FVec F S128x256 .f32 :=
  addf (addf (valueTile own v0 s0 (maximumf (maximumf (colMax s0) (colMax s1)) (colMax s2)))
    (valueTile own v1 s1 (maximumf (maximumf (colMax s0) (colMax s1)) (colMax s2))))
    (valueTile own v2 s2 (maximumf (maximumf (colMax s0) (colMax s1)) (colMax s2)))

/-- The sums divided by what lies 64 lanes away: on the head's own lanes, by the sum of its weights. -/
def normalized (o : FVec F S128x256 .f32) : FVec F S128x256 .f32 :=
  divf o (dynamicRotate 0 64#32 none o rotates_S128x256_d0)

/-- One head: scores of the three tiles, softmax and weighted values. -/
def headBlock (own : IVec S1x128 1) (i : BitVec 32) (q k0 k1 k2 v0 v1 v2 : FVec F S256x128 .bf16)
    (b0 b1 b2 : FVec F S1x256x256 .f32) : FVec F S128x256 .f32 :=
  normalized (weighted own v0 v1 v2 (fromTile i 2#32 (scoreTile own q k0 b0)) (fromTile i 1#32 (scoreTile own q k1 b1))
    (scoreTile own q k2 b2))

/-- Two heads side by side, queries as rows. -/
def pairBlock (i : BitVec 32) (q k0 k1 k2 v0 v1 v2 : FVec F S256x128 .bf16)
    (b0 b1 b2 b3 b4 b5 : FVec F S1x256x256 .f32) : FVec F S256x128 .bf16 :=
  truncf .bf16 (transpose S256x128 [1, 0]
    (select (broadcastTo S128x256 (shapeCast S128x1 loRows shapeCasts_S128x1_S128x1) broadcasts_S128x1_S128x256)
      (headBlock loHalf i q k0 k1 k2 v0 v1 v2 b0 b1 b2) (headBlock hiHalf i q k0 k1 k2 v0 v1 v2 b3 b4 b5))
    transposes_S128x256_p1_0_S256x128) bitsLt_bf16_f32

/-- What a grid point leaves in its output block: eight stores of `pairBlock`. -/
theorem out_pieces (i : grid0.Coords) (x0 x1 x2 x3 x4 x5 x6 : Vec F S256x1024 .bf16) (x7 : Vec F S16x768x256 .f32) :
    out0_8 i x0 x1 x2 x3 x4 x5 x6 x7 = View.canon [
      ⟨r0_49, pairBlock (BitVec.ofNat 32 (i 1).val) (View.ld x0 r0_49) (View.ld x1 r0_49) (View.ld x2 r0_49) (View.ld x3 r0_49) (View.ld x4 r0_49) (View.ld x5 r0_49) (View.ld x6 r0_49) (View.ld x7 r0_50) (View.ld x7 r0_51) (View.ld x7 r0_52) (View.ld x7 r0_53) (View.ld x7 r0_54) (View.ld x7 r0_55)⟩,
      ⟨r0_42, pairBlock (BitVec.ofNat 32 (i 1).val) (View.ld x0 r0_42) (View.ld x1 r0_42) (View.ld x2 r0_42) (View.ld x3 r0_42) (View.ld x4 r0_42) (View.ld x5 r0_42) (View.ld x6 r0_42) (View.ld x7 r0_43) (View.ld x7 r0_44) (View.ld x7 r0_45) (View.ld x7 r0_46) (View.ld x7 r0_47) (View.ld x7 r0_48)⟩,
      ⟨r0_35, pairBlock (BitVec.ofNat 32 (i 1).val) (View.ld x0 r0_35) (View.ld x1 r0_35) (View.ld x2 r0_35) (View.ld x3 r0_35) (View.ld x4 r0_35) (View.ld x5 r0_35) (View.ld x6 r0_35) (View.ld x7 r0_36) (View.ld x7 r0_37) (View.ld x7 r0_38) (View.ld x7 r0_39) (View.ld x7 r0_40) (View.ld x7 r0_41)⟩,
      ⟨r0_28, pairBlock (BitVec.ofNat 32 (i 1).val) (View.ld x0 r0_28) (View.ld x1 r0_28) (View.ld x2 r0_28) (View.ld x3 r0_28) (View.ld x4 r0_28) (View.ld x5 r0_28) (View.ld x6 r0_28) (View.ld x7 r0_29) (View.ld x7 r0_30) (View.ld x7 r0_31) (View.ld x7 r0_32) (View.ld x7 r0_33) (View.ld x7 r0_34)⟩,
      ⟨r0_21, pairBlock (BitVec.ofNat 32 (i 1).val) (View.ld x0 r0_21) (View.ld x1 r0_21) (View.ld x2 r0_21) (View.ld x3 r0_21) (View.ld x4 r0_21) (View.ld x5 r0_21) (View.ld x6 r0_21) (View.ld x7 r0_22) (View.ld x7 r0_23) (View.ld x7 r0_24) (View.ld x7 r0_25) (View.ld x7 r0_26) (View.ld x7 r0_27)⟩,
      ⟨r0_14, pairBlock (BitVec.ofNat 32 (i 1).val) (View.ld x0 r0_14) (View.ld x1 r0_14) (View.ld x2 r0_14) (View.ld x3 r0_14) (View.ld x4 r0_14) (View.ld x5 r0_14) (View.ld x6 r0_14) (View.ld x7 r0_15) (View.ld x7 r0_16) (View.ld x7 r0_17) (View.ld x7 r0_18) (View.ld x7 r0_19) (View.ld x7 r0_20)⟩,
      ⟨r0_7, pairBlock (BitVec.ofNat 32 (i 1).val) (View.ld x0 r0_7) (View.ld x1 r0_7) (View.ld x2 r0_7) (View.ld x3 r0_7) (View.ld x4 r0_7) (View.ld x5 r0_7) (View.ld x6 r0_7) (View.ld x7 r0_8) (View.ld x7 r0_9) (View.ld x7 r0_10) (View.ld x7 r0_11) (View.ld x7 r0_12) (View.ld x7 r0_13)⟩,
      ⟨r0_0, pairBlock (BitVec.ofNat 32 (i 1).val) (View.ld x0 r0_0) (View.ld x1 r0_0) (View.ld x2 r0_0) (View.ld x3 r0_0) (View.ld x4 r0_0) (View.ld x5 r0_0) (View.ld x6 r0_0) (View.ld x7 r0_1) (View.ld x7 r0_2) (View.ld x7 r0_3) (View.ld x7 r0_4) (View.ld x7 r0_5) (View.ld x7 r0_6)⟩] :=
  rfl

end Cert.KernelIdeal.Band

end

end
-- ==== Proof.Softmax.lean ====
module

public import Idealize.ShloMosaic.Lib.Pointwise

@[expose] public section

set_option maxRecDepth 16384

noncomputable section

namespace Cert.Softmax

open Idealize.ShloMosaic

/-! ## Softmax over extended reals: facts about finite sums, maxima and quotients -/

/-- What the float words of the infinities and of 1 stand for. -/
theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

theorem ofBits_one : Ideal.ofBits .bf16 0x3F80#16 = 1 := by
  simp [Ideal.ofBits, Ideal.ieee]
  rw [← EReal.coe_one]
  norm_cast
  norm_num

/-- The folded maximum from minus infinity is the supremum. -/
theorem fold_max_eq_iSup {ι : Type} [Fintype ι] (f : ι → EReal) :
    Finset.univ.fold max ⊥ f = ⨆ k, f k := by
  rw [← Finset.sup_univ_eq_iSup]; rfl

/-- A sum of products with a factor that vanishes off one half of 128 lanes is the sum over that half. -/
theorem sum_half (hh : Fin 2) (f g : Fin 128 → EReal) :
    (∑ d : Fin 128, f d * (if d.val / 64 = hh.val then g d else 0))
      = ∑ d : Fin 64, f ⟨64 * hh.val + d.val, by omega⟩ * g ⟨64 * hh.val + d.val, by omega⟩ := by
  rw [Fin.sum_univ_tiles 2 64 rfl, Fin.sum_univ_two]
  have e (j : Fin 2) (d : Fin 64) : (j.val * 64 + d.val) / 64 = j.val := by omega
  simp only [e]
  have two (h : Fin 2) : h = 0 ∨ h = 1 := by omega
  rcases two hh with rfl | rfl <;> simp

/-- A product with a finite factor that is not negative distributes over a finite sum. -/
theorem sum_mul_coe {ι : Type} [Fintype ι] (f : ι → EReal) (c : ℝ) (hc : 0 ≤ c) : (∑ k, f k) * (c : EReal) = ∑ k, f k * (c : EReal) := by
  classical
  induction (Finset.univ : Finset ι) using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A finite supremum of scores that are each finite or minus infinity, one of them finite, is finite. -/
theorem iSup_coe {ι : Type} [Fintype ι] (s : ι → EReal) (hs : ∀ k, s k ≠ ⊤) (k0 : ι) (h0 : s k0 ≠ ⊥) :
    ∃ r : ℝ, (⨆ k, s k) = r := by
  classical
  have ht : (⨆ k, s k) ≠ ⊤ := by
    haveI : Nonempty ι := ⟨k0⟩
    obtain ⟨k, hk⟩ := exists_eq_ciSup_of_finite (f := s)
    rw [← hk]; exact hs k
  have hb : (⨆ k, s k) ≠ ⊥ := fun h => h0 (le_bot_iff.mp (h ▸ le_iSup s k0))
  exact ⟨(⨆ k, s k).toReal, (EReal.coe_toReal ht hb).symm⟩

/-- The weights of a softmax are real numbers, none negative. -/
theorem weight_coe (x : EReal) (hx : x ≠ ⊤) (r : ℝ) : ∃ w : ℝ, 0 ≤ w ∧ Ideal.exp (x - (r : EReal)) = w ∧ (x ≠ ⊥ → 0 < w) := by
  induction x with
  | bot => exact ⟨0, le_rfl, by simp, fun h => absurd rfl h⟩
  | top => exact absurd rfl hx
  | coe y => exact ⟨Real.exp (y - r), (Real.exp_pos _).le, by rw [← EReal.coe_sub, Ideal.exp_coe], fun _ => Real.exp_pos _⟩

/-- A finite sum of real numbers is the same sum of extended reals. -/
theorem coe_sum {ι : Type} [Fintype ι] (w : ι → ℝ) : (∑ k, ((w k : ℝ) : EReal)) = ((∑ k, w k : ℝ) : EReal) := by
  classical
  induction (Finset.univ : Finset ι) using Finset.induction_on with
  | empty => simp
  | insert a s ha ih => rw [Finset.sum_insert ha, Finset.sum_insert ha, ih, EReal.coe_add]

/-- The two ways to normalise agree: weighted sum over the total of the weights, and the sum weighted by
    normalised weights. -/
theorem normalise {ι : Type} [Fintype ι] (s v : ι → EReal) (hs : ∀ k, s k ≠ ⊤) (k0 : ι) (h0 : s k0 ≠ ⊥) :
    Ideal.div (∑ k, v k * Ideal.exp (s k - ⨆ j, s j)) (∑ k, Ideal.exp (s k - ⨆ j, s j))
      = ∑ k, v k * Ideal.div (Ideal.exp (s k - ⨆ j, s j)) (∑ k, Ideal.exp (s k - ⨆ j, s j)) := by
  obtain ⟨r, hr⟩ := iSup_coe s hs k0 h0
  rw [hr]
  choose w hw0 hw hpos using fun k => weight_coe (s k) (hs k) r
  simp only [hw]
  have hD0 : 0 < ∑ k, w k := Finset.sum_pos' (fun k _ => hw0 k) ⟨k0, Finset.mem_univ _, hpos k0 h0⟩
  have hne : ((∑ k, w k : ℝ) : EReal) ≠ 0 := by exact_mod_cast hD0.ne'
  rw [coe_sum]
  simp only [Ideal.div, if_neg hne]
  rw [← EReal.coe_inv, sum_mul_coe _ _ (inv_nonneg.mpr hD0.le)]
  exact Finset.sum_congr rfl fun k _ => mul_assoc _ _ _

/-- Scores of a larger set that are minus infinity outside the image of `e` give the same softmax. -/
theorem embed {ι κ : Type} [Fintype ι] [Fintype κ] (e : ι → κ) (he : Function.Injective e) (s v : κ → EReal) (s' v' : ι → EReal)
    (hs : ∀ i, s (e i) = s' i) (hout : ∀ k, k ∉ Set.range e → s k = ⊥) (hv : ∀ i, s' i ≠ ⊥ → v (e i) = v' i)
    (hfin : ∀ i, s' i ≠ ⊤) (i0 : ι) (h0 : s' i0 ≠ ⊥) :
    Ideal.div (∑ k, v k * Ideal.exp (s k - ⨆ j, s j)) (∑ k, Ideal.exp (s k - ⨆ j, s j))
      = ∑ i, v' i * Ideal.div (Ideal.exp (s' i - ⨆ j, s' j)) (∑ i, Ideal.exp (s' i - ⨆ j, s' j)) := by
  have hM : (⨆ k, s k) = ⨆ i, s' i := by
    apply le_antisymm
    · refine iSup_le fun k => ?_
      by_cases hk : k ∈ Set.range e
      · obtain ⟨i, rfl⟩ := hk
        rw [hs]; exact le_iSup s' i
      · rw [hout k hk]; exact bot_le
    · refine iSup_le fun i => ?_
      rw [← hs]; exact le_iSup s (e i)
  obtain ⟨r, hr⟩ := iSup_coe s' hfin i0 h0
  have hz (k) (hk : k ∉ Set.range e) : Ideal.exp (s k - ⨆ i, s' i) = 0 := by
    rw [hout k hk, hr]; simp
  have hden : (∑ k, Ideal.exp (s k - ⨆ j, s j)) = ∑ i, Ideal.exp (s' i - ⨆ j, s' j) := by
    rw [hM]
    exact (Fintype.sum_of_injective e he _ _ (fun k hk => hz k hk) fun i => by rw [hs]).symm
  have hnum : (∑ k, v k * Ideal.exp (s k - ⨆ j, s j)) = ∑ i, v' i * Ideal.exp (s' i - ⨆ j, s' j) := by
    rw [hM]
    refine (Fintype.sum_of_injective e he _ _ (fun k hk => by rw [hz k hk, mul_zero]) fun i => ?_).symm
    rw [hs]
    by_cases hi : s' i = ⊥
    · rw [hi, hr]; simp
    · rw [hv i hi]
  rw [hden, hnum]
  exact normalise s' v' hfin i0 h0

end Cert.Softmax

end

end
-- ==== Proof.HeadValue.lean ====
module

public import proofs.«01_k».proof.Proof.Head
public import proofs.«01_k».proof.Proof.Softmax

@[expose] public section

set_option maxRecDepth 16384

noncomputable section

namespace Cert.KernelIdeal.Band

open Cert.KernelIdeal Cert.KernelIdeal.Gen Idealize.ShloMosaic Idealize.ShloMosaic.TcCoe Idealize.SL.Sem
open Facts

/-- The lanes of head `hh` of a pair. -/
def half (hh : Fin 2) : IVec S1x128 1 := if hh = 0 then loHalf else hiHalf

theorem half_apply (hh : Fin 2) (d : Fin 128) : half hh (ix2 0 d) = if d.val / 64 = hh.val then 1#1 else 0#1 := by
  revert hh d; decide +kernel

theorem loRows_apply (d : Fin 128) : loRows (ix2 d 0) = if d.val / 64 = 0 then 1#1 else 0#1 := by
  revert d; decide +kernel

/-- A tile on the lanes of its own head, the constant elsewhere. -/
theorem ownLanes_apply (hh : Fin 2) (x : FVec Ideal S256x128 .bf16) (c : BitVec 16) (r : Fin 256) (d : Fin 128) :
    ownLanes (half hh) x c (ix2 r d) = if d.val / 64 = hh.val then x (ix2 r d) else Ideal.ofBits .bf16 c := by
  pointwise [ownLanes, half_apply]
  split <;> rfl

/-- A score is the product of the head's 64 lanes of key and query, plus the bias. -/
theorem scoreTile_apply (hh : Fin 2) (q k : FVec Ideal S256x128 .bf16) (b : FVec Ideal S1x256x256 .f32) (r l : Fin 256) :
    scoreTile (half hh) q k b (ix2 r l) = (∑ d : Fin 64, k (ix2 r ⟨64 * hh.val + d.val, by omega⟩) * q (ix2 l ⟨64 * hh.val + d.val, by omega⟩))
      + b (ix3 0 r l) := by
  have h : scoreTile (half hh) q k b (ix2 r l) = (∑ d : Fin 128, k (ix2 r d) * ownLanes (half hh) q 0x0000#16 (ix2 l d)) + b (ix3 0 r l) := by
    pointwise [scoreTile]
  rw [h, ← Softmax.sum_half hh (fun d => k (ix2 r d)) (fun d => q (ix2 l d))]
  congr 1
  refine Finset.sum_congr rfl fun d _ => ?_
  rw [ownLanes_apply, show Ideal.ofBits .bf16 0x0000#16 = 0 by simp [Ideal.ofBits, Ideal.ieee]]

/-- Before the `n`-th tile the scores are minus infinity. -/
theorem fromTile_apply (i n : BitVec 32) (s : FVec Ideal S256x256 .f32) (r l : Fin 256) :
    fromTile i n s (ix2 r l) = if n.toInt ≤ i.toInt then s (ix2 r l) else ⊥ := by
  pointwise [fromTile]
  rw [Softmax.ofBits_negInf]
  by_cases h : n.toInt ≤ i.toInt <;> simp [Scalar.select, Scalar.cmpi, IntOp.cmpi, BitVec.sle_eq_decide, h]

/-- The largest score of a query. -/
theorem colMax_apply (s : FVec Ideal S256x256 .f32) (l : Fin 256) :
    colMax s (ix2 0 l) = ⨆ r : Fin 256, s (ix2 r l) := by
  pointwise [colMax]
  rw [Softmax.ofBits_negInf, Softmax.fold_max_eq_iSup]

/-- A tile's part of the weighted sum. -/
theorem valueTile_apply (own : IVec S1x128 1) (v : FVec Ideal S256x128 .bf16) (s : FVec Ideal S256x256 .f32) (m : FVec Ideal S1x256 .f32)
    (d : Fin 128) (l : Fin 256) :
    valueTile own v s m (ix2 d l) = ∑ r : Fin 256, ownLanes own v 0x3F80#16 (ix2 r d) * Ideal.exp (s (ix2 r l) - m (ix2 0 l)) := by
  pointwise [valueTile]

/-- Division by the row 64 away. -/
theorem normalized_apply (o : FVec Ideal S128x256 .f32) (d : Fin 128) (l : Fin 256) :
    normalized o (ix2 d l) = Ideal.div (o (ix2 d l)) (o (ix2 ⟨(d.val + 64) % 128, by omega⟩ l)) := by
  pointwise [normalized]
  rfl

/-- The stored block's lane `d` is the one of the head it lies in. -/
theorem pairBlock_apply (i : BitVec 32) (q k0 k1 k2 v0 v1 v2 : FVec Ideal S256x128 .bf16)
    (b0 b1 b2 b3 b4 b5 : FVec Ideal S1x256x256 .f32) (l : Fin 256) (d : Fin 128) :
    pairBlock i q k0 k1 k2 v0 v1 v2 b0 b1 b2 b3 b4 b5 (ix2 l d) =
      if d.val / 64 = 0 then headBlock (half 0) i q k0 k1 k2 v0 v1 v2 b0 b1 b2 (ix2 d l)
      else headBlock (half 1) i q k0 k1 k2 v0 v1 v2 b3 b4 b5 (ix2 d l) := by
  pointwise [pairBlock, loRows_apply]
  split <;> rfl

/-- The scores of head `hh` for query `l`, over the three tiles of keys. -/
def score (hh : Fin 2) (i : BitVec 32) (q : FVec Ideal S256x128 .bf16) (k : Fin 3 → FVec Ideal S256x128 .bf16)
    (b : Fin 3 → FVec Ideal S1x256x256 .f32) (l : Fin 256) (p : Fin 3 × Fin 256) : EReal :=
  if 2 - (p.1.val : ℤ) ≤ i.toInt then
    (∑ d : Fin 64, k p.1 (ix2 p.2 ⟨64 * hh.val + d.val, by omega⟩) * q (ix2 l ⟨64 * hh.val + d.val, by omega⟩)) + b p.1 (ix3 0 p.2 l)
  else ⊥

/-- One head's result: values weighted by exponentials of scores less their maximum, over the sum of the weights.
    (The index of the query's tile is not negative.) -/
theorem headBlock_apply (hh : Fin 2) (i : BitVec 32) (hi : 0 ≤ i.toInt) (q : FVec Ideal S256x128 .bf16) (k v : Fin 3 → FVec Ideal S256x128 .bf16)
    (b : Fin 3 → FVec Ideal S1x256x256 .f32) (d : Fin 128) (l : Fin 256) (hd : d.val / 64 = hh.val) :
    headBlock (half hh) i q (k 0) (k 1) (k 2) (v 0) (v 1) (v 2) (b 0) (b 1) (b 2) (ix2 d l)
      = Ideal.div (∑ p, v p.1 (ix2 p.2 d) * Ideal.exp (score hh i q k b l p - ⨆ p, score hh i q k b l p))
          (∑ p, Ideal.exp (score hh i q k b l p - ⨆ p, score hh i q k b l p)) := by
  have h0 (r : Fin 256) : fromTile i 2#32 (scoreTile (half hh) q (k 0) (b 0)) (ix2 r l) = score hh i q k b l (0, r) := by
    rw [fromTile_apply, scoreTile_apply]; rfl
  have h1 (r : Fin 256) : fromTile i 1#32 (scoreTile (half hh) q (k 1) (b 1)) (ix2 r l) = score hh i q k b l (1, r) := by
    rw [fromTile_apply, scoreTile_apply]; rfl
  have h2 (r : Fin 256) : scoreTile (half hh) q (k 2) (b 2) (ix2 r l) = score hh i q k b l (2, r) := by
    rw [scoreTile_apply]; unfold score; rw [if_pos (by simpa using hi)]
  have hm : (max (max (⨆ r : Fin 256, score hh i q k b l (0, r)) (⨆ r : Fin 256, score hh i q k b l (1, r))) (⨆ r : Fin 256, score hh i q k b l (2, r)))
      = ⨆ p, score hh i q k b l p := by
    rw [iSup_prod]
    refine le_antisymm (max_le (max_le ?_ ?_) ?_) (iSup_le fun j => ?_)
    · exact le_iSup (fun j : Fin 3 => ⨆ r : Fin 256, score hh i q k b l (j, r)) 0
    · exact le_iSup (fun j : Fin 3 => ⨆ r : Fin 256, score hh i q k b l (j, r)) 1
    · exact le_iSup (fun j : Fin 3 => ⨆ r : Fin 256, score hh i q k b l (j, r)) 2
    · match j with
      | 0 => exact (le_max_left _ _).trans (le_max_left _ _)
      | 1 => exact (le_max_right _ _).trans (le_max_left _ _)
      | 2 => exact le_max_right _ _
  have hw (d : Fin 128) : weighted (half hh) (v 0) (v 1) (v 2) (fromTile i 2#32 (scoreTile (half hh) q (k 0) (b 0)))
      (fromTile i 1#32 (scoreTile (half hh) q (k 1) (b 1))) (scoreTile (half hh) q (k 2) (b 2)) (ix2 d l)
      = ∑ p, ownLanes (half hh) (v p.1) 0x3F80#16 (ix2 p.2 d) * Ideal.exp (score hh i q k b l p - ⨆ p, score hh i q k b l p) := by
    rw [Fintype.sum_prod_type, Fin.sum_univ_three]
    pointwise [weighted, valueTile_apply, colMax_apply, h0, h1, h2, hm]
  unfold headBlock
  rw [normalized_apply, hw, hw]
  congr 1
  · refine Finset.sum_congr rfl fun p _ => ?_
    rw [ownLanes_apply, if_pos hd]
  · refine Finset.sum_congr rfl fun p _ => ?_
    rw [ownLanes_apply, if_neg (by simp only; omega), Softmax.ofBits_one, one_mul]

end Cert.KernelIdeal.Band

end

end
-- ==== Proof.Host.lean ====
module

public import proofs.«01_k».proof.Proof.Gen.KernelIdeal.Value
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)
open Facts

/-! ## The arrays the host prepares: the packed projections and the table of biases -/

/-- The packed row of a token: two arrays the call does not read around its queries, keys and values. -/
def packed (x : FVec Ideal S32768x3072 .f32) (q k v : FVec Ideal S16x2048x16x64 .f32) (z : FVec Ideal S32768x2048 .f32) :
    FVec Ideal S32768x8192 .bf16 :=
  truncf .bf16 (concatenate S32768x8192 1 [⟨S32768x3072, x⟩, ⟨S32768x1024, shapeCast _ q shapeCasts_S16x2048x16x64_S32768x1024⟩,
    ⟨S32768x1024, shapeCast _ k shapeCasts_S16x2048x16x64_S32768x1024⟩, ⟨S32768x1024, shapeCast _ v shapeCasts_S16x2048x16x64_S32768x1024⟩,
    ⟨S32768x2048, z⟩] concatenates_S32768x3072_S32768x1024_S32768x1024_S32768x1024_S32768x2048_S32768x8192_d1) bitsLt_bf16_f32

/-- Which relative bias a query of a chunk and a key of its band have. -/
def relWords : IVec S64x576 32 :=
  addi (minsi (broadcastInDim S64x576 ![] bcast_S_S64x576 (id (constantI S_ 32 256#32)))
    (maxsi (broadcastInDim S64x576 ![] bcast_S_S64x576 (id (constantI S_ 32 4294967233#32)))
      (subi (broadcastInDim S64x576 ![0, 1] bcast_S64x1_S64x576_0_1
          (addi (broadcastInDim S64x1 ![0] bcast_S64_S64x1_0 (iotaInDim S64 32 0)) (broadcastInDim S64x1 ![] bcast_S_S64x1 (constantI S_ 32 512#32))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 63#32))

/-- The relative bias selected by a product with a table of zeros and ones. -/
def chunkBias (rb : FVec Ideal S16x320 .f32) : FVec Ideal S16x64x576 .f32 :=
  Host.dotGeneral dot_S16x320_S320x64x576_S16x64x576_1_0_0_12_n_n (some .fp32) rb
    (uitofp .f32 (cmpi .eq (broadcastInDim S320x64x576 ![0, 1, 2] bcast_S1x64x576_S320x64x576_0_1_2 (broadcastInDim S1x64x576 ![1, 2] bcast_S64x576_S1x64x576_1_2 relWords))
      (broadcastInDim S320x64x576 ![0, 1, 2] bcast_S320x1x1_S320x64x576_0_1_2 (broadcastInDim S320x1x1 ![0] bcast_S320_S320x1x1_0 (iotaInDim S320 32 0)))))

/-- The bias of the three tiles of keys for a tile of queries, minus infinity outside each chunk's band. -/
def biasTable (rb : FVec Ideal S16x320 .f32) : FVec Ideal S16x768x256 .f32 :=
  transpose S16x768x256 [0, 2, 1] (concatenate S16x256x768 1 [
    ⟨S16x64x768, pad S16x64x768 ![0, 0, 0] ![0, 0, 192] ![0, 0, 0] (chunkBias rb) (id (constant S_ .f32 0xFF800000#32)) pads_S16x64x576_S16x64x768_000_000_01920 h_S_⟩,
    ⟨S16x64x768, pad S16x64x768 ![0, 0, 64] ![0, 0, 128] ![0, 0, 0] (chunkBias rb) (id (constant S_ .f32 0xFF800000#32)) pads_S16x64x576_S16x64x768_000_000_641280 h_S_⟩,
    ⟨S16x64x768, pad S16x64x768 ![0, 0, 128] ![0, 0, 64] ![0, 0, 0] (chunkBias rb) (id (constant S_ .f32 0xFF800000#32)) pads_S16x64x576_S16x64x768_000_000_128640 h_S_⟩,
    ⟨S16x64x768, pad S16x64x768 ![0, 0, 192] ![0, 0, 0] ![0, 0, 0] (chunkBias rb) (id (constant S_ .f32 0xFF800000#32)) pads_S16x64x576_S16x64x768_000_000_19200 h_S_⟩]
    concatenates_S16x64x768_S16x64x768_S16x64x768_S16x64x768_S16x256x768_d1) transposes_S16x256x768_S16x768x256_0_2_1

/-- The last two operations of the table, over contents whose four padded blocks are known. -/
theorem table_of (f : Valuation τ sig (Elt Ideal)) {p0 p1 p2 p3 : FVec Ideal S16x64x768 .f32} (h0 : f (Proc.devRef .tc main_v25) = p0)
    (h1 : f (Proc.devRef .tc main_v26) = p1) (h2 : f (Proc.devRef .tc main_v27) = p2) (h3 : f (Proc.devRef .tc main_v28) = p3) :
    transpose S16x768x256 [0, 2, 1] (concatenate S16x256x768 1 [
      ⟨S16x64x768, f (Proc.devRef .tc (![main_v25, main_v26, main_v27, main_v28] 0))⟩,
      ⟨S16x64x768, f (Proc.devRef .tc (![main_v25, main_v26, main_v27, main_v28] 1))⟩,
      ⟨S16x64x768, f (Proc.devRef .tc (![main_v25, main_v26, main_v27, main_v28] 2))⟩,
      ⟨S16x64x768, f (Proc.devRef .tc (![main_v25, main_v26, main_v27, main_v28] 3))⟩]
      concatenates_S16x64x768_S16x64x768_S16x64x768_S16x64x768_S16x256x768_d1) transposes_S16x256x768_S16x768x256_0_2_1
    = transpose S16x768x256 [0, 2, 1] (concatenate S16x256x768 1 [⟨S16x64x768, p0⟩, ⟨S16x64x768, p1⟩, ⟨S16x64x768, p2⟩, ⟨S16x64x768, p3⟩]
      concatenates_S16x64x768_S16x64x768_S16x64x768_S16x64x768_S16x256x768_d1) transposes_S16x256x768_S16x768x256_0_2_1 := by
  subst h0 h1 h2 h3
  rfl

variable (m : (ℓ : Loc nD τ sig) → Buf (Elt Ideal) ℓ)

/-- The packed array when the call starts. -/
theorem packed_eq (c : Dev nD) : V m c main_v4 = packed (m ((c : Thread nD τ).loc main_arg0)) (m ((c : Thread nD τ).loc main_arg1))
    (m ((c : Thread nD τ).loc main_arg2)) (m ((c : Thread nD τ).loc main_arg3)) (m ((c : Thread nD τ).loc main_arg4)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.unary, StableHlo.TRef.toBuf, StableHlo.TRef.ofBuf, cast_eq]
  after_results_simp
  rfl

/-- The table of biases when the call starts. -/
theorem biasTable_eq (c : Dev nD) : V m c main_v30 = biasTable (m ((c : Thread nD τ).loc main_arg5)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append,
    StableHlo.TRef.binary, StableHlo.TRef.unary, StableHlo.TRef.toBuf, StableHlo.TRef.ofBuf, cast_eq]
  after_results_simp
  refine table_of _ (p0 := ?_) (p1 := ?_) (p2 := ?_) (p3 := ?_) ?_ ?_ ?_ ?_ <;> (after_results_simp; rfl)

end Cert.KernelIdeal.Band

end

end
-- ==== Proof.Words.lean ====
module

public import Idealize.ShloMosaic.Lib.Pointwise

@[expose] public section

/-! ## The words that number the relative biases -/

namespace Cert.Words

open Idealize.ShloMosaic

/-- The number of the relative bias of query `a` of a chunk and key `j` of its band. -/
def relIdx (a : Fin 64) (j : Fin 576) : Fin 320 := ⟨(min 256 (max (-63) (512 + (a.val : ℤ) - j.val)) + 63).toNat, by omega⟩

/-- Clipping a word between the two ends of the band and counting from the lower end. -/
theorem clip_words : ∀ n : Fin 639, IntOp.addi (IntOp.minsi 256#32 (IntOp.maxsi 4294967233#32 (BitVec.ofNat 32 n.val - 63#32))) 63#32
    = BitVec.ofNat 32 (min 256 (max (-63) ((n.val : ℤ) - 63)) + 63).toNat := by
  decide +kernel

/-- The word computed for a query and a key of its band is the number of their relative bias. -/
theorem rel_word (a : Fin 64) (j : Fin 576) :
    IntOp.addi (IntOp.minsi 256#32 (IntOp.maxsi 4294967233#32 (IntOp.subi (IntOp.addi (BitVec.ofNat 32 a.val) 512#32) (BitVec.ofNat 32 j.val)))) 63#32
      = BitVec.ofNat 32 (relIdx a j).val := by
  have e : IntOp.subi (IntOp.addi (BitVec.ofNat 32 a.val) 512#32) (BitVec.ofNat 32 j.val) = BitVec.ofNat 32 (575 + a.val - j.val) - 63#32 := by
    unfold IntOp.subi IntOp.addi
    apply BitVec.eq_of_toNat_eq
    simp only [BitVec.toNat_sub, BitVec.toNat_add, BitVec.toNat_ofNat]
    omega
  rw [e]
  refine (clip_words ⟨575 + a.val - j.val, by omega⟩).trans ?_
  unfold relIdx
  congr 4
  push_cast [show j.val ≤ 575 + a.val by omega]
  ring_nf

/-- The signed value of a small word. -/
theorem toInt_small (n : ℕ) (hn : n < 2 ^ 31) : (BitVec.ofNat 32 n).toInt = n := by
  rw [BitVec.toInt_eq_toNat_cond, BitVec.toNat_ofNat]
  split_ifs <;> omega

/-- A small word that is not negative is left alone by the wrap of negative indices. -/
theorem wrap_word (n : ℕ) (hn : n < 2 ^ 31) (w : BitVec 32) :
    (if IntOp.cmpi .slt (BitVec.ofNat 32 n) 0#32 = 1#1 then w else BitVec.ofNat 32 n) = BitVec.ofNat 32 n := by
  refine if_neg ?_
  have h : ¬ (BitVec.ofNat 32 n).slt 0#32 = true := by
    rw [BitVec.slt_eq_decide, decide_eq_true_iff, toInt_small n hn, show (0#32).toInt = 0 from rfl]
    omega
  simp [IntOp.cmpi, h]

/-- The choice between a value and another by whether a position stands past the first 512. -/
theorem select_reached {α : Type} (n : ℕ) (hn : n < 2 ^ 31) (x y : α) :
    Scalar.select (IntOp.cmpi .sge (IntOp.subi (BitVec.ofNat 32 n) 512#32) 0#32) x y = if 512 ≤ n then x else y := by
  have hs : (IntOp.subi (BitVec.ofNat 32 n) 512#32).toInt = (n : ℤ) - 512 := by
    unfold IntOp.subi
    rw [BitVec.toInt_eq_toNat_cond, BitVec.toNat_sub, BitVec.toNat_ofNat, BitVec.toNat_ofNat]
    split_ifs <;> omega
  have h : (0#32).sle (IntOp.subi (BitVec.ofNat 32 n) 512#32) = decide (512 ≤ n) := by
    rw [BitVec.sle_eq_decide, hs, show (0#32).toInt = 0 from rfl]
    exact decide_eq_decide.mpr (by omega)
  by_cases hp : 512 ≤ n
  · simp [Scalar.select, IntOp.cmpi, h, hp]
  · simp [Scalar.select, IntOp.cmpi, h, hp]

end Cert.Words

end
-- ==== Proof.HostValue.lean ====
module

public import proofs.«01_k».proof.Proof.Host
public import proofs.«01_k».proof.Proof.Words

@[expose] public section

set_option maxRecDepth 16384

noncomputable section

namespace Cert.KernelIdeal.Band

open Cert.KernelIdeal Cert.KernelIdeal.Gen Idealize.ShloMosaic Idealize.ShloMosaic.TcCoe Idealize.SL.Sem
open Facts
open Cert.Words (relIdx)

/-! ## The host's arrays, entry by entry -/

section Packed

variable (x : FVec Ideal S32768x3072 .f32) (q k v : FVec Ideal S16x2048x16x64 .f32) (z : FVec Ideal S32768x2048 .f32)

/-- The queries stand in the packed columns from 3072 on. -/
theorem packed_query (n : Fin 32768) (w : Fin 1024) : packed x q k v z (ix2 n ⟨3072 + w.val, by omega⟩)
    = q (ix4 ⟨n.val / 2048, by omega⟩ ⟨n.val % 2048, by omega⟩ ⟨w.val / 64, by omega⟩ ⟨w.val % 64, by omega⟩) := by
  pointwise [packed]

/-- The keys stand in the packed columns from 4096 on. -/
theorem packed_key (n : Fin 32768) (w : Fin 1024) : packed x q k v z (ix2 n ⟨4096 + w.val, by omega⟩)
    = k (ix4 ⟨n.val / 2048, by omega⟩ ⟨n.val % 2048, by omega⟩ ⟨w.val / 64, by omega⟩ ⟨w.val % 64, by omega⟩) := by
  have e : 4096 + w.val - 3072 - 1024 = w.val := by omega
  pointwise [packed]
  rw [dif_neg (by omega), dif_neg (by omega), dif_pos (by omega)]
  simp only [e]

/-- The values stand in the packed columns from 5120 on. -/
theorem packed_value (n : Fin 32768) (w : Fin 1024) : packed x q k v z (ix2 n ⟨5120 + w.val, by omega⟩)
    = v (ix4 ⟨n.val / 2048, by omega⟩ ⟨n.val % 2048, by omega⟩ ⟨w.val / 64, by omega⟩ ⟨w.val % 64, by omega⟩) := by
  have e : 5120 + w.val - 3072 - 1024 - 1024 = w.val := by omega
  pointwise [packed]
  rw [dif_neg (by omega), dif_neg (by omega), dif_neg (by omega), dif_pos (by omega)]
  simp only [e]

end Packed

/-- The words of the host's table are those numbers. -/
theorem relWords_apply (a : Fin 64) (j : Fin 576) : relWords (ix2 a j) = BitVec.ofNat 32 (relIdx a j).val := by
  pointwise [relWords]
  exact Words.rel_word a j

/-- The product with the table of zeros and ones selects one bias. -/
theorem chunkBias_apply (rb : FVec Ideal S16x320 .f32) (h : Fin 16) (a : Fin 64) (j : Fin 576) :
    chunkBias rb (ix3 h a j) = rb (ix2 h (relIdx a j)) := by
  have e : ∀ x : Fin 320, ((FloatOps.uitofp .f32 (IntOp.cmpi .eq (BitVec.ofNat 32 (relIdx a j).val) (BitVec.ofNat 32 x.val)) : Ideal .f32) : EReal)
      = if x = relIdx a j then 1 else 0 := by
    intro x
    have hx : (BitVec.ofNat 32 (relIdx a j).val = BitVec.ofNat 32 x.val) ↔ x = relIdx a j := by
      constructor
      · intro hw
        have := congrArg BitVec.toNat hw
        simp only [BitVec.toNat_ofNat] at this
        have := (relIdx a j).isLt
        apply Fin.ext
        omega
      · rintro rfl
        rfl
    show (((IntOp.cmpi .eq (BitVec.ofNat 32 (relIdx a j).val) (BitVec.ofNat 32 x.val)).toNat : ℝ) : EReal) = _
    by_cases h : x = relIdx a j
    · simp [IntOp.cmpi, h]
    · simp [IntOp.cmpi, h, hx]
  pointwise [chunkBias, relWords_apply]
  simp only [e, mul_ite, mul_one, mul_zero, Finset.sum_ite_eq', Finset.mem_univ, if_true]

/-- The bias depends on the two positions only. -/
theorem rel_congr (rb : FVec Ideal S16x320 .f32) (h : Fin 16) {a a' : Fin 64} {j j' : Fin 576} (ha : a.val = a'.val) (hj : j.val = j'.val) :
    rb (ix2 h (relIdx a j)) = rb (ix2 h (relIdx a' j')) := by
  rw [Fin.ext ha, Fin.ext hj]

/-- The table of biases: each chunk's band at its own place, minus infinity elsewhere. -/
theorem biasTable_apply (rb : FVec Ideal S16x320 .f32) (h : Fin 16) (κ : Fin 768) (l : Fin 256) :
    biasTable rb (ix3 h κ l) = if hb : 64 * (l.val / 64) ≤ κ.val ∧ κ.val < 64 * (l.val / 64) + 576 then
      rb (ix2 h (relIdx ⟨l.val % 64, by omega⟩ ⟨κ.val - 64 * (l.val / 64), by omega⟩)) else ⊥ := by
  have hc : id (constant (F := Ideal) S_ .f32 0xFF800000#32) (Shape.Idx.first h_S_) = (⊥ : EReal) := Softmax.ofBits_negInf
  have h4 : l.val / 64 = 0 ∨ l.val / 64 = 1 ∨ l.val / 64 = 2 ∨ l.val / 64 = 3 := by omega
  pointwise [biasTable, chunkBias_apply]
  simp only [hc]
  by_cases hb : 64 * (l.val / 64) ≤ κ.val ∧ κ.val < 64 * (l.val / 64) + 576
  · refine Eq.trans ?_ (dif_pos hb).symm
    split_ifs <;> first | (exfalso; omega) | exact rel_congr rb h (by dsimp only; omega) (by dsimp only; omega)
  · refine Eq.trans ?_ (dif_neg hb).symm
    split_ifs <;> first | (exfalso; omega) | rfl

end Cert.KernelIdeal.Band

end

end
-- ==== Proof.RefDefs.lean ====
module

public import proofs.«01_k».proof.Proof.Gen.ReferenceIdeal.Run
public import proofs.«01_k».proof.Proof.Words
public import proofs.«01_k».proof.Proof.Softmax
public import Idealize.ShloMosaic.Lib.Pointwise
public import Idealize.ShloMosaic.Lib.Pipeline.ValueKit

@[expose] public section

set_option maxRecDepth 16384

noncomputable section

namespace Cert.ReferenceIdeal.Band

open Cert.ReferenceIdeal Cert.ReferenceIdeal.Value Idealize.ShloMosaic Idealize.ShloMosaic.TcCoe Idealize.SL.Sem
open Cert.ReferenceIdeal.Gen
open Cert.Words (relIdx)

/-! ## The reference, part by part -/

/-- The position in the padded keys of each key of each chunk's band. -/
def posWords : IVec S32x576 32 :=
  addi (broadcastInDim S32x576 ![0, 1] bcast_S32x1_S32x576_0_1 (muli (broadcastInDim S32x1 ![0] bcast_S32_S32x1_0 (iotaInDim S32 32 0)) (broadcastInDim S32x1 ![] bcast_S_S32x1 (constantI S_ 32 64#32)))) (broadcastInDim S32x576 ![0, 1] bcast_S1x576_S32x576_0_1 (broadcastInDim S1x576 ![1] bcast_S576_S1x576_1 (iotaInDim S576 32 0)))

/-- Those positions as a table of rows to take. -/
def posIdx : IVec S32x576x1 32 :=
  broadcastInDim S32x576x1 ![0, 1] bcast_S32x576_S32x576x1_0_1 (select (cmpi .slt posWords (broadcastInDim S32x576 ![] bcast_S_S32x576 (constantI S_ 32 0#32))) (addi posWords (broadcastInDim S32x576 ![] bcast_S_S32x576 (constantI S_ 32 2560#32))) posWords)

/-- The number of the relative bias of a query of a chunk and a key of its band. -/
def relWords : IVec S64x576 32 :=
  addi (minsi (broadcastInDim S64x576 ![] bcast_S_S64x576 (id (constantI S_ 32 256#32))) (maxsi (broadcastInDim S64x576 ![] bcast_S_S64x576 (id (constantI S_ 32 4294967233#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 63#32))

/-- Those numbers as a table of entries to take. -/
def relTable : IVec S64x576x1 32 :=
  broadcastInDim S64x576x1 ![0, 1] bcast_S64x576_S64x576x1_0_1 (select (cmpi .slt relWords (broadcastInDim S64x576 ![] bcast_S_S64x576 (constantI S_ 32 0#32))) (addi relWords (broadcastInDim S64x576 ![] bcast_S_S64x576 (constantI S_ 32 320#32))) relWords)

/-- The rows of the bands of every chunk. -/
def band (x : FVec Ideal S16x2048x16x64 .f32) : FVec Ideal S16x32x576x16x64 .f32 :=
  Host.gather gather_S16x2560x16x64_S32x576x1_S16x32x576x16x64_034_1_n_n_1_2_1611664 (pad S16x2560x16x64 ![0, 512, 0, 0] ![0, 0, 0, 0] ![0, 0, 0, 0] x (sitofp .f32 (constantI S_ 32 0#32)) pads_S16x2048x16x64_S16x2560x16x64_000_51200_000_000 h_S_) posIdx

/-- The relative biases of a chunk. -/
def bias (rb : FVec Ideal S16x320 .f32) : FVec Ideal S16x64x576 .f32 :=
  Host.gather gather_S16x320_S64x576x1_S16x64x576_0_1_n_n_1_2_161 rb relTable

/-- The scores, minus infinity where a band begins before the sequence. -/
def scores (q k : FVec Ideal S16x2048x16x64 .f32) (rb : FVec Ideal S16x320 .f32) : FVec Ideal S16x32x16x64x576 .f32 :=
  select (broadcastInDim S16x32x16x64x576 ![1, 2, 3, 4] bcast_S32x1x1x576_S16x32x16x64x576_1_2_3_4 (broadcastInDim S32x1x1x576 ![0, 3] bcast_S32x576_S32x1x1x576_0_3 (cmpi .sge (subi posWords (broadcastInDim S32x576 ![] bcast_S_S32x576 (constantI S_ 32 512#32))) (broadcastInDim S32x576 ![] bcast_S_S32x576 (constantI S_ 32 0#32))))) (addf (Host.dotGeneral dot_S16x32x64x16x64_S16x32x576x16x64_S16x32x16x64x576_4_4_2_2_013_013 none (shapeCast _ q shapeCasts_S16x2048x16x64_S16x32x64x16x64) (band k)) (broadcastInDim S16x32x16x64x576 ![0, 1, 2, 3, 4] bcast_S1x1x16x64x576_S16x32x16x64x576_0_1_2_3_4 (broadcastInDim S1x1x16x64x576 ![2, 3, 4] bcast_S16x64x576_S1x1x16x64x576_2_3_4 (bias rb)))) (broadcastInDim S16x32x16x64x576 ![] bcast_S_S16x32x16x64x576 (id (constant S_ .f32 0xFF800000#32)))

/-- The largest score of each row of a band. -/
def rowMax (s : FVec Ideal S16x32x16x64x576 .f32) : FVec Ideal S16x32x16x64 .f32 :=
  Host.reduce FloatOps.maximumf s (constant S_ .f32 0xFF800000#32) reducesTo_S16x32x16x64x576_S16x32x16x64_d4 h_S_

/-- The exponentials of the scores less their largest one. -/
def expScores (s : FVec Ideal S16x32x16x64x576 .f32) : FVec Ideal S16x32x16x64x576 .f32 :=
  Host.exp (subf s (broadcastInDim S16x32x16x64x576 ![0, 1, 2, 3, 4] bcast_S16x32x16x64x1_S16x32x16x64x576_0_1_2_3_4 (broadcastInDim S16x32x16x64x1 ![0, 1, 2, 3] bcast_S16x32x16x64_S16x32x16x64x1_0_1_2_3 (maximumf (broadcastInDim S16x32x16x64 ![] bcast_S_S16x32x16x64 (constant S_ .f32 0xFF800000#32)) (rowMax s)))))

/-- The softmax of the scores. -/
def weights (s : FVec Ideal S16x32x16x64x576 .f32) : FVec Ideal S16x32x16x64x576 .f32 :=
  Host.divf (expScores s) (broadcastInDim S16x32x16x64x576 ![0, 1, 2, 3, 4] bcast_S16x32x16x64x1_S16x32x16x64x576_0_1_2_3_4 (broadcastInDim S16x32x16x64x1 ![0, 1, 2, 3] bcast_S16x32x16x64_S16x32x16x64x1_0_1_2_3 (Host.reduceAdd (expScores s) (constant S_ .f32 0x00000000#32) reducesTo_S16x32x16x64x576_S16x32x16x64_d4 h_S_)))

/-- The attention's output. -/
def attention (q k v : FVec Ideal S16x2048x16x64 .f32) (rb : FVec Ideal S16x320 .f32) : FVec Ideal S32768x1024 .bf16 :=
  truncf .bf16 (shapeCast _ (transpose S16x32x64x16x64 [0, 1, 4, 2, 3] (Host.dotGeneral dot_S16x32x576x16x64_S16x32x16x64x576_S16x32x16x64x64_2_4_4_3_013_012 none (band v) (weights (scores q k rb))) transposes_S16x32x16x64x64_S16x32x64x16x64_0_1_4_2_3) shapeCasts_S16x32x64x16x64_S32768x1024) bitsLt_bf16_f32

/-- The reference's result is that output. -/
theorem result_eq (m : (ℓ : Loc nD τ sig) → Buf (Elt Ideal) ℓ) (c : Dev nD) :
    res_out0 m c = attention (m ((c.tc : Thread nD τ).loc main_arg1)) (m ((c.tc : Thread nD τ).loc main_arg2)) (m ((c.tc : Thread nD τ).loc main_arg3)) (m ((c.tc : Thread nD τ).loc main_arg5)) := rfl

end Cert.ReferenceIdeal.Band

end

end
-- ==== Proof.RefScores.lean ====
module

public import proofs.«01_k».proof.Proof.RefDefs
public import proofs.«01_k».proof.Proof.Words
public import proofs.«01_k».proof.Proof.Softmax
public import Idealize.ShloMosaic.Lib.Pointwise
public import Idealize.ShloMosaic.Lib.Pipeline.ValueKit

@[expose] public section

set_option maxRecDepth 16384

noncomputable section

namespace Cert.ReferenceIdeal.Band

open Cert.ReferenceIdeal Cert.ReferenceIdeal.Value Idealize.ShloMosaic Idealize.ShloMosaic.TcCoe Idealize.SL.Sem
open Cert.ReferenceIdeal.Gen
open Cert.Words (relIdx)

/-! ## The scores, entry by entry -/

/-- Taking rows of the padded array: the table's word, held within the array, is the row. -/
theorem take_rows (x : FVec Ideal S16x2560x16x64 .f32) (idx : IVec S32x576x1 32) (b : Fin 16) (c : Fin 32) (j : Fin 576) (h : Fin 16) (e : Fin 64) :
    Host.gather gather_S16x2560x16x64_S32x576x1_S16x32x576x16x64_034_1_n_n_1_2_1611664 x idx (ix5 b c j h e)
      = x (ix4 b ⟨min (idx (ix3 c j 0)).toInt.toNat 2559, by omega⟩ h e) := by
  unfold Host.gather
  congr 1
  funext a
  refine Fin.ext ?_
  have hsi : ∀ i, gather_S16x2560x16x64_S32x576x1_S16x32x576x16x64_034_1_n_n_1_2_1611664.siIdx (ix5 b c j h e) i = ix3 c j 0 := by
    intro i
    funext a
    refine Fin.ext ?_
    match a with
    | ⟨0, _⟩ => rfl
    | ⟨1, _⟩ => rfl
    | ⟨2, _⟩ => exact Nat.lt_one_iff.mp (Fin.isLt _)
  match a with
  | ⟨0, _⟩ => show 0 + 0 + b.val = b.val; omega
  | ⟨1, _⟩ =>
    show min (idx (gather_S16x2560x16x64_S32x576x1_S16x32x576x16x64_034_1_n_n_1_2_1611664.siIdx (ix5 b c j h e) ⟨0, by decide⟩)).toInt.toNat (2560 - 1) + 0 + 0 = _
    rw [hsi]
    rfl
  | ⟨2, _⟩ => show 0 + 0 + h.val = h.val; omega
  | ⟨3, _⟩ => show 0 + 0 + e.val = e.val; omega

/-- Taking entries of the relative biases: the table's word, held within the array, is the entry. -/
theorem take_bias (x : FVec Ideal S16x320 .f32) (idx : IVec S64x576x1 32) (h : Fin 16) (a : Fin 64) (j : Fin 576) :
    Host.gather gather_S16x320_S64x576x1_S16x64x576_0_1_n_n_1_2_161 x idx (ix3 h a j)
      = x (ix2 h ⟨min (idx (ix3 a j 0)).toInt.toNat 319, by omega⟩) := by
  unfold Host.gather
  congr 1
  funext r
  refine Fin.ext ?_
  have hsi : ∀ i, gather_S16x320_S64x576x1_S16x64x576_0_1_n_n_1_2_161.siIdx (ix3 h a j) i = ix3 a j 0 := by
    intro i
    funext r
    refine Fin.ext ?_
    match r with
    | ⟨0, _⟩ => rfl
    | ⟨1, _⟩ => rfl
    | ⟨2, _⟩ => exact Nat.lt_one_iff.mp (Fin.isLt _)
  match r with
  | ⟨0, _⟩ => show 0 + 0 + h.val = h.val; omega
  | ⟨1, _⟩ =>
    show min (idx (gather_S16x320_S64x576x1_S16x64x576_0_1_n_n_1_2_161.siIdx (ix3 h a j) ⟨0, by decide⟩)).toInt.toNat (320 - 1) + 0 + 0 = _
    rw [hsi]
    rfl

/-- The positions are counted from the chunk's own start. -/
theorem posWords_apply (c : Fin 32) (j : Fin 576) : posWords (ix2 c j) = BitVec.ofNat 32 (64 * c.val + j.val) := by
  pointwise [posWords]
  unfold IntOp.addi IntOp.muli
  apply BitVec.eq_of_toNat_eq
  simp only [BitVec.toNat_add, BitVec.toNat_mul, BitVec.toNat_ofNat]
  omega

/-- No position is negative: the table holds them as they are. -/
theorem posIdx_apply (c : Fin 32) (j : Fin 576) : posIdx (ix3 c j 0) = BitVec.ofNat 32 (64 * c.val + j.val) := by
  pointwise [posIdx, posWords_apply]
  exact Words.wrap_word _ (by omega) _

/-- No number of a bias is negative: the table holds them as they are. -/
theorem relTable_apply (a : Fin 64) (j : Fin 576) : relTable (ix3 a j 0) = BitVec.ofNat 32 (relIdx a j).val := by
  have e : relWords (ix2 a j) = BitVec.ofNat 32 (relIdx a j).val := by
    pointwise [relWords]
    exact Words.rel_word a j
  pointwise [relTable, e]
  exact Words.wrap_word _ (by have := (relIdx a j).isLt; omega) _

/-- The bias of a query of a chunk and a key of its band. -/
theorem bias_apply (rb : FVec Ideal S16x320 .f32) (h : Fin 16) (a : Fin 64) (j : Fin 576) : bias rb (ix3 h a j) = rb (ix2 h (relIdx a j)) := by
  have hr := (relIdx a j).isLt
  rw [bias, take_bias]
  have hm : (⟨min (relTable (ix3 a j 0)).toInt.toNat 319, by omega⟩ : Fin 320) = relIdx a j := by
    apply Fin.ext
    show min (relTable (ix3 a j 0)).toInt.toNat 319 = (relIdx a j).val
    rw [relTable_apply, Words.toInt_small _ (by omega)]
    omega
  rw [hm]

/-- The padded array: zeros before the sequence. -/
theorem pad_apply (x : FVec Ideal S16x2048x16x64 .f32) (b : Fin 16) (n : Fin 2560) (h : Fin 16) (e : Fin 64) :
    pad S16x2560x16x64 ![0, 512, 0, 0] ![0, 0, 0, 0] ![0, 0, 0, 0] x (sitofp .f32 (constantI S_ 32 0#32)) pads_S16x2048x16x64_S16x2560x16x64_000_51200_000_000 h_S_ (ix4 b n h e)
      = if hp : 512 ≤ n.val then x (ix4 b ⟨n.val - 512, by omega⟩ h e) else 0 := by
  have hz : (sitofp (F := Ideal) .f32 (constantI S_ 32 0#32)) (Shape.Idx.first h_S_) = (0 : EReal) := by
    show (((0#32).toInt : ℝ) : EReal) = 0
    simp
  pointwise [hz]
  by_cases hp : 512 ≤ n.val
  · rw [dif_pos ⟨hp, by omega⟩, dif_pos hp]
  · rw [dif_neg (by omega), dif_neg hp]

/-- The row of a chunk's band that a key stands in, zero before the sequence. -/
theorem band_apply (x : FVec Ideal S16x2048x16x64 .f32) (b : Fin 16) (c : Fin 32) (j : Fin 576) (h : Fin 16) (e : Fin 64) :
    band x (ix5 b c j h e) = if hp : 512 ≤ 64 * c.val + j.val then x (ix4 b ⟨64 * c.val + j.val - 512, by omega⟩ h e) else 0 := by
  have hn : (posIdx (ix3 c j 0)).toInt.toNat = 64 * c.val + j.val := by
    rw [posIdx_apply, Words.toInt_small _ (by omega)]
    omega
  have hm : (⟨min (posIdx (ix3 c j 0)).toInt.toNat 2559, by omega⟩ : Fin 2560) = ⟨64 * c.val + j.val, by omega⟩ := by
    apply Fin.ext
    show min (posIdx (ix3 c j 0)).toInt.toNat 2559 = 64 * c.val + j.val
    rw [hn]
    omega
  rw [band, take_rows, hm, pad_apply]

/-- The score of a query of a chunk and a key of its band, minus infinity before the sequence. -/
theorem scores_apply (q k : FVec Ideal S16x2048x16x64 .f32) (rb : FVec Ideal S16x320 .f32) (b : Fin 16) (c : Fin 32) (h : Fin 16) (a : Fin 64) (j : Fin 576) :
    scores q k rb (ix5 b c h a j) = if hp : 512 ≤ 64 * c.val + j.val then
      (∑ e : Fin 64, q (ix4 b ⟨64 * c.val + a.val, by omega⟩ h e) * k (ix4 b ⟨64 * c.val + j.val - 512, by omega⟩ h e)) + rb (ix2 h (relIdx a j)) else ⊥ := by
  have hc : id (constant (F := Ideal) S_ .f32 0xFF800000#32) ix0 = (⊥ : EReal) := Softmax.ofBits_negInf
  have e : c.val * 64 + a.val = 64 * c.val + a.val := by omega
  pointwise [scores, band_apply, bias_apply, posWords_apply]
  rw [Words.select_reached _ (by omega)]
  simp only [hc, e]
  by_cases hp : 512 ≤ 64 * c.val + j.val
  · simp only [hp, if_true, dite_true]
  · simp only [hp, if_false, dite_false]

end Cert.ReferenceIdeal.Band

end

end
-- ==== Proof.RefExp.lean ====
module

public import proofs.«01_k».proof.Proof.RefDefs
public import proofs.«01_k».proof.Proof.Words
public import proofs.«01_k».proof.Proof.Softmax
public import Idealize.ShloMosaic.Lib.Pointwise
public import Idealize.ShloMosaic.Lib.Pipeline.ValueKit

@[expose] public section

set_option maxRecDepth 16384

noncomputable section

namespace Cert.ReferenceIdeal.Band

open Cert.ReferenceIdeal Cert.ReferenceIdeal.Value Idealize.ShloMosaic Idealize.ShloMosaic.TcCoe Idealize.SL.Sem
open Cert.ReferenceIdeal.Gen
open Cert.Words (relIdx)

/-- The largest score of a row. -/
theorem rowMax_apply (s : FVec Ideal S16x32x16x64x576 .f32) (b : Fin 16) (c : Fin 32) (h : Fin 16) (a : Fin 64) :
    rowMax s (ix4 b c h a) = ⨆ j : Fin 576, s (ix5 b c h a j) := by
  have e : rowMax s (ix4 b c h a) = Finset.univ.fold max (Ideal.ofBits .f32 0xFF800000#32) fun j : Fin 576 => s (ix5 b c h a j) := by
    unfold rowMax
    pointwise []
  rw [e, Softmax.ofBits_negInf]
  exact Softmax.fold_max_eq_iSup _

/-- One exponential, over any values per row. -/
theorem exp_apply (s : FVec Ideal S16x32x16x64x576 .f32) (r : FVec Ideal S16x32x16x64 .f32) (b : Fin 16) (c : Fin 32) (h : Fin 16) (a : Fin 64) (j : Fin 576) :
    Host.exp (subf s (broadcastInDim S16x32x16x64x576 ![0, 1, 2, 3, 4] bcast_S16x32x16x64x1_S16x32x16x64x576_0_1_2_3_4 (broadcastInDim S16x32x16x64x1 ![0, 1, 2, 3] bcast_S16x32x16x64_S16x32x16x64x1_0_1_2_3 (maximumf (broadcastInDim S16x32x16x64 ![] bcast_S_S16x32x16x64 (constant S_ .f32 0xFF800000#32)) r)))) (ix5 b c h a j) = Ideal.exp (s (ix5 b c h a j) - r (ix4 b c h a)) := by
  pointwise []
  rw [Softmax.ofBits_negInf, bot_sup_eq]

/-- One exponential of the softmax. -/
theorem expScores_apply (s : FVec Ideal S16x32x16x64x576 .f32) (b : Fin 16) (c : Fin 32) (h : Fin 16) (a : Fin 64) (j : Fin 576) :
    expScores s (ix5 b c h a j) = Ideal.exp (s (ix5 b c h a j) - ⨆ j, s (ix5 b c h a j)) := by
  rw [expScores, exp_apply, rowMax_apply]

end Cert.ReferenceIdeal.Band

end

end
-- ==== Proof.RefSoft.lean ====
module

public import proofs.«01_k».proof.Proof.RefExp
public import proofs.«01_k».proof.Proof.Words
public import proofs.«01_k».proof.Proof.Softmax
public import Idealize.ShloMosaic.Lib.Pointwise
public import Idealize.ShloMosaic.Lib.Pipeline.ValueKit

@[expose] public section

set_option maxRecDepth 16384

noncomputable section

namespace Cert.ReferenceIdeal.Band

open Cert.ReferenceIdeal Cert.ReferenceIdeal.Value Idealize.ShloMosaic Idealize.ShloMosaic.TcCoe Idealize.SL.Sem
open Cert.ReferenceIdeal.Gen
open Cert.Words (relIdx)

/-- One weight of the softmax. -/
theorem weights_apply (s : FVec Ideal S16x32x16x64x576 .f32) (b : Fin 16) (c : Fin 32) (h : Fin 16) (a : Fin 64) (j : Fin 576) :
    weights s (ix5 b c h a j) = Ideal.div (Ideal.exp (s (ix5 b c h a j) - ⨆ j, s (ix5 b c h a j)))
      (∑ i, Ideal.exp (s (ix5 b c h a i) - ⨆ j, s (ix5 b c h a j))) := by
  pointwise [weights, expScores_apply]

end Cert.ReferenceIdeal.Band

end

end
-- ==== Proof.RefOut.lean ====
module

public import proofs.«01_k».proof.Proof.RefDefs
public import proofs.«01_k».proof.Proof.Words
public import proofs.«01_k».proof.Proof.Softmax
public import Idealize.ShloMosaic.Lib.Pointwise
public import Idealize.ShloMosaic.Lib.Pipeline.ValueKit

@[expose] public section

set_option maxRecDepth 16384

noncomputable section

namespace Cert.ReferenceIdeal.Band

open Cert.ReferenceIdeal Cert.ReferenceIdeal.Value Idealize.ShloMosaic Idealize.ShloMosaic.TcCoe Idealize.SL.Sem
open Cert.ReferenceIdeal.Gen
open Cert.Words (relIdx)

/-- One entry of the attention's output. -/
theorem attention_apply (q k v : FVec Ideal S16x2048x16x64 .f32) (rb : FVec Ideal S16x320 .f32) (b : Fin 16) (c : Fin 32) (a : Fin 64) (h : Fin 16) (e : Fin 64) :
    attention q k v rb (ix2 ⟨2048 * b.val + 64 * c.val + a.val, by omega⟩ ⟨64 * h.val + e.val, by omega⟩)
      = ∑ j : Fin 576, band v (ix5 b c j h e) * weights (scores q k rb) (ix5 b c h a j) := by
  pointwise [attention]

end Cert.ReferenceIdeal.Band

end

end
-- ==== Proof.Band.lean ====
module

public import proofs.«01_k».proof.Proof.HeadValue
public import proofs.«01_k».proof.Proof.HostValue
public import proofs.«01_k».proof.Proof.RefScores
public import proofs.«01_k».proof.Proof.RefSoft
public import proofs.«01_k».proof.Proof.RefOut

@[expose] public section

set_option maxRecDepth 16384

noncomputable section

namespace Cert.KernelIdeal.Band

open Cert.KernelIdeal Cert.KernelIdeal.Gen Idealize.ShloMosaic Idealize.SL.Sem
open Cert.Words (relIdx)
open Cert.ReferenceIdeal.Band (attention scores band scores_apply band_apply)

/-! ## One head of one tile of queries is the reference's softmax over the bands -/

/-- The key of the three tiles at which key `j` of the band of chunk `a` of a tile of queries stands. -/
def place (a : Fin 4) (j : Fin 576) : Fin 3 × Fin 256 := (⟨(64 * a.val + j.val) / 256, by omega⟩, ⟨(64 * a.val + j.val) % 256, by omega⟩)

/-- Different keys of a band stand at different places. -/
theorem place_injective (a : Fin 4) : Function.Injective (place a) := by
  intro j j' h
  have h1 : (64 * a.val + j.val) / 256 = (64 * a.val + j'.val) / 256 := congrArg (fun p : Fin 3 × Fin 256 => p.1.val) h
  have h2 : (64 * a.val + j.val) % 256 = (64 * a.val + j'.val) % 256 := congrArg (fun p : Fin 3 × Fin 256 => p.2.val) h
  apply Fin.ext
  omega

/-- A key of the three tiles stands at a place of the band when its number lies within the band. -/
theorem mem_place (a : Fin 4) (p : Fin 3 × Fin 256) (h1 : 64 * a.val ≤ 256 * p.1.val + p.2.val) (h2 : 256 * p.1.val + p.2.val < 64 * a.val + 576) :
    p ∈ Set.range (place a) := by
  refine ⟨⟨256 * p.1.val + p.2.val - 64 * a.val, by omega⟩, Prod.ext (Fin.ext ?_) (Fin.ext ?_)⟩
  · show (64 * a.val + (256 * p.1.val + p.2.val - 64 * a.val)) / 256 = p.1.val
    omega
  · show (64 * a.val + (256 * p.1.val + p.2.val - 64 * a.val)) % 256 = p.2.val
    omega

section

variable (Q K W : FVec Ideal S16x2048x16x64 .f32) (rb : FVec Ideal S16x320 .f32)

/-- With finite queries, keys and biases no score is infinite but those before the sequence. -/
theorem scores_real (hQ : ∀ x, ∃ r : ℝ, Q x = r) (hK : ∀ x, ∃ r : ℝ, K x = r) (hR : ∀ x, ∃ r : ℝ, rb x = r)
    (b : Fin 16) (c : Fin 32) (h : Fin 16) (a : Fin 64) (j : Fin 576) (hp : 512 ≤ 64 * c.val + j.val) :
    ∃ r : ℝ, scores Q K rb (ix5 b c h a j) = r := by
  choose fq hfq using hQ
  choose fk hfk using hK
  choose fr hfr using hR
  rw [scores_apply, dif_pos hp]
  refine ⟨(∑ e : Fin 64, fq (ix4 b ⟨64 * c.val + a.val, by omega⟩ h e) * fk (ix4 b ⟨64 * c.val + j.val - 512, by omega⟩ h e)) + fr (ix2 h (relIdx a j)), ?_⟩
  rw [EReal.coe_add, ← Softmax.coe_sum, hfr]
  congr 1
  refine Finset.sum_congr rfl fun e _ => ?_
  rw [hfq, hfk, EReal.coe_mul]

variable (b : Fin 16) (i : Fin 8) (h : Fin 16) (hh : Fin 2) (l : Fin 256)
  (q : FVec Ideal S256x128 .bf16) (k v : Fin 3 → FVec Ideal S256x128 .bf16) (bb : Fin 3 → FVec Ideal S1x256x256 .f32)

/-- The tile's score at a key of the band is the reference's score. -/
theorem score_place
    (hq : ∀ d : Fin 64, q (ix2 l ⟨64 * hh.val + d.val, by omega⟩) = Q (ix4 b ⟨256 * i.val + l.val, by omega⟩ h d))
    (hk : ∀ (j : Fin 3) (r : Fin 256) (d : Fin 64) (hj : 2 ≤ i.val + j.val),
      k j (ix2 r ⟨64 * hh.val + d.val, by omega⟩) = K (ix4 b ⟨256 * (i.val + j.val - 2) + r.val, by omega⟩ h d))
    (hb : ∀ (j : Fin 3) (r : Fin 256), bb j (ix3 0 r l) = biasTable rb (ix3 h ⟨256 * j.val + r.val, by omega⟩ l)) (j : Fin 576) :
    score hh (BitVec.ofNat 32 i.val) q k bb l (place ⟨l.val / 64, by omega⟩ j)
      = scores Q K rb (ix5 b ⟨4 * i.val + l.val / 64, by omega⟩ h ⟨l.val % 64, by omega⟩ j) := by
  rw [scores_apply]
  unfold score
  rw [Words.toInt_small _ (by omega)]
  by_cases hp : 512 ≤ 64 * (4 * i.val + l.val / 64) + j.val
  · rw [dif_pos hp, if_pos (by show 2 - (((64 * (l.val / 64) + j.val) / 256 : ℕ) : ℤ) ≤ (i.val : ℤ); omega), hb, biasTable_apply,
      dif_pos (by show 64 * (l.val / 64) ≤ 256 * ((64 * (l.val / 64) + j.val) / 256) + (64 * (l.val / 64) + j.val) % 256 ∧ 256 * ((64 * (l.val / 64) + j.val) / 256) + (64 * (l.val / 64) + j.val) % 256 < _; omega)]
    congr 1
    · refine Finset.sum_congr rfl fun d _ => ?_
      rw [hq, hk _ _ _ (by show 2 ≤ i.val + (64 * (l.val / 64) + j.val) / 256; omega), mul_comm]
      have e1 : (⟨256 * i.val + l.val, by omega⟩ : Fin 2048) = ⟨64 * (4 * i.val + l.val / 64) + l.val % 64, by omega⟩ := by
        apply Fin.ext; dsimp only; omega
      have e2 : (⟨256 * (i.val + (64 * (l.val / 64) + j.val) / 256 - 2) + (64 * (l.val / 64) + j.val) % 256, by omega⟩ : Fin 2048)
          = ⟨64 * (4 * i.val + l.val / 64) + j.val - 512, by omega⟩ := by
        apply Fin.ext; dsimp only; omega
      rw [e1]
      exact congrArg (fun n : Fin 2048 => _ * K (ix4 b n h d)) e2
    · refine rel_congr rb h rfl ?_
      show 256 * ((64 * (l.val / 64) + j.val) / 256) + (64 * (l.val / 64) + j.val) % 256 - 64 * (l.val / 64) = j.val
      omega
  · rw [dif_neg hp, if_neg (by show ¬ 2 - (((64 * (l.val / 64) + j.val) / 256 : ℕ) : ℤ) ≤ (i.val : ℤ); omega)]

/-- Away from the band the tile's score is minus infinity. -/
theorem score_off (hb : ∀ (j : Fin 3) (r : Fin 256), bb j (ix3 0 r l) = biasTable rb (ix3 h ⟨256 * j.val + r.val, by omega⟩ l))
    (p : Fin 3 × Fin 256) (hp : p ∉ Set.range (place ⟨l.val / 64, by omega⟩)) :
    score hh (BitVec.ofNat 32 i.val) q k bb l p = ⊥ := by
  have hn : ¬ (64 * (l.val / 64) ≤ 256 * p.1.val + p.2.val ∧ 256 * p.1.val + p.2.val < 64 * (l.val / 64) + 576) :=
    fun hx => hp (mem_place ⟨l.val / 64, by omega⟩ p hx.1 hx.2)
  unfold score
  split
  · rw [hb, biasTable_apply, dif_neg hn, EReal.add_bot]
  · rfl

/-- One lane of one head of a tile of queries is the reference's output there. -/
theorem head_value (hQ : ∀ x, ∃ r : ℝ, Q x = r) (hK : ∀ x, ∃ r : ℝ, K x = r) (hR : ∀ x, ∃ r : ℝ, rb x = r)
    (hq : ∀ d : Fin 64, q (ix2 l ⟨64 * hh.val + d.val, by omega⟩) = Q (ix4 b ⟨256 * i.val + l.val, by omega⟩ h d))
    (hk : ∀ (j : Fin 3) (r : Fin 256) (d : Fin 64) (hj : 2 ≤ i.val + j.val),
      k j (ix2 r ⟨64 * hh.val + d.val, by omega⟩) = K (ix4 b ⟨256 * (i.val + j.val - 2) + r.val, by omega⟩ h d))
    (hv : ∀ (j : Fin 3) (r : Fin 256) (d : Fin 64) (hj : 2 ≤ i.val + j.val),
      v j (ix2 r ⟨64 * hh.val + d.val, by omega⟩) = W (ix4 b ⟨256 * (i.val + j.val - 2) + r.val, by omega⟩ h d))
    (hb : ∀ (j : Fin 3) (r : Fin 256), bb j (ix3 0 r l) = biasTable rb (ix3 h ⟨256 * j.val + r.val, by omega⟩ l)) (e : Fin 64) :
    headBlock (half hh) (BitVec.ofNat 32 i.val) q (k 0) (k 1) (k 2) (v 0) (v 1) (v 2) (bb 0) (bb 1) (bb 2) (ix2 ⟨64 * hh.val + e.val, by omega⟩ l)
      = attention Q K W rb (ix2 ⟨2048 * b.val + 64 * (4 * i.val + l.val / 64) + l.val % 64, by omega⟩ ⟨64 * h.val + e.val, by omega⟩) := by
  rw [headBlock_apply hh _ (by rw [Words.toInt_small _ (by omega)]; omega) q k v bb _ l (by dsimp only; omega)]
  refine Eq.trans ?_ (ReferenceIdeal.Band.attention_apply Q K W rb b ⟨4 * i.val + l.val / 64, by omega⟩ ⟨l.val % 64, by omega⟩ h e).symm
  simp only [ReferenceIdeal.Band.weights_apply]
  have hreal := scores_real Q K rb hQ hK hR b ⟨4 * i.val + l.val / 64, by omega⟩ h ⟨l.val % 64, by omega⟩
  have hbot : ∀ j : Fin 576, ¬ 512 ≤ 64 * (4 * i.val + l.val / 64) + j.val →
      scores Q K rb (ix5 b ⟨4 * i.val + l.val / 64, by omega⟩ h ⟨l.val % 64, by omega⟩ j) = ⊥ := fun j hj => by
    rw [scores_apply, dif_neg hj]
  refine Softmax.embed (place ⟨l.val / 64, by omega⟩) (place_injective _) _ (fun p => v p.1 (ix2 p.2 ⟨64 * hh.val + e.val, by omega⟩)) _
    (fun j => band W (ix5 b ⟨4 * i.val + l.val / 64, by omega⟩ j h e))
    (score_place Q K rb b i h hh l q k bb hq hk hb) (score_off rb i h hh l q k bb hb) ?_ ?_ ⟨512, by omega⟩ ?_
  · intro j hj
    have hp : 512 ≤ 64 * (4 * i.val + l.val / 64) + j.val := by
      by_contra hn
      exact hj (hbot j hn)
    refine Eq.trans ?_ (ReferenceIdeal.Band.band_apply W b _ j h e).symm
    rw [dif_pos hp]
    refine (hv _ _ e (by show 2 ≤ i.val + (64 * (l.val / 64) + j.val) / 256; omega)).trans ?_
    have e2 : (⟨256 * (i.val + (64 * (l.val / 64) + j.val) / 256 - 2) + (64 * (l.val / 64) + j.val) % 256, by omega⟩ : Fin 2048)
        = ⟨64 * (4 * i.val + l.val / 64) + j.val - 512, by omega⟩ := by
      apply Fin.ext; dsimp only; omega
    exact congrArg (fun n : Fin 2048 => W (ix4 b n h e)) e2
  · intro j
    by_cases hp : 512 ≤ 64 * (4 * i.val + l.val / 64) + j.val
    · obtain ⟨r, hr⟩ := hreal j hp
      rw [hr]
      exact EReal.coe_ne_top r
    · rw [hbot j hp]
      exact bot_ne_top
  · obtain ⟨r, hr⟩ := hreal ⟨512, by omega⟩ (by dsimp only; omega)
    rw [hr]
    exact EReal.coe_ne_bot r

end

end Cert.KernelIdeal.Band

end

end
-- ==== Proof.Pair.lean ====
module

public import proofs.«01_k».proof.Proof.Band
public import Idealize.ShloMosaic.Lib.Pointwise
public import Idealize.ShloMosaic.Lib.Pipeline.ValueKit

@[expose] public section

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)
open Cert.ReferenceIdeal.Band (attention)

/-! ## A pair of heads of one tile of queries -/

/-- An entry of an array depends on its four coordinates only. -/
theorem entry_congr (X : FVec Ideal S16x2048x16x64 .f32) {b b' : Fin 16} {n n' : Fin 2048} {h h' : Fin 16} {e e' : Fin 64}
    (hb : b.val = b'.val) (hn : n.val = n'.val) (hh : h.val = h'.val) (he : e.val = e'.val) : X (ix4 b n h e) = X (ix4 b' n' h' e') := by
  rw [Fin.ext hb, Fin.ext hn, Fin.ext hh, Fin.ext he]

section

variable (Q K W : FVec Ideal S16x2048x16x64 .f32) (rb : FVec Ideal S16x320 .f32) (b : Fin 16) (i hp : Fin 8)

/-- A block of 128 lanes of one of the three arrays: the two heads' lanes of 256 rows from `256 * n` on. -/
def Lanes (X : FVec Ideal S16x2048x16x64 .f32) (n : ℕ) (x : FVec Ideal S256x128 .bf16) : Prop :=
  ∀ (hn : n < 8) (r : Fin 256) (w : Fin 128),
    x (ix2 r w) = X (ix4 b ⟨256 * n + r.val, by omega⟩ ⟨(128 * hp.val + w.val) / 64, by omega⟩ ⟨(128 * hp.val + w.val) % 64, by omega⟩)

/-- One tile of keys of the bias of one of the two heads. -/
def Biases (hh : Fin 2) (j : Fin 3) (x : FVec Ideal S1x256x256 .f32) : Prop :=
  ∀ (r l : Fin 256), x (ix3 0 r l) = biasTable rb (ix3 ⟨2 * hp.val + hh.val, by omega⟩ ⟨256 * j.val + r.val, by omega⟩ l)

/-- The lanes of one head within its pair. -/
theorem Lanes.head {X : FVec Ideal S16x2048x16x64 .f32} {n : ℕ} {x : FVec Ideal S256x128 .bf16} (hx : Lanes b hp X n x) (hn : n < 8) (hh : Fin 2)
    (r : Fin 256) (d : Fin 64) : x (ix2 r ⟨64 * hh.val + d.val, by omega⟩) = X (ix4 b ⟨256 * n + r.val, by omega⟩ ⟨2 * hp.val + hh.val, by omega⟩ d) := by
  rw [hx hn]
  exact entry_congr X rfl rfl (by dsimp only; omega) (by dsimp only; omega)

variable {Q K W rb b i hp}

/-- The lanes of the pair's head `hh` hold the reference's output. -/
theorem pair_head (hQ : ∀ x, ∃ r : ℝ, Q x = r) (hK : ∀ x, ∃ r : ℝ, K x = r) (hR : ∀ x, ∃ r : ℝ, rb x = r)
    {q k0 k1 k2 v0 v1 v2 : FVec Ideal S256x128 .bf16} {c0 c1 c2 : FVec Ideal S1x256x256 .f32}
    (hq : Lanes b hp Q i.val q) (hk0 : Lanes b hp K (i.val - 2) k0) (hk1 : Lanes b hp K (i.val - 1) k1) (hk2 : Lanes b hp K i.val k2)
    (hv0 : Lanes b hp W (i.val - 2) v0) (hv1 : Lanes b hp W (i.val - 1) v1) (hv2 : Lanes b hp W i.val v2) (hh : Fin 2)
    (h0 : Biases rb hp hh 0 c0) (h1 : Biases rb hp hh 1 c1) (h2 : Biases rb hp hh 2 c2) (l : Fin 256) (e : Fin 64) :
    headBlock (half hh) (BitVec.ofNat 32 i.val) q k0 k1 k2 v0 v1 v2 c0 c1 c2 (ix2 ⟨64 * hh.val + e.val, by omega⟩ l)
      = attention Q K W rb (ix2 ⟨2048 * b.val + 64 * (4 * i.val + l.val / 64) + l.val % 64, by omega⟩ ⟨64 * (2 * hp.val + hh.val) + e.val, by omega⟩) := by
  refine head_value Q K W rb b i ⟨2 * hp.val + hh.val, by omega⟩ hh l q ![k0, k1, k2] ![v0, v1, v2] ![c0, c1, c2] hQ hK hR
    (fun d => hq.head _ _ i.isLt hh l d) ?_ ?_ ?_ e
  · intro j r d hj
    match j with
    | ⟨0, _⟩ => exact (hk0.head _ _ (by omega) hh r d).trans (entry_congr K rfl (by dsimp only; omega) rfl rfl)
    | ⟨1, _⟩ => exact (hk1.head _ _ (by omega) hh r d).trans (entry_congr K rfl (by dsimp only; omega) rfl rfl)
    | ⟨2, _⟩ => exact (hk2.head _ _ (by omega) hh r d).trans (entry_congr K rfl (by dsimp only; omega) rfl rfl)
  · intro j r d hj
    match j with
    | ⟨0, _⟩ => exact (hv0.head _ _ (by omega) hh r d).trans (entry_congr W rfl (by dsimp only; omega) rfl rfl)
    | ⟨1, _⟩ => exact (hv1.head _ _ (by omega) hh r d).trans (entry_congr W rfl (by dsimp only; omega) rfl rfl)
    | ⟨2, _⟩ => exact (hv2.head _ _ (by omega) hh r d).trans (entry_congr W rfl (by dsimp only; omega) rfl rfl)
  · intro j r
    match j with
    | ⟨0, _⟩ => exact h0 r l
    | ⟨1, _⟩ => exact h1 r l
    | ⟨2, _⟩ => exact h2 r l

/-- The block stored for a pair of heads holds the reference's output. -/
theorem pair_value (hQ : ∀ x, ∃ r : ℝ, Q x = r) (hK : ∀ x, ∃ r : ℝ, K x = r) (hR : ∀ x, ∃ r : ℝ, rb x = r)
    {q k0 k1 k2 v0 v1 v2 : FVec Ideal S256x128 .bf16} {c0 c1 c2 c3 c4 c5 : FVec Ideal S1x256x256 .f32}
    (hq : Lanes b hp Q i.val q) (hk0 : Lanes b hp K (i.val - 2) k0) (hk1 : Lanes b hp K (i.val - 1) k1) (hk2 : Lanes b hp K i.val k2)
    (hv0 : Lanes b hp W (i.val - 2) v0) (hv1 : Lanes b hp W (i.val - 1) v1) (hv2 : Lanes b hp W i.val v2)
    (h0 : Biases rb hp 0 0 c0) (h1 : Biases rb hp 0 1 c1) (h2 : Biases rb hp 0 2 c2)
    (h3 : Biases rb hp 1 0 c3) (h4 : Biases rb hp 1 1 c4) (h5 : Biases rb hp 1 2 c5) (l : Fin 256) (w : Fin 128) :
    pairBlock (BitVec.ofNat 32 i.val) q k0 k1 k2 v0 v1 v2 c0 c1 c2 c3 c4 c5 (ix2 l w)
      = attention Q K W rb (ix2 ⟨2048 * b.val + (256 * i.val + l.val), by omega⟩ ⟨128 * hp.val + w.val, by omega⟩) := by
  have er : (⟨2048 * b.val + (256 * i.val + l.val), by omega⟩ : Fin 32768) = ⟨2048 * b.val + 64 * (4 * i.val + l.val / 64) + l.val % 64, by omega⟩ := by
    apply Fin.ext; dsimp only; omega
  rw [pairBlock_apply, er]
  by_cases hw : w.val / 64 = 0
  · have ew : w = ⟨64 * (0 : Fin 2).val + (⟨w.val, by omega⟩ : Fin 64).val, by dsimp only; omega⟩ := by
      apply Fin.ext; show w.val = 64 * 0 + w.val; omega
    have ec : (⟨128 * hp.val + w.val, by omega⟩ : Fin 1024) = ⟨64 * (2 * hp.val + (0 : Fin 2).val) + (⟨w.val, by omega⟩ : Fin 64).val, by dsimp only; omega⟩ := by
      apply Fin.ext; show 128 * hp.val + w.val = 64 * (2 * hp.val + 0) + w.val; omega
    rw [if_pos hw, ec]
    refine Eq.trans ?_ (pair_head hQ hK hR hq hk0 hk1 hk2 hv0 hv1 hv2 0 h0 h1 h2 l ⟨w.val, by omega⟩)
    exact congrArg (fun w' => headBlock (half 0) (BitVec.ofNat 32 i.val) q k0 k1 k2 v0 v1 v2 c0 c1 c2 (ix2 w' l)) ew
  · have ew : w = ⟨64 * (1 : Fin 2).val + (⟨w.val - 64, by omega⟩ : Fin 64).val, by show 64 * 1 + (w.val - 64) < 128; omega⟩ := by
      apply Fin.ext; show w.val = 64 * 1 + (w.val - 64); omega
    have ec : (⟨128 * hp.val + w.val, by omega⟩ : Fin 1024) = ⟨64 * (2 * hp.val + (1 : Fin 2).val) + (⟨w.val - 64, by omega⟩ : Fin 64).val, by show 64 * (2 * hp.val + 1) + (w.val - 64) < 1024; omega⟩ := by
      apply Fin.ext; show 128 * hp.val + w.val = 64 * (2 * hp.val + 1) + (w.val - 64); omega
    rw [if_neg hw, ec]
    refine Eq.trans ?_ (pair_head hQ hK hR hq hk0 hk1 hk2 hv0 hv1 hv2 1 h3 h4 h5 l ⟨w.val - 64, by omega⟩)
    exact congrArg (fun w' => headBlock (half 1) (BitVec.ofNat 32 i.val) q k0 k1 k2 v0 v1 v2 c3 c4 c5 (ix2 w' l)) ew

end

end Cert.KernelIdeal.Band

end

end
-- ==== Proof.Final.lean ====
module

public import proofs.«01_k».proof.Proof.Pair
public import Idealize.ShloMosaic.Lib.Pointwise
public import Idealize.ShloMosaic.Lib.Pipeline.ValueKit

@[expose] public section

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)
open Cert.ReferenceIdeal.Band (attention)

/-! ## The whole run: every tile of queries, every pair of heads -/

/-- The blocks a grid point reads and the block it writes. -/
theorem idx : ∀ t : Fin cfg0.N, win0_0.index t = ![t.val, 3] ∧ win0_1.index t = ![8 * (t.val / 8) + (t.val % 8 - 2), 4]
    ∧ win0_2.index t = ![8 * (t.val / 8) + (t.val % 8 - 1), 4] ∧ win0_3.index t = ![t.val, 4]
    ∧ win0_4.index t = ![8 * (t.val / 8) + (t.val % 8 - 2), 5]
    ∧ win0_5.index t = ![8 * (t.val / 8) + (t.val % 8 - 1), 5] ∧ win0_6.index t = ![t.val, 5]
    ∧ win0_7.index t = ![0, 0, 0] ∧ win0_8.index t = ![t.val, 0] ∧ (grid0.coords t 1).val = t.val % 8 ∧ t.val / 8 < 16 :=
  (by decide +kernel : ∀ t : Fin grid0.N, _)

variable (m : (ℓ : Loc nD τ sig) → Buf (Elt Ideal) ℓ) (c : Dev nD) (t : Fin cfg0.N)

/-- The batch of a grid point. -/
def batch : Fin 16 := ⟨t.val / 8, (idx t).2.2.2.2.2.2.2.2.2.2⟩

/-- The tile of queries of a grid point. -/
def tile : Fin 8 := ⟨t.val % 8, by omega⟩

/-- A window's block of 128 lanes, from the packed array's row and column it starts at. -/
theorem lanes_of {X : FVec Ideal S16x2048x16x64 .f32} {x : Vec Ideal S256x1024 .bf16} {p : FVec Ideal S32768x8192 .bf16} {n C : ℕ}
    (hC : C + 1024 ≤ 8192)
    (hX : ∀ (r : Fin 32768) (w : Fin 1024), p (ix2 r ⟨C + w.val, by omega⟩)
      = X (ix4 ⟨r.val / 2048, by omega⟩ ⟨r.val % 2048, by omega⟩ ⟨w.val / 64, by omega⟩ ⟨w.val % 64, by omega⟩))
    (hx : ∀ (hn : n < 8) (r : Fin 256) (w : Fin 1024), x (ix2 r w) = p (ix2 ⟨256 * (8 * (batch t).val + n) + r.val, by have := (batch t).isLt; omega⟩ ⟨C + w.val, by omega⟩))
    {hp : Fin 8} {o : ℕ} (ho : o = 128 * hp.val) (inb : ∀ a, (![0, o] : Fin 2 → Nat) a + S256x128.size a ≤ S256x1024.size a) :
    Lanes (batch t) hp X n (View.ld x (Rect.unit (s := S256x1024) ![0, o] S256x128.size inb)) := by
  subst ho
  intro hn r w
  have e : View.ld x (Rect.unit (s := S256x1024) ![0, 128 * hp.val] S256x128.size inb) (ix2 r w) = x (ix2 r ⟨128 * hp.val + w.val, by omega⟩) := by
    refine congrArg x (funext fun a => Fin.ext ?_)
    match a with
    | ⟨0, _⟩ => show 0 + 1 * r.val = r.val; omega
    | ⟨1, _⟩ => show 128 * hp.val + 1 * w.val = 128 * hp.val + w.val; omega
  rw [e, hx hn, hX]
  have hb := (batch t).isLt
  exact entry_congr X (by dsimp only; omega) (by dsimp only; omega) rfl rfl

/-- A window's block of one tile of keys of one head's bias. -/
theorem biases_of {rb : FVec Ideal S16x320 .f32} {x : Vec Ideal S16x768x256 .f32} (hx : x = biasTable rb)
    {hp : Fin 8} (hh : Fin 2) (j : Fin 3) {h o : ℕ} (hh' : h = 2 * hp.val + hh.val) (ho : o = 256 * j.val) (inb : ∀ a, (![h, o, 0] : Fin 3 → Nat) a + S1x256x256.size a ≤ S16x768x256.size a) :
    Biases rb hp hh j (View.ld x (Rect.unit (s := S16x768x256) ![h, o, 0] S1x256x256.size inb)) := by
  subst hh' ho hx
  intro r l
  refine congrArg (biasTable rb) (funext fun a => Fin.ext ?_)
  match a with
  | ⟨0, _⟩ => show 2 * hp.val + hh.val + 1 * 0 = 2 * hp.val + hh.val; omega
  | ⟨1, _⟩ => show 256 * j.val + 1 * r.val = 256 * j.val + r.val; omega
  | ⟨2, _⟩ => show 0 + 1 * l.val = l.val; omega

/-- The lanes of a pair of heads in window 0: the queries of the tile. -/
theorem lanes0 {hp : Fin 8} {o : ℕ} (ho : o = 128 * hp.val) (inb : ∀ a, (![0, o] : Fin 2 → Nat) a + S256x128.size a ≤ S256x1024.size a) :
    Lanes (batch t) hp (m ((c : Thread nD τ).loc main_arg1)) (t.val % 8) (View.ld (iblk m c 0 t) (Rect.unit (s := S256x1024) ![0, o] S256x128.size inb)) := by
  refine lanes_of t (p := V m c main_v4) (C := 3072) (by omega) (fun r w => by rw [packed_eq, packed_query]) (fun hn r w => ?_) ho inb
  have hb : (batch t).val = t.val / 8 := rfl
  blk_ext [iblk, idx t, batch]

/-- The lanes of a pair of heads in window 1: the keys of the tile 2 before. -/
theorem lanes1 {hp : Fin 8} {o : ℕ} (ho : o = 128 * hp.val) (inb : ∀ a, (![0, o] : Fin 2 → Nat) a + S256x128.size a ≤ S256x1024.size a) :
    Lanes (batch t) hp (m ((c : Thread nD τ).loc main_arg2)) (t.val % 8 - 2) (View.ld (iblk m c 1 t) (Rect.unit (s := S256x1024) ![0, o] S256x128.size inb)) := by
  refine lanes_of t (p := V m c main_v4) (C := 4096) (by omega) (fun r w => by rw [packed_eq, packed_key]) (fun hn r w => ?_) ho inb
  have hb : (batch t).val = t.val / 8 := rfl
  blk_ext [iblk, idx t, batch]

/-- The lanes of a pair of heads in window 2: the keys of the tile 1 before. -/
theorem lanes2 {hp : Fin 8} {o : ℕ} (ho : o = 128 * hp.val) (inb : ∀ a, (![0, o] : Fin 2 → Nat) a + S256x128.size a ≤ S256x1024.size a) :
    Lanes (batch t) hp (m ((c : Thread nD τ).loc main_arg2)) (t.val % 8 - 1) (View.ld (iblk m c 2 t) (Rect.unit (s := S256x1024) ![0, o] S256x128.size inb)) := by
  refine lanes_of t (p := V m c main_v4) (C := 4096) (by omega) (fun r w => by rw [packed_eq, packed_key]) (fun hn r w => ?_) ho inb
  have hb : (batch t).val = t.val / 8 := rfl
  blk_ext [iblk, idx t, batch]

/-- The lanes of a pair of heads in window 3: the keys of the tile 0 before. -/
theorem lanes3 {hp : Fin 8} {o : ℕ} (ho : o = 128 * hp.val) (inb : ∀ a, (![0, o] : Fin 2 → Nat) a + S256x128.size a ≤ S256x1024.size a) :
    Lanes (batch t) hp (m ((c : Thread nD τ).loc main_arg2)) (t.val % 8) (View.ld (iblk m c 3 t) (Rect.unit (s := S256x1024) ![0, o] S256x128.size inb)) := by
  refine lanes_of t (p := V m c main_v4) (C := 4096) (by omega) (fun r w => by rw [packed_eq, packed_key]) (fun hn r w => ?_) ho inb
  have hb : (batch t).val = t.val / 8 := rfl
  blk_ext [iblk, idx t, batch]

/-- The lanes of a pair of heads in window 4: the values of the tile 2 before. -/
theorem lanes4 {hp : Fin 8} {o : ℕ} (ho : o = 128 * hp.val) (inb : ∀ a, (![0, o] : Fin 2 → Nat) a + S256x128.size a ≤ S256x1024.size a) :
    Lanes (batch t) hp (m ((c : Thread nD τ).loc main_arg3)) (t.val % 8 - 2) (View.ld (iblk m c 4 t) (Rect.unit (s := S256x1024) ![0, o] S256x128.size inb)) := by
  refine lanes_of t (p := V m c main_v4) (C := 5120) (by omega) (fun r w => by rw [packed_eq, packed_value]) (fun hn r w => ?_) ho inb
  have hb : (batch t).val = t.val / 8 := rfl
  blk_ext [iblk, idx t, batch]

/-- The lanes of a pair of heads in window 5: the values of the tile 1 before. -/
theorem lanes5 {hp : Fin 8} {o : ℕ} (ho : o = 128 * hp.val) (inb : ∀ a, (![0, o] : Fin 2 → Nat) a + S256x128.size a ≤ S256x1024.size a) :
    Lanes (batch t) hp (m ((c : Thread nD τ).loc main_arg3)) (t.val % 8 - 1) (View.ld (iblk m c 5 t) (Rect.unit (s := S256x1024) ![0, o] S256x128.size inb)) := by
  refine lanes_of t (p := V m c main_v4) (C := 5120) (by omega) (fun r w => by rw [packed_eq, packed_value]) (fun hn r w => ?_) ho inb
  have hb : (batch t).val = t.val / 8 := rfl
  blk_ext [iblk, idx t, batch]

/-- The lanes of a pair of heads in window 6: the values of the tile 0 before. -/
theorem lanes6 {hp : Fin 8} {o : ℕ} (ho : o = 128 * hp.val) (inb : ∀ a, (![0, o] : Fin 2 → Nat) a + S256x128.size a ≤ S256x1024.size a) :
    Lanes (batch t) hp (m ((c : Thread nD τ).loc main_arg3)) (t.val % 8) (View.ld (iblk m c 6 t) (Rect.unit (s := S256x1024) ![0, o] S256x128.size inb)) := by
  refine lanes_of t (p := V m c main_v4) (C := 5120) (by omega) (fun r w => by rw [packed_eq, packed_value]) (fun hn r w => ?_) ho inb
  have hb : (batch t).val = t.val / 8 := rfl
  blk_ext [iblk, idx t, batch]

/-- The window of the biases holds the whole table. -/
theorem bias7 : iblk m c 7 t = biasTable (m ((c : Thread nD τ).loc main_arg5)) := by
  rw [← biasTable_eq]
  funext y
  blk_ext [iblk, idx t]

/-- What a grid point stores for one pair of heads is the reference's output there. -/
theorem piece (hQ : ∀ x, ∃ r : ℝ, (m ((c : Thread nD τ).loc main_arg1) : FVec Ideal S16x2048x16x64 .f32) x = (r : EReal))
    (hK : ∀ x, ∃ r : ℝ, (m ((c : Thread nD τ).loc main_arg2) : FVec Ideal S16x2048x16x64 .f32) x = (r : EReal))
    (hR : ∀ x, ∃ r : ℝ, (m ((c : Thread nD τ).loc main_arg5) : FVec Ideal S16x320 .f32) x = (r : EReal))
    (hp : Fin 8) {o h0 h1 : ℕ} (ho : o = 128 * hp.val) (e0 : h0 = 2 * hp.val + (0 : Fin 2).val) (e1 : h1 = 2 * hp.val + (1 : Fin 2).val)
    (inb : ∀ a, (![0, o] : Fin 2 → Nat) a + S256x128.size a ≤ S256x1024.size a)
    (inb00 : ∀ a, (![h0, 0, 0] : Fin 3 → Nat) a + S1x256x256.size a ≤ S16x768x256.size a) (inb01 : ∀ a, (![h0, 256, 0] : Fin 3 → Nat) a + S1x256x256.size a ≤ S16x768x256.size a) (inb02 : ∀ a, (![h0, 512, 0] : Fin 3 → Nat) a + S1x256x256.size a ≤ S16x768x256.size a) (inb10 : ∀ a, (![h1, 0, 0] : Fin 3 → Nat) a + S1x256x256.size a ≤ S16x768x256.size a) (inb11 : ∀ a, (![h1, 256, 0] : Fin 3 → Nat) a + S1x256x256.size a ≤ S16x768x256.size a) (inb12 : ∀ a, (![h1, 512, 0] : Fin 3 → Nat) a + S1x256x256.size a ≤ S16x768x256.size a)
    (l : Fin 256) (w : Fin 128) :
    pairBlock (BitVec.ofNat 32 (grid0.coords t 1).val) (View.ld (iblk m c 0 t) (Rect.unit (s := S256x1024) ![0, o] S256x128.size inb)) (View.ld (iblk m c 1 t) (Rect.unit (s := S256x1024) ![0, o] S256x128.size inb)) (View.ld (iblk m c 2 t) (Rect.unit (s := S256x1024) ![0, o] S256x128.size inb)) (View.ld (iblk m c 3 t) (Rect.unit (s := S256x1024) ![0, o] S256x128.size inb)) (View.ld (iblk m c 4 t) (Rect.unit (s := S256x1024) ![0, o] S256x128.size inb)) (View.ld (iblk m c 5 t) (Rect.unit (s := S256x1024) ![0, o] S256x128.size inb)) (View.ld (iblk m c 6 t) (Rect.unit (s := S256x1024) ![0, o] S256x128.size inb))
      (View.ld (iblk m c 7 t) (Rect.unit (s := S16x768x256) ![h0, 0, 0] S1x256x256.size inb00)) (View.ld (iblk m c 7 t) (Rect.unit (s := S16x768x256) ![h0, 256, 0] S1x256x256.size inb01)) (View.ld (iblk m c 7 t) (Rect.unit (s := S16x768x256) ![h0, 512, 0] S1x256x256.size inb02)) (View.ld (iblk m c 7 t) (Rect.unit (s := S16x768x256) ![h1, 0, 0] S1x256x256.size inb10)) (View.ld (iblk m c 7 t) (Rect.unit (s := S16x768x256) ![h1, 256, 0] S1x256x256.size inb11)) (View.ld (iblk m c 7 t) (Rect.unit (s := S16x768x256) ![h1, 512, 0] S1x256x256.size inb12)) (ix2 l w)
      = attention (m ((c : Thread nD τ).loc main_arg1)) (m ((c : Thread nD τ).loc main_arg2)) (m ((c : Thread nD τ).loc main_arg3)) (m ((c : Thread nD τ).loc main_arg5))
          (ix2 ⟨2048 * (batch t).val + (256 * (t.val % 8) + l.val), by have := (batch t).isLt; omega⟩ ⟨128 * hp.val + w.val, by omega⟩) := by
  rw [(idx t).2.2.2.2.2.2.2.2.2.1]
  exact pair_value (i := tile t) hQ hK hR (lanes0 m c t ho inb) (lanes1 m c t ho inb) (lanes2 m c t ho inb) (lanes3 m c t ho inb)
    (lanes4 m c t ho inb) (lanes5 m c t ho inb) (lanes6 m c t ho inb)
    (biases_of (bias7 m c t) 0 0 e0 rfl inb00) (biases_of (bias7 m c t) 0 1 e0 rfl inb01) (biases_of (bias7 m c t) 0 2 e0 rfl inb02)
    (biases_of (bias7 m c t) 1 0 e1 rfl inb10) (biases_of (bias7 m c t) 1 1 e1 rfl inb11) (biases_of (bias7 m c t) 1 2 e1 rfl inb12) l w

set_option maxHeartbeats 1600000 in
/-- After the run the output array is the reference's output. -/
theorem final (hQ : ∀ x, ∃ r : ℝ, (m ((c : Thread nD τ).loc main_arg1) : FVec Ideal S16x2048x16x64 .f32) x = (r : EReal))
    (hK : ∀ x, ∃ r : ℝ, (m ((c : Thread nD τ).loc main_arg2) : FVec Ideal S16x2048x16x64 .f32) x = (r : EReal))
    (hR : ∀ x, ∃ r : ℝ, (m ((c : Thread nD τ).loc main_arg5) : FVec Ideal S16x320 .f32) x = (r : EReal)) :
    (dats m 0 c).arrAt 8 (cfgs 0).N = attention (m ((c : Thread nD τ).loc main_arg1)) (m ((c : Thread nD τ).loc main_arg2)) (m ((c : Thread nD τ).loc main_arg3)) (m ((c : Thread nD τ).loc main_arg5)) := by
  refine (dats m 0 c).arrAt_eq_of_covers 8 _ (by decide +kernel) fun t hf y => ?_
  blk_simp
  rw [after0_8, out_pieces]
  canon_tiles x h
  · idx_vars x
    refine (piece m c t hQ hK hR 7 rfl rfl rfl _ _ _ _ _ _ _ _ _).trans ?_
    blk_ext [idx t, batch]
  · idx_vars x
    refine (piece m c t hQ hK hR 6 rfl rfl rfl _ _ _ _ _ _ _ _ _).trans ?_
    blk_ext [idx t, batch]
  · idx_vars x
    refine (piece m c t hQ hK hR 5 rfl rfl rfl _ _ _ _ _ _ _ _ _).trans ?_
    blk_ext [idx t, batch]
  · idx_vars x
    refine (piece m c t hQ hK hR 4 rfl rfl rfl _ _ _ _ _ _ _ _ _).trans ?_
    blk_ext [idx t, batch]
  · idx_vars x
    refine (piece m c t hQ hK hR 3 rfl rfl rfl _ _ _ _ _ _ _ _ _).trans ?_
    blk_ext [idx t, batch]
  · idx_vars x
    refine (piece m c t hQ hK hR 2 rfl rfl rfl _ _ _ _ _ _ _ _ _).trans ?_
    blk_ext [idx t, batch]
  · idx_vars x
    refine (piece m c t hQ hK hR 1 rfl rfl rfl _ _ _ _ _ _ _ _ _).trans ?_
    blk_ext [idx t, batch]
  · idx_vars x
    refine (piece m c t hQ hK hR 0 rfl rfl rfl _ _ _ _ _ _ _ _ _).trans ?_
    blk_ext [idx t, batch]

end Cert.KernelIdeal.Band

end

end
-- ==== Proof.Finite.lean ====
module

public import proofs.«01_k».proof.Pre_finite_inputs
public import proofs.«01_k».proof.Proof.Softmax
public import Idealize.ShloMosaic.Lib.Pointwise

@[expose] public section

noncomputable section

namespace Cert.Pre_finite_inputs

open Idealize.ShloMosaic

/-! ## What the precondition says of the arrays it reads -/

/-- The shapes the precondition's broadcasts take. -/
theorem facts : Facts := ⟨by decide, by decide⟩

/-- An extended real whose absolute value is below infinity is a real number. -/
theorem real_of_abs_lt {x : EReal} (h : max x (-x) < ⊤) : ∃ r : ℝ, x = (r : EReal) := by
  induction x with
  | bot => simp at h
  | top => simp at h
  | coe r => exact ⟨r, rfl⟩

/-- An array whose absolute values all compare below infinity holds real numbers. -/
theorem real_of_ones {s : Shape} (b : (⟨0, ![]⟩ : Shape).BroadcastsInDim s (![] : Fin 0 → Fin s.rank)) (x : FVec Ideal s .f32)
    (h : cmpf .olt (Host.absf x) (broadcastInDim s ![] b (constant ⟨0, ![]⟩ .f32 0x7F800000#32)) = fun _ => 1#1) (i : s.Idx) :
    ∃ r : ℝ, x i = (r : EReal) := by
  have e : Ideal.cmp .olt (max (x i : EReal) (-(x i : EReal))) (Ideal.ofBits .f32 0x7F800000#32) = 1#1 := congrFun h i
  rw [Cert.Softmax.ofBits_posInf] at e
  refine real_of_abs_lt ?_
  by_contra hn
  simp [Ideal.cmp, hn] at e

end Cert.Pre_finite_inputs

end

end
-- ==== Proof.Experts.lean ====
module

public import proofs.«01_k».proof.Proof.Gen.Kernel2Ideal.Flash.Runs
public import proofs.«01_k».proof.Proof.Gen.Pre_groups_exist
public import Idealize.ShloMosaic.Lib.Pipeline.Quiescent
public import Idealize.ShloMosaic.Lib.Claim

@[expose] public section

set_option maxRecDepth 16384

noncomputable section

/-! The run of the experts kernel for every table of groups: the pipeline takes the table's words as block numbers, and
    at each tile of rows the body either computes the tile's experts or stores zeros. -/

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program's separation logic. -/
abbrev World := MT nD τ sig Unit (Elt Ideal) ℕ (UR sig nD τ) ℕ

/-- The body's two tests of a tile number against the word are each other's negation. -/
theorem tests (i : grid0.Coords) (w : BitVec 32) : k0_cond2 i w = 1#1 ↔ ¬ k0_cond1 i w = 1#1 := by
  unfold k0_cond2 k0_cond1
  simp only [Scalar.cmpi, Scalar.extui, IntOp.cmpi]
  rw [show w.sle (BitVec.ofNat 32 (i 0).val) = !(BitVec.ofNat 32 (i 0).val).slt w from by
    rw [BitVec.sle_eq_decide, BitVec.slt_eq_decide, ← decide_not]; exact decide_eq_decide.2 Int.not_lt.symm]
  generalize (BitVec.ofNat 32 (i 0).val).slt w = b
  cases b <;> decide

/-- A table whose words name the four groups satisfies the pipeline's side condition: every block it names is one of the
    array's. -/
theorem ok_of_lt (pf : pre0.Contents (Elt Ideal)) (h : ∀ x : S68.Idx, BitVec.toNat (pf 0 x : BitVec 32) < 4) : ok0 (F := Ideal) pf := by
  have hv (i : grid0.Coords) : BitVec.toNat (pf.at 0 (Rect.unit (s := S68) ![(Scalar.indexCast (BitVec.ofNat 32 (i 0).val) : Index).toNat] S1.size (k0_off1_inb i)) numel1_S1 : BitVec 32) < 4 := h _
  refine ⟨fun i => ⟨fun a => ?_, .inr (Affine.block_words_dvd (s := S4x8x1024x256) (p := EltTy.packing .bf16) (by decide) (by decide))⟩,
    fun i => ⟨fun a => ?_, .inr (Affine.block_words_dvd (s := S4x8x1024x256) (p := EltTy.packing .bf16) (by decide) (by decide))⟩,
    fun i => ⟨fun a => ?_, .inr (Affine.block_words_dvd (s := S4x8x256x1024) (p := EltTy.packing .bf16) (by decide) (by decide))⟩⟩
  all_goals
    have := hv i
    fin_cases a
    · simp [cc0_transform_1, cc0_transform_2, cc0_transform_3]
      omega
    all_goals simp [cc0_transform_1, cc0_transform_2, cc0_transform_3]

variable (m : (ℓ : Loc nD τ sig) → Buf (Elt Ideal) ℓ) (ρ : Dev nD → PrngReg)

/-- The two tables as the launch memory holds them. -/
def tables : pre0.Contents (Elt Ideal) := fun j => m (((0 : Dev nD) : Thread nD τ).loc (pre0.ref j))

/-- The table of groups, one word per tile. -/
abbrev groups : S68.Idx → Elt Ideal .i32 := m (((0 : Dev nD) : Thread nD τ).loc main_arg0)
/-- The number of tiles in use. -/
abbrev used : S1.Idx → Elt Ideal .i32 := m (((0 : Dev nD) : Thread nD τ).loc main_arg1)

/-- The word the body's tests read. -/
abbrev usedWord : BitVec 32 :=
  View.readAt (Elt Ideal) (tbM0_1).view (Rect.unit (s := S1) ![0] S1.size inb_S1_S1_0).toLoadRect (used m) (Shape.Idx.first (numel1_S1.symm ▸ Nat.one_pos))

variable (hok : ok0 (F := Ideal) (tables m))

/-- The tables with their side condition, and the pipeline at them. -/
def tab : (pcfg0 (F := Ideal)).Adm := ⟨tables m, hok⟩
abbrev pipe : Pipeline.Cfg sig Λ₀ := cfg0 (F := Ideal) (tab m hok)
abbrev pipes : Fin 1 → Pipeline.Cfg sig Λ₀ := Pipeline.pin (pcfgs (F := Ideal)) fun _ => tab m hok

/-- The grid point of position `t`. -/
abbrev pt (t : Fin (pipe m hok).N) : (pipe m hok).grid.Coords := (pipe m hok).grid.coords t

abbrev st0 (t : Fin (pipe m hok).N) : Memref sig .tc .vmem S512x1152 .f32 := spec0_0.stage ((pipe m hok).slots t (0 : Fin 5))
abbrev sw0 (t : Fin (pipe m hok).N) : (st0 m hok t).IsWhole := hstage0_0 (((pipe m hok).slots t (0 : Fin 5)).cast nbuf0_0)
abbrev st1 (t : Fin (pipe m hok).N) : Memref sig .tc .vmem S1x8x1024x256 .bf16 := spec0_1.stage ((pipe m hok).slots t (1 : Fin 5))
abbrev sw1 (t : Fin (pipe m hok).N) : (st1 m hok t).IsWhole := hstage0_1 (((pipe m hok).slots t (1 : Fin 5)).cast nbuf0_1)
abbrev st2 (t : Fin (pipe m hok).N) : Memref sig .tc .vmem S1x8x1024x256 .bf16 := spec0_2.stage ((pipe m hok).slots t (2 : Fin 5))
abbrev sw2 (t : Fin (pipe m hok).N) : (st2 m hok t).IsWhole := hstage0_2 (((pipe m hok).slots t (2 : Fin 5)).cast nbuf0_2)
abbrev st3 (t : Fin (pipe m hok).N) : Memref sig .tc .vmem S1x8x256x1024 .bf16 := spec0_3.stage ((pipe m hok).slots t (3 : Fin 5))
abbrev sw3 (t : Fin (pipe m hok).N) : (st3 m hok t).IsWhole := hstage0_3 (((pipe m hok).slots t (3 : Fin 5)).cast nbuf0_3)
abbrev st4 (t : Fin (pipe m hok).N) : Memref sig .tc .vmem S512x1024 .f32 := spec0_4.stage ((pipe m hok).slots t (4 : Fin 5))
abbrev sw4 (t : Fin (pipe m hok).N) : (st4 m hok t).IsWhole := hstage0_4 (((pipe m hok).slots t (4 : Fin 5)).cast nbuf0_4)

/-- Window `w`'s block at position `t`, as the launch memory holds it. -/
def blockIn (c : Dev nD) (w : Fin (pipe m hok).W) (t : Fin (pipe m hok).N) : (((pipe m hok).win w).xblock (pt m hok t)).Idx → Elt Ideal ((pipe m hok).win w).elt :=
  (((pipe m hok).win w).blk t).view.read (Elt Ideal) ((s₀ m ρ).mem (((pipe m hok).win w).arr.view.loc (c : Thread nD τ)))

/-- The tile of the result that position `t` writes: the experts' where the tile is in use, else zeros. -/
def tileOut (c : Dev nD) (t : Fin (pipe m hok).N) : S512x1024.Idx → Elt Ideal .f32 :=
  if h : k0_cond1 (pt m hok t) (usedWord m) = 1#1 then
    out0_A_4 c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) h
      (fun h2 => (tests _ _).1 h2 h)
  else
    out0_B_4 c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) default h
      ((tests _ _).2 h)

/-- What the body keeps from one position to the next: the scratch buffer at any contents, and its halves of the tables. -/
def keep (c : Dev nD) : sProp World :=
  iprop((∃ a, scM0_0.view.loc (c : Thread nD τ) ↦{fullShare} a) ∗ (tbM0_0.view.loc (c : Thread nD τ) ↦{fullShare.right} groups m) ∗ (tbM0_1.view.loc (c : Thread nD τ) ↦{fullShare.right} used m))

/-- The pipeline's proof data: each window's array at launch, and what each staging buffer holds after each position. -/
def data (_ : Fin 1) (c : Dev nD) : Dat τ (Elt Ideal) Unit ℕ (UR sig nD τ) ℕ (pipe m hok) c where
  A w := (s₀ m ρ).mem (((pipe m hok).win w).arr.view.loc (c : Thread nD τ))
  after w t := match w with
    | ⟨0, _⟩ => blockIn m ρ hok c (0 : Fin 5) t
    | ⟨1, _⟩ => blockIn m ρ hok c (1 : Fin 5) t
    | ⟨2, _⟩ => blockIn m ρ hok c (2 : Fin 5) t
    | ⟨3, _⟩ => blockIn m ρ hok c (3 : Fin 5) t
    | ⟨4, _⟩ => tileOut m ρ hok c t
  Φ _ := keep m c
  q _ := fullShare
  owed _ := 0

theorem after_0 (c : Dev nD) (t : Fin (pipe m hok).N) : (data m ρ hok 0 c).after (0 : Fin 5) t = blockIn m ρ hok c (0 : Fin 5) t := rfl
theorem after_1 (c : Dev nD) (t : Fin (pipe m hok).N) : (data m ρ hok 0 c).after (1 : Fin 5) t = blockIn m ρ hok c (1 : Fin 5) t := rfl
theorem after_2 (c : Dev nD) (t : Fin (pipe m hok).N) : (data m ρ hok 0 c).after (2 : Fin 5) t = blockIn m ρ hok c (2 : Fin 5) t := rfl
theorem after_3 (c : Dev nD) (t : Fin (pipe m hok).N) : (data m ρ hok 0 c).after (3 : Fin 5) t = blockIn m ρ hok c (3 : Fin 5) t := rfl
theorem after_4 (c : Dev nD) (t : Fin (pipe m hok).N) : (data m ρ hok 0 c).after (4 : Fin 5) t = tileOut m ρ hok c t := rfl

/-- An input window's staging buffer holds its block when the body runs. -/
theorem before_0 (c : Dev nD) (t : Fin (pipe m hok).N) (d) : (data m ρ hok 0 c).before (0 : Fin 5) t d = blockIn m ρ hok c (0 : Fin 5) t :=
  ((data m ρ hok 0 c).before_in_eq_fetched (0 : Fin 5) rfl (fun _ => rfl) (fun _ _ _ => rfl) (fun t => by rw [after_0]; rfl) t d).trans rfl
theorem before_1 (c : Dev nD) (t : Fin (pipe m hok).N) (d) : (data m ρ hok 0 c).before (1 : Fin 5) t d = blockIn m ρ hok c (1 : Fin 5) t :=
  ((data m ρ hok 0 c).before_in_eq_fetched (1 : Fin 5) rfl (fun _ => rfl) (fun _ _ _ => rfl) (fun t => by rw [after_1]; rfl) t d).trans rfl
theorem before_2 (c : Dev nD) (t : Fin (pipe m hok).N) (d) : (data m ρ hok 0 c).before (2 : Fin 5) t d = blockIn m ρ hok c (2 : Fin 5) t :=
  ((data m ρ hok 0 c).before_in_eq_fetched (2 : Fin 5) rfl (fun _ => rfl) (fun _ _ _ => rfl) (fun t => by rw [after_2]; rfl) t d).trans rfl
theorem before_3 (c : Dev nD) (t : Fin (pipe m hok).N) (d) : (data m ρ hok 0 c).before (3 : Fin 5) t d = blockIn m ρ hok c (3 : Fin 5) t :=
  ((data m ρ hok 0 c).before_in_eq_fetched (3 : Fin 5) rfl (fun _ => rfl) (fun _ _ _ => rfl) (fun t => by rw [after_3]; rfl) t d).trans rfl

/-- The result's window is stored into at every position. -/
theorem live (t : Fin (pipe m hok).N) : (pipe m hok).idle (4 : Fin 5) ((pipe m hok).grid.coords t) = false := by
  have h (i : grid0.Coords) (w : BitVec 32) : (!(k0_cond1 i w == 1#1) && !(k0_cond2 i w == 1#1)) = false := by
    by_cases hc : k0_cond1 i w = 1#1
    · simp [hc]
    · simp [(tests i w).2 hc]
  exact h _ _

/-- The body of the pipeline at position `t`. -/
abbrev body (t : Fin (pipe m hok).N) : Prog (TpuEff nD τ sig (Elt Ideal) Λ₀ .tc) PUnit :=
  cc0_moe_experts (pt m hok t) (Memref.whole main_arg0) (Memref.isWhole_whole _) (Memref.whole main_arg1) (Memref.isWhole_whole _) (st0 m hok t) (sw0 m hok t) (st1 m hok t) (sw1 m hok t) (st2 m hok t) (sw2 m hok t) (st3 m hok t) (sw3 m hok t) (st4 m hok t) (sw4 m hok t) (Memref.whole cc0_scratch0) (Memref.isWhole_whole _)

set_option maxHeartbeats 4000000 in
/-- At every position the body, from its blocks, leaves the result's tile and the inputs as they were. -/
theorem body_runs (c : Dev nD) (t : Fin (pipe m hok).N) :
    iprop(keep m c ∗ (data m ρ hok 0 c).owesAt () t.castSucc
        ∗ (∃ d, owns (c : Thread nD τ) (st0 m hok t) fullShare ((data m ρ hok 0 c).before (0 : Fin 5) t d))
        ∗ (∃ d, owns (c : Thread nD τ) (st1 m hok t) fullShare ((data m ρ hok 0 c).before (1 : Fin 5) t d))
        ∗ (∃ d, owns (c : Thread nD τ) (st2 m hok t) fullShare ((data m ρ hok 0 c).before (2 : Fin 5) t d))
        ∗ (∃ d, owns (c : Thread nD τ) (st3 m hok t) fullShare ((data m ρ hok 0 c).before (3 : Fin 5) t d))
        ∗ (∃ d, owns (c : Thread nD τ) (st4 m hok t) fullShare ((data m ρ hok 0 c).before (4 : Fin 5) t d)))
      ⊢ wp frame (wpE (defs₀ (F := Ideal)) Variants.none c none) Set.univ (body m hok t) fun _ =>
          iprop(keep m c ∗ (data m ρ hok 0 c).owesAt () t.castSucc
            ∗ owns (c : Thread nD τ) (st0 m hok t) fullShare (blockIn m ρ hok c (0 : Fin 5) t)
            ∗ owns (c : Thread nD τ) (st1 m hok t) fullShare (blockIn m ρ hok c (1 : Fin 5) t)
            ∗ owns (c : Thread nD τ) (st2 m hok t) fullShare (blockIn m ρ hok c (2 : Fin 5) t)
            ∗ owns (c : Thread nD τ) (st3 m hok t) fullShare (blockIn m ρ hok c (3 : Fin 5) t)
            ∗ owns (c : Thread nD τ) (st4 m hok t) fullShare (tileOut m ρ hok c t)) := by
  simp only [before_0, before_1, before_2, before_3]
  unfold keep tileOut
  by_cases h : k0_cond1 (pt m hok t) (usedWord m) = 1#1
  · rw [dif_pos h]
    iintro ⟨⟨⟨%a, Hs⟩, Hg, Hu⟩, Ho, ⟨%d0, H0⟩, ⟨%d1, H1⟩, ⟨%d2, H2⟩, ⟨%d3, H3⟩, ⟨%d4, H4⟩⟩
    iapply ((kernelRun0_A c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) h
      (fun h2 => (tests _ _).1 h2 h)).2.2 a _)
    isplitl [H0]; · iapply rep_of_owns; iexact H0
    isplitl [H1]; · iapply rep_of_owns; iexact H1
    isplitl [H2]; · iapply rep_of_owns; iexact H2
    isplitl [H3]; · iapply rep_of_owns; iexact H3
    isplitl [Hg]; · iexact Hg
    isplitl [Hu]; · iexact Hu
    isplitl [H4]; · iexists _; iexact H4
    isplitl [Hs]; · iexact Hs
    iintro ⟨H0, H1, H2, H3, Hg, Hu, ⟨%e, H4⟩, Hs⟩
    isplitl [Hs Hg Hu]
    · isplitl [Hs]
      · iexists _; iexact Hs
      isplitl [Hg]
      · iexact Hg
      iexact Hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rw [dif_neg h]
    iintro ⟨⟨⟨%a, Hs⟩, Hg, Hu⟩, Ho, ⟨%d0, H0⟩, ⟨%d1, H1⟩, ⟨%d2, H2⟩, ⟨%d3, H3⟩, ⟨%d4, H4⟩⟩
    iapply ((kernelRun0_B c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) a h
      ((tests _ _).2 h)).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [Hg]; · iexact Hg
    isplitl [Hu]; · iexact Hu
    isplitl [H4]; · iexists _; iexact H4
    isplitl [Hs]; · iexact Hs
    iintro ⟨H0, H1, H2, H3, Hg, Hu, ⟨%e, H4⟩, Hs⟩
    isplitl [Hs Hg Hu]
    · isplitl [Hs]
      · iexists _; iexact Hs
      isplitl [Hg]
      · iexact Hg
      iexact Hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ a _ _)

/-- The same with what each window is left holding, as the pipeline states it. -/
theorem body_windows (c : Dev nD) (t : Fin (pipe m hok).N) :
    iprop((data m ρ hok 0 c).Φ t.castSucc ∗ (data m ρ hok 0 c).owesAt () t.castSucc
        ∗ (∃ d, owns (c : Thread nD τ) (st0 m hok t) fullShare ((data m ρ hok 0 c).before (0 : Fin 5) t d))
        ∗ (∃ d, owns (c : Thread nD τ) (st1 m hok t) fullShare ((data m ρ hok 0 c).before (1 : Fin 5) t d))
        ∗ (∃ d, owns (c : Thread nD τ) (st2 m hok t) fullShare ((data m ρ hok 0 c).before (2 : Fin 5) t d))
        ∗ (∃ d, owns (c : Thread nD τ) (st3 m hok t) fullShare ((data m ρ hok 0 c).before (3 : Fin 5) t d))
        ∗ (∃ d, owns (c : Thread nD τ) (st4 m hok t) fullShare ((data m ρ hok 0 c).before (4 : Fin 5) t d)))
      ⊢ wp frame (wpE (defs₀ (F := Ideal)) Variants.none c none) Set.univ (body m hok t) fun _ =>
          iprop((data m ρ hok 0 c).Φ t.succ ∗ (data m ρ hok 0 c).owesAt () t.succ
            ∗ bigSep Finset.univ fun w : Fin (pipe m hok).W =>
                match (pipe m hok).idle w ((pipe m hok).grid.coords t) with
                | true =>
                  match ((pipe m hok).win w).flush t with
                  | false => iprop(∃ d, owns (c : Thread nD τ) (((pipe m hok).win w).stage ((pipe m hok).slots t w)) fullShare ((data m ρ hok 0 c).before w t d))
                  | true => owns (c : Thread nD τ) (((pipe m hok).win w).stage ((pipe m hok).slots t w)) fullShare ((data m ρ hok 0 c).after w t)
                | false => owns (c : Thread nD τ) (((pipe m hok).win w).stage ((pipe m hok).slots t w)) fullShare ((data m ρ hok 0 c).after w t)) := by
  rw [bigSep_W0]
  rewrite [live m hok t]
  exact body_runs m ρ hok c t

/-- The pipeline's body obligation. -/
theorem obligation (c : Dev nD) : BodyObligation (data m ρ hok 0 c) (defs₀ (F := Ideal)) Variants.none () Set.univ := fun t => by
  rw [bigSep_W0]
  exact body_windows m ρ hok c t

/-! The launch. -/

/-- The launch's resources: the staging cells' and their tokens. -/
def start : UR sig nD τ :=
  initOf (Pipeline.cells (pipes m hok) ((launch0 (F := Ideal)).cellOf_inj fun _ => tab m hok))
    (Pipeline.launchToks (pipes m hok) ((launch0 (F := Ideal)).cellOf_inj fun _ => tab m hok))

theorem share_full (c : Dev nD) (w : Fin (pipe m hok).W) : (data m ρ hok 0 c).share w = fullShare := by unfold Dat.share; split <;> rfl

/-- The two tables held, one by one. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp World)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem keep_first (c : Dev nD) :
    iprop(BI.emp ∗ Pipeline.prefHeld pre0 c (fun _ => fullShare.right) (tab m hok).1 ∗ Pipeline.scopedRest spec0 c) ⊢ (data m ρ hok 0 c).Φ 0 := by
  rw [tables_held, scopedRest0_eq, show (data m ρ hok 0 c).Φ 0 = keep m c from rfl]
  unfold keep
  iintro ⟨-, ⟨Hg, Hu⟩, ⟨%a, Hs⟩⟩
  isplitl [Hs]
  · iexists a; iexact Hs
  isplitl [Hg]
  · iexact Hg
  iexact Hu

theorem keep_last (c : Dev nD) : (data m ρ hok 0 c).Φ (Fin.last (pipe m hok).N) ⊢ iprop(BI.emp ∗ Pipeline.scopedRest spec0 c) := by
  rw [scopedRest0_eq, show (data m ρ hok 0 c).Φ (Fin.last (pipe m hok).N) = keep m c from rfl]
  unfold keep
  iintro ⟨⟨%a, Hs⟩, -, -⟩
  isplitr; · iempintro
  iexists a; iexact Hs

/-- Every window's array at what the pipeline computes, the tables as they were. -/
def Post (r : PUnit × MemSt nD τ sig (Elt Ideal)) : Prop :=
  ∀ c : Dev nD, (∀ w : Fin (pipe m hok).W, r.2.mem (((pipe m hok).win w).arr.view.loc (c : Thread nD τ)) = (data m ρ hok 0 c).arrAt w (pipe m hok).N)
    ∧ ∀ j, r.2.mem ((c : Thread nD τ).loc (pre0.ref j)) = (tab m hok).1 j

set_option backward.isDefEq.respectTransparency.types false in
set_option maxHeartbeats 4000000 in
/-- From a launch memory whose table names blocks of the array, the kernel ends with every array at the computed contents and
    every semaphore counter at zero. -/
theorem run : θ_run (defs (F := Ideal)) (onTc (τ := τ) (main (F := Ideal))) (s₀ m ρ) (fun r => Post m ρ hok r ∧ r.2.sem = fun _ => 0) :=
  Pipeline.θ_run_region_noSem_pf_quiescent pcfgs (fun _ => tab m hok) (data m ρ hok) () ((launch0 (F := Ideal)).cellOf_inj fun _ => tab m hok) (0 : Fin 1)
    (launch0 (F := Ideal)).win.to₀ (launch0 (F := Ideal)).pre (emb₁ : Emb (UR sig nD τ) World) defs₀ Variants.none m ρ main
    (hbody := fun c => (obligation m ρ hok c).loose) (hne := (launch0 (F := Ideal)).block_pos)
    (harr := (launch0 (F := Ideal)).arr_whole) (hstage := (launch0 (F := Ideal)).stage_whole) (howed := fun _ _ => rfl)
    (u₀ := start m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes m hok) (data m ρ hok) 0 (launch0 (F := Ideal)).win.arr_inj c (launch0 (F := Ideal)).arr_whole
      (share_full m ρ hok c) _ _ fun _ => rfl)
    (hpf := fun c j => by obtain rfl : c = 0 := Subsingleton.elim _ _; rfl)
    (X := fun _ => iprop(emp)) (Y := fun _ => iprop(emp)) (Z := fun _ => iprop(emp))
    (hX := fun c => by rw [unscopedRestP0_eq]; iintro -; isplitr <;> iempintro)
    (hin := keep_first m ρ hok)
    (hout := keep_last m ρ hok)
    (QY := fun _ _ => True)
    (hY := fun c s' => by
      iintro ⟨-, -, Hst⟩; imodintro
      isplitr; · ipureintro; trivial
      iexact Hst)
    (hQ := fun _ h hz => ⟨fun c => ⟨(h c).1, (h c).2.1⟩, hz⟩)

include hok in
/-- The kernel leaves its six arguments as they were, and every semaphore counter at zero. -/
theorem unchanged :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => by
    obtain rfl : c = 0 := Subsingleton.elim _ _
    exact ⟨(h.1 0).2 0, (h.1 0).2 1, ((h.1 0).1 (0 : Fin 5)).trans ((data m ρ hok 0 0).arrAt_in (0 : Fin 5) rfl _),
      ((h.1 0).1 (1 : Fin 5)).trans ((data m ρ hok 0 0).arrAt_in (1 : Fin 5) rfl _),
      ((h.1 0).1 (2 : Fin 5)).trans ((data m ρ hok 0 0).arrAt_in (2 : Fin 5) rfl _),
      ((h.1 0).1 (3 : Fin 5)).trans ((data m ρ hok 0 0).arrAt_in (3 : Fin 5) rfl _)⟩, h.2⟩) (run m ρ hok)

/-- The precondition, word by word: every word of the table is a number below four. -/
theorem named (t0 : IVec S68 32) (t1 : IVec S1 32) (x : FVec Ideal S34816x1152 .f32) (g u : FVec Ideal S4x8x1024x256 .bf16)
    (d : FVec Ideal S4x8x256x1024 .bf16)
    (h : (Cert.Pre_groups_exist.fn (F := Ideal) t0 t1 x g u d).1 = (fun _ => 1#1) ∧ (Cert.Pre_groups_exist.fn (F := Ideal) t0 t1 x g u d).2 = (fun _ => 1#1))
    (i : S68.Idx) : (t0 i).toNat < 4 := by
  have one (p : Bool) : BitVec.ofBool p = 1#1 ↔ p = true := by cases p <;> decide
  have lo := congrFun h.1 i
  have hi := congrFun h.2 i
  simp only [Cert.Pre_groups_exist.fn, constantI, broadcastInDim, cmpi, IntOp.cmpi, one] at lo hi
  generalize t0 i = v at lo hi
  rw [BitVec.sle_eq_decide, decide_eq_true_eq] at lo
  rw [BitVec.slt_eq_decide, decide_eq_true_eq] at hi
  simp only [BitVec.toInt, BitVec.toNat_ofNat] at lo hi
  have := v.isLt
  split at hi <;> split at lo <;> omega

/-- Under the precondition the tables satisfy the pipeline's side condition. -/
theorem ok_of_pre (h : Cert.Pre_Kernel2Ideal m) : ok0 (F := Ideal) (tables m) :=
  ok_of_lt _ fun x => named _ _ _ _ _ _ (h 0) x

end Cert.Kernel2Ideal.Experts

end
-- ==== Proof.ExpertsBits.lean ====
module

public import proofs.«01_k».proof.Proof.Gen.Kernel2.Flash.Runs
public import proofs.«01_k».proof.Proof.Gen.Pre_groups_exist
public import Idealize.ShloMosaic.Lib.Pipeline.Quiescent
public import Idealize.ShloMosaic.Lib.Claim

@[expose] public section

set_option maxRecDepth 16384

noncomputable section

/-! The run of the experts kernel on bit patterns, for every table of groups: the pipeline takes the table's words as block numbers, and
    at each tile of rows the body either computes the tile's experts or stores zeros. -/

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program's separation logic. -/
abbrev World := MT nD τ sig Unit (Elt Bits) ℕ (UR sig nD τ) ℕ

/-- The body's two tests of a tile number against the word are each other's negation. -/
theorem tests (i : grid0.Coords) (w : BitVec 32) : k0_cond2 i w = 1#1 ↔ ¬ k0_cond1 i w = 1#1 := by
  unfold k0_cond2 k0_cond1
  simp only [Scalar.cmpi, Scalar.extui, IntOp.cmpi]
  rw [show w.sle (BitVec.ofNat 32 (i 0).val) = !(BitVec.ofNat 32 (i 0).val).slt w from by
    rw [BitVec.sle_eq_decide, BitVec.slt_eq_decide, ← decide_not]; exact decide_eq_decide.2 Int.not_lt.symm]
  generalize (BitVec.ofNat 32 (i 0).val).slt w = b
  cases b <;> decide

/-- A table whose words name the four groups satisfies the pipeline's side condition: every block it names is one of the
    array's. -/
theorem ok_of_lt (pf : pre0.Contents (Elt Bits)) (h : ∀ x : S68.Idx, BitVec.toNat (pf 0 x : BitVec 32) < 4) : ok0 (F := Bits) pf := by
  have hv (i : grid0.Coords) : BitVec.toNat (pf.at 0 (Rect.unit (s := S68) ![(Scalar.indexCast (BitVec.ofNat 32 (i 0).val) : Index).toNat] S1.size (k0_off1_inb i)) numel1_S1 : BitVec 32) < 4 := h _
  refine ⟨fun i => ⟨fun a => ?_, .inr (Affine.block_words_dvd (s := S4x8x1024x256) (p := EltTy.packing .bf16) (by decide) (by decide))⟩,
    fun i => ⟨fun a => ?_, .inr (Affine.block_words_dvd (s := S4x8x1024x256) (p := EltTy.packing .bf16) (by decide) (by decide))⟩,
    fun i => ⟨fun a => ?_, .inr (Affine.block_words_dvd (s := S4x8x256x1024) (p := EltTy.packing .bf16) (by decide) (by decide))⟩⟩
  all_goals
    have := hv i
    fin_cases a
    · simp [cc0_transform_1, cc0_transform_2, cc0_transform_3]
      omega
    all_goals simp [cc0_transform_1, cc0_transform_2, cc0_transform_3]

variable (m : (ℓ : Loc nD τ sig) → Buf (Elt Bits) ℓ) (ρ : Dev nD → PrngReg)

/-- The two tables as the launch memory holds them. -/
def tables : pre0.Contents (Elt Bits) := fun j => m (((0 : Dev nD) : Thread nD τ).loc (pre0.ref j))

/-- The table of groups, one word per tile. -/
abbrev groups : S68.Idx → Elt Bits .i32 := m (((0 : Dev nD) : Thread nD τ).loc main_arg0)
/-- The number of tiles in use. -/
abbrev used : S1.Idx → Elt Bits .i32 := m (((0 : Dev nD) : Thread nD τ).loc main_arg1)

/-- The word the body's tests read. -/
abbrev usedWord : BitVec 32 :=
  View.readAt (Elt Bits) (tbM0_1).view (Rect.unit (s := S1) ![0] S1.size inb_S1_S1_0).toLoadRect (used m) (Shape.Idx.first (numel1_S1.symm ▸ Nat.one_pos))

variable (hok : ok0 (F := Bits) (tables m))

/-- The tables with their side condition, and the pipeline at them. -/
def tab : (pcfg0 (F := Bits)).Adm := ⟨tables m, hok⟩
abbrev pipe : Pipeline.Cfg sig Λ₀ := cfg0 (F := Bits) (tab m hok)
abbrev pipes : Fin 1 → Pipeline.Cfg sig Λ₀ := Pipeline.pin (pcfgs (F := Bits)) fun _ => tab m hok

/-- The grid point of position `t`. -/
abbrev pt (t : Fin (pipe m hok).N) : (pipe m hok).grid.Coords := (pipe m hok).grid.coords t

abbrev st0 (t : Fin (pipe m hok).N) : Memref sig .tc .vmem S512x1152 .f32 := spec0_0.stage ((pipe m hok).slots t (0 : Fin 5))
abbrev sw0 (t : Fin (pipe m hok).N) : (st0 m hok t).IsWhole := hstage0_0 (((pipe m hok).slots t (0 : Fin 5)).cast nbuf0_0)
abbrev st1 (t : Fin (pipe m hok).N) : Memref sig .tc .vmem S1x8x1024x256 .bf16 := spec0_1.stage ((pipe m hok).slots t (1 : Fin 5))
abbrev sw1 (t : Fin (pipe m hok).N) : (st1 m hok t).IsWhole := hstage0_1 (((pipe m hok).slots t (1 : Fin 5)).cast nbuf0_1)
abbrev st2 (t : Fin (pipe m hok).N) : Memref sig .tc .vmem S1x8x1024x256 .bf16 := spec0_2.stage ((pipe m hok).slots t (2 : Fin 5))
abbrev sw2 (t : Fin (pipe m hok).N) : (st2 m hok t).IsWhole := hstage0_2 (((pipe m hok).slots t (2 : Fin 5)).cast nbuf0_2)
abbrev st3 (t : Fin (pipe m hok).N) : Memref sig .tc .vmem S1x8x256x1024 .bf16 := spec0_3.stage ((pipe m hok).slots t (3 : Fin 5))
abbrev sw3 (t : Fin (pipe m hok).N) : (st3 m hok t).IsWhole := hstage0_3 (((pipe m hok).slots t (3 : Fin 5)).cast nbuf0_3)
abbrev st4 (t : Fin (pipe m hok).N) : Memref sig .tc .vmem S512x1024 .f32 := spec0_4.stage ((pipe m hok).slots t (4 : Fin 5))
abbrev sw4 (t : Fin (pipe m hok).N) : (st4 m hok t).IsWhole := hstage0_4 (((pipe m hok).slots t (4 : Fin 5)).cast nbuf0_4)

/-- Window `w`'s block at position `t`, as the launch memory holds it. -/
def blockIn (c : Dev nD) (w : Fin (pipe m hok).W) (t : Fin (pipe m hok).N) : (((pipe m hok).win w).xblock (pt m hok t)).Idx → Elt Bits ((pipe m hok).win w).elt :=
  (((pipe m hok).win w).blk t).view.read (Elt Bits) ((s₀ m ρ).mem (((pipe m hok).win w).arr.view.loc (c : Thread nD τ)))

/-- The tile of the result that position `t` writes: the experts' where the tile is in use, else zeros. -/
def tileOut (c : Dev nD) (t : Fin (pipe m hok).N) : S512x1024.Idx → Elt Bits .f32 :=
  if h : k0_cond1 (pt m hok t) (usedWord m) = 1#1 then
    out0_A_4 c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) h
      (fun h2 => (tests _ _).1 h2 h)
  else
    out0_B_4 c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) default h
      ((tests _ _).2 h)

/-- What the body keeps from one position to the next: the scratch buffer at any contents, and its halves of the tables. -/
def keep (c : Dev nD) : sProp World :=
  iprop((∃ a, scM0_0.view.loc (c : Thread nD τ) ↦{fullShare} a) ∗ (tbM0_0.view.loc (c : Thread nD τ) ↦{fullShare.right} groups m) ∗ (tbM0_1.view.loc (c : Thread nD τ) ↦{fullShare.right} used m))

/-- The pipeline's proof data: each window's array at launch, and what each staging buffer holds after each position. -/
def data (_ : Fin 1) (c : Dev nD) : Dat τ (Elt Bits) Unit ℕ (UR sig nD τ) ℕ (pipe m hok) c where
  A w := (s₀ m ρ).mem (((pipe m hok).win w).arr.view.loc (c : Thread nD τ))
  after w t := match w with
    | ⟨0, _⟩ => blockIn m ρ hok c (0 : Fin 5) t
    | ⟨1, _⟩ => blockIn m ρ hok c (1 : Fin 5) t
    | ⟨2, _⟩ => blockIn m ρ hok c (2 : Fin 5) t
    | ⟨3, _⟩ => blockIn m ρ hok c (3 : Fin 5) t
    | ⟨4, _⟩ => tileOut m ρ hok c t
  Φ _ := keep m c
  q _ := fullShare
  owed _ := 0

theorem after_0 (c : Dev nD) (t : Fin (pipe m hok).N) : (data m ρ hok 0 c).after (0 : Fin 5) t = blockIn m ρ hok c (0 : Fin 5) t := rfl
theorem after_1 (c : Dev nD) (t : Fin (pipe m hok).N) : (data m ρ hok 0 c).after (1 : Fin 5) t = blockIn m ρ hok c (1 : Fin 5) t := rfl
theorem after_2 (c : Dev nD) (t : Fin (pipe m hok).N) : (data m ρ hok 0 c).after (2 : Fin 5) t = blockIn m ρ hok c (2 : Fin 5) t := rfl
theorem after_3 (c : Dev nD) (t : Fin (pipe m hok).N) : (data m ρ hok 0 c).after (3 : Fin 5) t = blockIn m ρ hok c (3 : Fin 5) t := rfl
theorem after_4 (c : Dev nD) (t : Fin (pipe m hok).N) : (data m ρ hok 0 c).after (4 : Fin 5) t = tileOut m ρ hok c t := rfl

/-- An input window's staging buffer holds its block when the body runs. -/
theorem before_0 (c : Dev nD) (t : Fin (pipe m hok).N) (d) : (data m ρ hok 0 c).before (0 : Fin 5) t d = blockIn m ρ hok c (0 : Fin 5) t :=
  ((data m ρ hok 0 c).before_in_eq_fetched (0 : Fin 5) rfl (fun _ => rfl) (fun _ _ _ => rfl) (fun t => by rw [after_0]; rfl) t d).trans rfl
theorem before_1 (c : Dev nD) (t : Fin (pipe m hok).N) (d) : (data m ρ hok 0 c).before (1 : Fin 5) t d = blockIn m ρ hok c (1 : Fin 5) t :=
  ((data m ρ hok 0 c).before_in_eq_fetched (1 : Fin 5) rfl (fun _ => rfl) (fun _ _ _ => rfl) (fun t => by rw [after_1]; rfl) t d).trans rfl
theorem before_2 (c : Dev nD) (t : Fin (pipe m hok).N) (d) : (data m ρ hok 0 c).before (2 : Fin 5) t d = blockIn m ρ hok c (2 : Fin 5) t :=
  ((data m ρ hok 0 c).before_in_eq_fetched (2 : Fin 5) rfl (fun _ => rfl) (fun _ _ _ => rfl) (fun t => by rw [after_2]; rfl) t d).trans rfl
theorem before_3 (c : Dev nD) (t : Fin (pipe m hok).N) (d) : (data m ρ hok 0 c).before (3 : Fin 5) t d = blockIn m ρ hok c (3 : Fin 5) t :=
  ((data m ρ hok 0 c).before_in_eq_fetched (3 : Fin 5) rfl (fun _ => rfl) (fun _ _ _ => rfl) (fun t => by rw [after_3]; rfl) t d).trans rfl

/-- The result's window is stored into at every position. -/
theorem live (t : Fin (pipe m hok).N) : (pipe m hok).idle (4 : Fin 5) ((pipe m hok).grid.coords t) = false := by
  have h (i : grid0.Coords) (w : BitVec 32) : (!(k0_cond1 i w == 1#1) && !(k0_cond2 i w == 1#1)) = false := by
    by_cases hc : k0_cond1 i w = 1#1
    · simp [hc]
    · simp [(tests i w).2 hc]
  exact h _ _

/-- The body of the pipeline at position `t`. -/
abbrev body (t : Fin (pipe m hok).N) : Prog (TpuEff nD τ sig (Elt Bits) Λ₀ .tc) PUnit :=
  cc0_moe_experts (pt m hok t) (Memref.whole main_arg0) (Memref.isWhole_whole _) (Memref.whole main_arg1) (Memref.isWhole_whole _) (st0 m hok t) (sw0 m hok t) (st1 m hok t) (sw1 m hok t) (st2 m hok t) (sw2 m hok t) (st3 m hok t) (sw3 m hok t) (st4 m hok t) (sw4 m hok t) (Memref.whole cc0_scratch0) (Memref.isWhole_whole _)

set_option maxHeartbeats 4000000 in
/-- At every position the body, from its blocks, leaves the result's tile and the inputs as they were. -/
theorem body_runs (c : Dev nD) (t : Fin (pipe m hok).N) :
    iprop(keep m c ∗ (data m ρ hok 0 c).owesAt () t.castSucc
        ∗ (∃ d, owns (c : Thread nD τ) (st0 m hok t) fullShare ((data m ρ hok 0 c).before (0 : Fin 5) t d))
        ∗ (∃ d, owns (c : Thread nD τ) (st1 m hok t) fullShare ((data m ρ hok 0 c).before (1 : Fin 5) t d))
        ∗ (∃ d, owns (c : Thread nD τ) (st2 m hok t) fullShare ((data m ρ hok 0 c).before (2 : Fin 5) t d))
        ∗ (∃ d, owns (c : Thread nD τ) (st3 m hok t) fullShare ((data m ρ hok 0 c).before (3 : Fin 5) t d))
        ∗ (∃ d, owns (c : Thread nD τ) (st4 m hok t) fullShare ((data m ρ hok 0 c).before (4 : Fin 5) t d)))
      ⊢ wp frame (wpE (defs₀ (F := Bits)) Variants.none c none) Set.univ (body m hok t) fun _ =>
          iprop(keep m c ∗ (data m ρ hok 0 c).owesAt () t.castSucc
            ∗ owns (c : Thread nD τ) (st0 m hok t) fullShare (blockIn m ρ hok c (0 : Fin 5) t)
            ∗ owns (c : Thread nD τ) (st1 m hok t) fullShare (blockIn m ρ hok c (1 : Fin 5) t)
            ∗ owns (c : Thread nD τ) (st2 m hok t) fullShare (blockIn m ρ hok c (2 : Fin 5) t)
            ∗ owns (c : Thread nD τ) (st3 m hok t) fullShare (blockIn m ρ hok c (3 : Fin 5) t)
            ∗ owns (c : Thread nD τ) (st4 m hok t) fullShare (tileOut m ρ hok c t)) := by
  simp only [before_0, before_1, before_2, before_3]
  unfold keep tileOut
  by_cases h : k0_cond1 (pt m hok t) (usedWord m) = 1#1
  · rw [dif_pos h]
    iintro ⟨⟨⟨%a, Hs⟩, Hg, Hu⟩, Ho, ⟨%d0, H0⟩, ⟨%d1, H1⟩, ⟨%d2, H2⟩, ⟨%d3, H3⟩, ⟨%d4, H4⟩⟩
    iapply ((kernelRun0_A c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) h
      (fun h2 => (tests _ _).1 h2 h)).2.2 a _)
    isplitl [H0]; · iapply rep_of_owns; iexact H0
    isplitl [H1]; · iapply rep_of_owns; iexact H1
    isplitl [H2]; · iapply rep_of_owns; iexact H2
    isplitl [H3]; · iapply rep_of_owns; iexact H3
    isplitl [Hg]; · iexact Hg
    isplitl [Hu]; · iexact Hu
    isplitl [H4]; · iexists _; iexact H4
    isplitl [Hs]; · iexact Hs
    iintro ⟨H0, H1, H2, H3, Hg, Hu, ⟨%e, H4⟩, Hs⟩
    isplitl [Hs Hg Hu]
    · isplitl [Hs]
      · iexists _; iexact Hs
      isplitl [Hg]
      · iexact Hg
      iexact Hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · rw [dif_neg h]
    iintro ⟨⟨⟨%a, Hs⟩, Hg, Hu⟩, Ho, ⟨%d0, H0⟩, ⟨%d1, H1⟩, ⟨%d2, H2⟩, ⟨%d3, H3⟩, ⟨%d4, H4⟩⟩
    iapply ((kernelRun0_B c (pt m hok t) (st0 m hok t) (sw0 m hok t) (st1 m hok t) (sw1 m hok t) (st2 m hok t) (sw2 m hok t) (st3 m hok t) (sw3 m hok t) (st4 m hok t) (sw4 m hok t) (groups m) (used m)
      (blockIn m ρ hok c (0 : Fin 5) t) (blockIn m ρ hok c (1 : Fin 5) t) (blockIn m ρ hok c (2 : Fin 5) t) (blockIn m ρ hok c (3 : Fin 5) t) a h
      ((tests _ _).2 h)).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [Hg]; · iexact Hg
    isplitl [Hu]; · iexact Hu
    isplitl [H4]; · iexists _; iexact H4
    isplitl [Hs]; · iexact Hs
    iintro ⟨H0, H1, H2, H3, Hg, Hu, ⟨%e, H4⟩, Hs⟩
    isplitl [Hs Hg Hu]
    · isplitl [Hs]
      · iexists _; iexact Hs
      isplitl [Hg]
      · iexact Hg
      iexact Hu
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ a _ _)

/-- The same with what each window is left holding, as the pipeline states it. -/
theorem body_windows (c : Dev nD) (t : Fin (pipe m hok).N) :
    iprop((data m ρ hok 0 c).Φ t.castSucc ∗ (data m ρ hok 0 c).owesAt () t.castSucc
        ∗ (∃ d, owns (c : Thread nD τ) (st0 m hok t) fullShare ((data m ρ hok 0 c).before (0 : Fin 5) t d))
        ∗ (∃ d, owns (c : Thread nD τ) (st1 m hok t) fullShare ((data m ρ hok 0 c).before (1 : Fin 5) t d))
        ∗ (∃ d, owns (c : Thread nD τ) (st2 m hok t) fullShare ((data m ρ hok 0 c).before (2 : Fin 5) t d))
        ∗ (∃ d, owns (c : Thread nD τ) (st3 m hok t) fullShare ((data m ρ hok 0 c).before (3 : Fin 5) t d))
        ∗ (∃ d, owns (c : Thread nD τ) (st4 m hok t) fullShare ((data m ρ hok 0 c).before (4 : Fin 5) t d)))
      ⊢ wp frame (wpE (defs₀ (F := Bits)) Variants.none c none) Set.univ (body m hok t) fun _ =>
          iprop((data m ρ hok 0 c).Φ t.succ ∗ (data m ρ hok 0 c).owesAt () t.succ
            ∗ bigSep Finset.univ fun w : Fin (pipe m hok).W =>
                match (pipe m hok).idle w ((pipe m hok).grid.coords t) with
                | true =>
                  match ((pipe m hok).win w).flush t with
                  | false => iprop(∃ d, owns (c : Thread nD τ) (((pipe m hok).win w).stage ((pipe m hok).slots t w)) fullShare ((data m ρ hok 0 c).before w t d))
                  | true => owns (c : Thread nD τ) (((pipe m hok).win w).stage ((pipe m hok).slots t w)) fullShare ((data m ρ hok 0 c).after w t)
                | false => owns (c : Thread nD τ) (((pipe m hok).win w).stage ((pipe m hok).slots t w)) fullShare ((data m ρ hok 0 c).after w t)) := by
  rw [bigSep_W0]
  rewrite [live m hok t]
  exact body_runs m ρ hok c t

/-- The pipeline's body obligation. -/
theorem obligation (c : Dev nD) : BodyObligation (data m ρ hok 0 c) (defs₀ (F := Bits)) Variants.none () Set.univ := fun t => by
  rw [bigSep_W0]
  exact body_windows m ρ hok c t

/-! The launch. -/

/-- The launch's resources: the staging cells' and their tokens. -/
def start : UR sig nD τ :=
  initOf (Pipeline.cells (pipes m hok) ((launch0 (F := Bits)).cellOf_inj fun _ => tab m hok))
    (Pipeline.launchToks (pipes m hok) ((launch0 (F := Bits)).cellOf_inj fun _ => tab m hok))

theorem share_full (c : Dev nD) (w : Fin (pipe m hok).W) : (data m ρ hok 0 c).share w = fullShare := by unfold Dat.share; split <;> rfl

/-- The two tables held, one by one. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp World)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem keep_first (c : Dev nD) :
    iprop(BI.emp ∗ Pipeline.prefHeld pre0 c (fun _ => fullShare.right) (tab m hok).1 ∗ Pipeline.scopedRest spec0 c) ⊢ (data m ρ hok 0 c).Φ 0 := by
  rw [tables_held, scopedRest0_eq, show (data m ρ hok 0 c).Φ 0 = keep m c from rfl]
  unfold keep
  iintro ⟨-, ⟨Hg, Hu⟩, ⟨%a, Hs⟩⟩
  isplitl [Hs]
  · iexists a; iexact Hs
  isplitl [Hg]
  · iexact Hg
  iexact Hu

theorem keep_last (c : Dev nD) : (data m ρ hok 0 c).Φ (Fin.last (pipe m hok).N) ⊢ iprop(BI.emp ∗ Pipeline.scopedRest spec0 c) := by
  rw [scopedRest0_eq, show (data m ρ hok 0 c).Φ (Fin.last (pipe m hok).N) = keep m c from rfl]
  unfold keep
  iintro ⟨⟨%a, Hs⟩, -, -⟩
  isplitr; · iempintro
  iexists a; iexact Hs

/-- Every window's array at what the pipeline computes, the tables as they were. -/
def Post (r : PUnit × MemSt nD τ sig (Elt Bits)) : Prop :=
  ∀ c : Dev nD, (∀ w : Fin (pipe m hok).W, r.2.mem (((pipe m hok).win w).arr.view.loc (c : Thread nD τ)) = (data m ρ hok 0 c).arrAt w (pipe m hok).N)
    ∧ ∀ j, r.2.mem ((c : Thread nD τ).loc (pre0.ref j)) = (tab m hok).1 j

set_option backward.isDefEq.respectTransparency.types false in
set_option maxHeartbeats 4000000 in
/-- From a launch memory whose table names blocks of the array, the kernel ends with every array at the computed contents and
    every semaphore counter at zero. -/
theorem run : θ_run (defs (F := Bits)) (onTc (τ := τ) (main (F := Bits))) (s₀ m ρ) (fun r => Post m ρ hok r ∧ r.2.sem = fun _ => 0) :=
  Pipeline.θ_run_region_noSem_pf_quiescent pcfgs (fun _ => tab m hok) (data m ρ hok) () ((launch0 (F := Bits)).cellOf_inj fun _ => tab m hok) (0 : Fin 1)
    (launch0 (F := Bits)).win.to₀ (launch0 (F := Bits)).pre (emb₁ : Emb (UR sig nD τ) World) defs₀ Variants.none m ρ main
    (hbody := fun c => (obligation m ρ hok c).loose) (hne := (launch0 (F := Bits)).block_pos)
    (harr := (launch0 (F := Bits)).arr_whole) (hstage := (launch0 (F := Bits)).stage_whole) (howed := fun _ _ => rfl)
    (u₀ := start m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes m hok) (data m ρ hok) 0 (launch0 (F := Bits)).win.arr_inj c (launch0 (F := Bits)).arr_whole
      (share_full m ρ hok c) _ _ fun _ => rfl)
    (hpf := fun c j => by obtain rfl : c = 0 := Subsingleton.elim _ _; rfl)
    (X := fun _ => iprop(emp)) (Y := fun _ => iprop(emp)) (Z := fun _ => iprop(emp))
    (hX := fun c => by rw [unscopedRestP0_eq]; iintro -; isplitr <;> iempintro)
    (hin := keep_first m ρ hok)
    (hout := keep_last m ρ hok)
    (QY := fun _ _ => True)
    (hY := fun c s' => by
      iintro ⟨-, -, Hst⟩; imodintro
      isplitr; · ipureintro; trivial
      iexact Hst)
    (hQ := fun _ h hz => ⟨fun c => ⟨(h c).1, (h c).2.1⟩, hz⟩)

include hok in
/-- The kernel leaves its six arguments as they were, and every semaphore counter at zero. -/
theorem unchanged :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => by
    obtain rfl : c = 0 := Subsingleton.elim _ _
    exact ⟨(h.1 0).2 0, (h.1 0).2 1, ((h.1 0).1 (0 : Fin 5)).trans ((data m ρ hok 0 0).arrAt_in (0 : Fin 5) rfl _),
      ((h.1 0).1 (1 : Fin 5)).trans ((data m ρ hok 0 0).arrAt_in (1 : Fin 5) rfl _),
      ((h.1 0).1 (2 : Fin 5)).trans ((data m ρ hok 0 0).arrAt_in (2 : Fin 5) rfl _),
      ((h.1 0).1 (3 : Fin 5)).trans ((data m ρ hok 0 0).arrAt_in (3 : Fin 5) rfl _)⟩, h.2⟩) (run m ρ hok)

/-- The precondition, word by word: every word of the table is a number below four. -/
theorem named (t0 : IVec S68 32) (t1 : IVec S1 32) (x : FVec Bits S34816x1152 .f32) (g u : FVec Bits S4x8x1024x256 .bf16)
    (d : FVec Bits S4x8x256x1024 .bf16)
    (h : (Cert.Pre_groups_exist.fn (F := Bits) t0 t1 x g u d).1 = (fun _ => 1#1) ∧ (Cert.Pre_groups_exist.fn (F := Bits) t0 t1 x g u d).2 = (fun _ => 1#1))
    (i : S68.Idx) : (t0 i).toNat < 4 := by
  have one (p : Bool) : BitVec.ofBool p = 1#1 ↔ p = true := by cases p <;> decide
  have lo := congrFun h.1 i
  have hi := congrFun h.2 i
  simp only [Cert.Pre_groups_exist.fn, constantI, broadcastInDim, cmpi, IntOp.cmpi, one] at lo hi
  generalize t0 i = v at lo hi
  rw [BitVec.sle_eq_decide, decide_eq_true_eq] at lo
  rw [BitVec.slt_eq_decide, decide_eq_true_eq] at hi
  simp only [BitVec.toInt, BitVec.toNat_ofNat] at lo hi
  have := v.isLt
  split at hi <;> split at lo <;> omega

/-- Under the precondition the tables satisfy the pipeline's side condition. -/
theorem ok_of_pre (h : Cert.Pre_Kernel2 m) : ok0 (F := Bits) (tables m) :=
  ok_of_lt _ fun x => named _ _ _ _ _ _ (h 0) x

end Cert.Kernel2.Experts

end
-- ==== Proof.Ref2.lean ====
module

public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Reference2Ideal.Experts

open Cert.Reference2Ideal Cert.Reference2Ideal.Value Idealize.ShloMosaic Idealize.ShloMosaic.TcCoe Idealize.SL.Sem
open Cert.Reference2Ideal.Gen

/-! ## The reference, part by part -/

variable (tg : IVec S68 32) (nu : IVec S1 32) (xs : FVec Ideal S34816x1152 .f32) (wg wu : FVec Ideal S4x8x1024x256 .bf16) (wd : FVec Ideal S4x8x256x1024 .bf16)

/-- Whether each tile is in use and belongs to each group, as one or zero. -/
def member : FVec Ideal S68x4 .f32 :=
  select (andi (broadcastInDim S68x4 ![0, 1] bcast_S68x1_S68x4_0_1 (broadcastInDim S68x1 ![0] bcast_S68_S68x1_0 (cmpi .slt (iotaInDim S68 32 0) (broadcastInDim S68 ![] bcast_S_S68 (shapeCast _ nu shapeCasts_S1_S_)))))
      (cmpi .eq (broadcastInDim S68x4 ![0, 1] bcast_S68x1_S68x4_0_1 (broadcastInDim S68x1 ![0] bcast_S68_S68x1_0 tg)) (broadcastInDim S68x4 ![0, 1] bcast_S1x4_S68x4_0_1 (broadcastInDim S1x4 ![1] bcast_S4_S1x4_1 (iotaInDim S4 32 0)))))
    (broadcastInDim S68x4 ![] bcast_S_S68x4 (constant S_ .f32 0x3F800000#32)) (broadcastInDim S68x4 ![] bcast_S_S68x4 (constant S_ .f32 0x00000000#32))

/-- The weight of each expert of each group in each row's sum. -/
def combine : FVec Ideal S34816x4x8 .f32 :=
  shapeCast _ (mulf (broadcastInDim S68x512x4x8 ![0, 1, 2, 3] bcast_S68x1x4x1_S68x512x4x8_0_1_2_3 (id (broadcastInDim S68x1x4x1 ![0, 2] bcast_S68x4_S68x1x4x1_0_2 (member tg nu))))
    (broadcastInDim S68x512x4x8 ![0, 1, 2, 3] bcast_S68x512x1x8_S68x512x4x8_0_1_2_3 (shapeCast _ (extractStridedSlice S34816x8 ![0, 1024] xs slices_S34816x1152_S34816x8_0_1024) shapeCasts_S34816x8_S68x512x1x8))) shapeCasts_S68x512x4x8_S34816x4x8

/-- The rows without their weights. -/
def rows : FVec Ideal S34816x1024 .f32 := extractStridedSlice S34816x1024 ![0, 0] xs slices_S34816x1152_S34816x1024_0_0

/-- A projection of every row by every expert of a group. -/
def proj (h : FVec Ideal S34816x1024 .f32) (w : FVec Ideal S8x1024x256 .f32) : FVec Ideal S34816x8x256 .f32 :=
  Host.dotGeneral dot_S34816x1024_S8x1024x256_S34816x8x256_1_1_0_02_n_n none h w

/-- The activations of a group's experts, weighted. -/
def acts (a u : FVec Ideal S34816x8x256 .f32) (p : FVec Ideal S34816x8 .f32) : FVec Ideal S34816x8x256 .f32 :=
  mulf (mulf (mulf a (Host.divf (broadcastInDim S34816x8x256 ![] bcast_S_S34816x8x256 (constant S_ .f32 0x3F800000#32)) (addf (broadcastInDim S34816x8x256 ![] bcast_S_S34816x8x256 (constant S_ .f32 0x3F800000#32)) (Host.exp (Host.negf a))))) u)
    (broadcastInDim S34816x8x256 ![0, 1, 2] bcast_S34816x8x1_S34816x8x256_0_1_2 (broadcastInDim S34816x8x1 ![0, 1] bcast_S34816x8_S34816x8x1_0_1 p))

/-- The sum over a group's experts and their hidden units. -/
def total (z : FVec Ideal S34816x8x256 .f32) (w : FVec Ideal S8x256x1024 .f32) : FVec Ideal S34816x1024 .f32 :=
  Host.dotGeneral dot_S34816x8x256_S8x256x1024_S34816x1024_12_01_0_2_n_n none z w

def in0 (w : FVec Ideal S4x8x1024x256 .bf16) : FVec Ideal S8x1024x256 .f32 := extf .f32 (shapeCast _ (extractStridedSlice S1x8x1024x256 ![0, 0, 0, 0] w slices_S4x8x1024x256_S1x8x1024x256_0_0_0_0) shapeCasts_S1x8x1024x256_S8x1024x256) bitsLt_bf16_f32
def in1 (w : FVec Ideal S4x8x1024x256 .bf16) : FVec Ideal S8x1024x256 .f32 := extf .f32 (shapeCast _ (extractStridedSlice S1x8x1024x256 ![1, 0, 0, 0] w slices_S4x8x1024x256_S1x8x1024x256_1_0_0_0) shapeCasts_S1x8x1024x256_S8x1024x256) bitsLt_bf16_f32
def in2 (w : FVec Ideal S4x8x1024x256 .bf16) : FVec Ideal S8x1024x256 .f32 := extf .f32 (shapeCast _ (extractStridedSlice S1x8x1024x256 ![2, 0, 0, 0] w slices_S4x8x1024x256_S1x8x1024x256_2_0_0_0) shapeCasts_S1x8x1024x256_S8x1024x256) bitsLt_bf16_f32
def in3 (w : FVec Ideal S4x8x1024x256 .bf16) : FVec Ideal S8x1024x256 .f32 := extf .f32 (shapeCast _ (extractStridedSlice S1x8x1024x256 ![3, 0, 0, 0] w slices_S4x8x1024x256_S1x8x1024x256_3_0_0_0) shapeCasts_S1x8x1024x256_S8x1024x256) bitsLt_bf16_f32
def down0 (w : FVec Ideal S4x8x256x1024 .bf16) : FVec Ideal S8x256x1024 .f32 := extf .f32 (shapeCast _ (extractStridedSlice S1x8x256x1024 ![0, 0, 0, 0] w slices_S4x8x256x1024_S1x8x256x1024_0_0_0_0) shapeCasts_S1x8x256x1024_S8x256x1024) bitsLt_bf16_f32
def down1 (w : FVec Ideal S4x8x256x1024 .bf16) : FVec Ideal S8x256x1024 .f32 := extf .f32 (shapeCast _ (extractStridedSlice S1x8x256x1024 ![1, 0, 0, 0] w slices_S4x8x256x1024_S1x8x256x1024_1_0_0_0) shapeCasts_S1x8x256x1024_S8x256x1024) bitsLt_bf16_f32
def down2 (w : FVec Ideal S4x8x256x1024 .bf16) : FVec Ideal S8x256x1024 .f32 := extf .f32 (shapeCast _ (extractStridedSlice S1x8x256x1024 ![2, 0, 0, 0] w slices_S4x8x256x1024_S1x8x256x1024_2_0_0_0) shapeCasts_S1x8x256x1024_S8x256x1024) bitsLt_bf16_f32
def down3 (w : FVec Ideal S4x8x256x1024 .bf16) : FVec Ideal S8x256x1024 .f32 := extf .f32 (shapeCast _ (extractStridedSlice S1x8x256x1024 ![3, 0, 0, 0] w slices_S4x8x256x1024_S1x8x256x1024_3_0_0_0) shapeCasts_S1x8x256x1024_S8x256x1024) bitsLt_bf16_f32
def of0 (p : FVec Ideal S34816x4x8 .f32) : FVec Ideal S34816x8 .f32 := shapeCast _ (extractStridedSlice S34816x1x8 ![0, 0, 0] p slices_S34816x4x8_S34816x1x8_0_0_0) shapeCasts_S34816x1x8_S34816x8
def of1 (p : FVec Ideal S34816x4x8 .f32) : FVec Ideal S34816x8 .f32 := shapeCast _ (extractStridedSlice S34816x1x8 ![0, 1, 0] p slices_S34816x4x8_S34816x1x8_0_1_0) shapeCasts_S34816x1x8_S34816x8
def of2 (p : FVec Ideal S34816x4x8 .f32) : FVec Ideal S34816x8 .f32 := shapeCast _ (extractStridedSlice S34816x1x8 ![0, 2, 0] p slices_S34816x4x8_S34816x1x8_0_2_0) shapeCasts_S34816x1x8_S34816x8
def of3 (p : FVec Ideal S34816x4x8 .f32) : FVec Ideal S34816x8 .f32 := shapeCast _ (extractStridedSlice S34816x1x8 ![0, 3, 0] p slices_S34816x4x8_S34816x1x8_0_3_0) shapeCasts_S34816x1x8_S34816x8

/-- One group's share of every row. -/
def share (h : FVec Ideal S34816x1024 .f32) (g u : FVec Ideal S8x1024x256 .f32) (d : FVec Ideal S8x256x1024 .f32) (p : FVec Ideal S34816x8 .f32) : FVec Ideal S34816x1024 .f32 :=
  total (acts (proj h g) (proj h u) p) d

/-- The experts' layer: the four groups' shares added. -/
def experts : FVec Ideal S34816x1024 .f32 :=
  addf (addf (addf (addf (broadcastInDim S34816x1024 ![] bcast_S_S34816x1024 (constant S_ .f32 0x00000000#32))
    (share (rows xs) (in0 wg) (in0 wu) (down0 wd) (of0 (combine tg nu xs))))
    (share (rows xs) (in1 wg) (in1 wu) (down1 wd) (of1 (combine tg nu xs))))
    (share (rows xs) (in2 wg) (in2 wu) (down2 wd) (of2 (combine tg nu xs))))
    (share (rows xs) (in3 wg) (in3 wu) (down3 wd) (of3 (combine tg nu xs)))

/-- What the reference returns. -/
theorem result_eq (m : (ℓ : Loc nD τ sig) → Buf (Elt Ideal) ℓ) (c : Dev nD) :
    res_out0 m c = experts (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := rfl

/-! ## The entries -/

/-- One hidden unit of one expert: the gated unit times the row's weight for the expert. -/
def gated (a u p : EReal) : EReal := a * Ideal.div 1 (1 + Ideal.exp (-a)) * u * p

/-- A weight of zero takes the unit out. -/
theorem gated_zero (a u : EReal) : gated a u 0 = 0 := mul_zero _

/-- Whether a tile is in use and belongs to a group, as one or zero. -/
theorem member_apply (t : Fin 68) (g : Fin 4) :
    member tg nu (ix2 t g) = if (BitVec.ofNat 32 t.val).slt (nu (ix1 0)) = true ∧ tg (ix1 t) = BitVec.ofNat 32 g.val then 1 else 0 := by
  pointwise [member]
  unfold Scalar.select IntOp.andi IntOp.cmpi
  by_cases h1 : (BitVec.ofNat 32 t.val).slt (nu (ix1 0)) = true
  · by_cases h2 : tg (ix1 t) = BitVec.ofNat 32 g.val
    · simp [h1, h2]
    · simp only [show (tg (ix1 t) == BitVec.ofNat 32 g.val) = false from beq_eq_false_iff_ne.2 h2, h1]
      exact (if_neg fun hx => h2 hx.2).symm
  · simp [h1]

/-- The weight of an expert in a row's sum: the row's own, where the row's tile is in use and of the expert's group. -/
theorem combine_apply (s : Fin 34816) (g : Fin 4) (e : Fin 8) :
    combine tg nu xs (ix3 s g e) = member tg nu (ix2 ⟨s.val / 512, by omega⟩ g) * xs (ix2 s ⟨1024 + e.val, by omega⟩) := by
  pointwise [combine, id]

theorem rows_apply (s : Fin 34816) (k : Fin 1024) : rows xs (ix2 s k) = xs (ix2 s ⟨k.val, by omega⟩) := by
  pointwise [rows]

theorem proj_apply (h : FVec Ideal S34816x1024 .f32) (w : FVec Ideal S8x1024x256 .f32) (s : Fin 34816) (e : Fin 8) (j : Fin 256) :
    proj h w (ix3 s e j) = ∑ k : Fin 1024, h (ix2 s k) * w (ix3 e k j) := by
  pointwise [proj]

theorem acts_apply (a u : FVec Ideal S34816x8x256 .f32) (p : FVec Ideal S34816x8 .f32) (s : Fin 34816) (e : Fin 8) (j : Fin 256) :
    acts a u p (ix3 s e j) = gated (a (ix3 s e j)) (u (ix3 s e j)) (p (ix2 s e)) := by
  pointwise [acts, gated]

theorem total_apply (z : FVec Ideal S34816x8x256 .f32) (w : FVec Ideal S8x256x1024 .f32) (s : Fin 34816) (d : Fin 1024) :
    total z w (ix2 s d) = ∑ e : Fin 8, ∑ j : Fin 256, z (ix3 s e j) * w (ix3 e j d) := by
  pointwise [total]

/-- A group's share of a row. -/
theorem share_apply (h : FVec Ideal S34816x1024 .f32) (g u : FVec Ideal S8x1024x256 .f32) (w : FVec Ideal S8x256x1024 .f32) (p : FVec Ideal S34816x8 .f32)
    (s : Fin 34816) (d : Fin 1024) :
    share h g u w p (ix2 s d) = ∑ e : Fin 8, ∑ j : Fin 256,
      gated (∑ k : Fin 1024, h (ix2 s k) * g (ix3 e k j)) (∑ k : Fin 1024, h (ix2 s k) * u (ix3 e k j)) (p (ix2 s e)) * w (ix3 e j d) := by
  unfold share
  rw [total_apply]
  refine Finset.sum_congr rfl fun e _ => Finset.sum_congr rfl fun j _ => ?_
  rw [acts_apply, proj_apply, proj_apply]

/-- A group none of whose experts a row weighs has no share of it. -/
theorem share_zero (h : FVec Ideal S34816x1024 .f32) (g u : FVec Ideal S8x1024x256 .f32) (w : FVec Ideal S8x256x1024 .f32) (p : FVec Ideal S34816x8 .f32)
    (s : Fin 34816) (d : Fin 1024) (hp : ∀ e, p (ix2 s e) = 0) : share h g u w p (ix2 s d) = 0 := by
  rw [share_apply]
  refine Finset.sum_eq_zero fun e _ => Finset.sum_eq_zero fun j _ => ?_
  rw [hp, gated_zero, zero_mul]

theorem in0_apply (w : FVec Ideal S4x8x1024x256 .bf16) (e : Fin 8) (k : Fin 1024) (j : Fin 256) : in0 w (ix3 e k j) = w (ix4 0 e k j) := by
  pointwise [in0]
theorem down0_apply (w : FVec Ideal S4x8x256x1024 .bf16) (e : Fin 8) (k : Fin 256) (j : Fin 1024) : down0 w (ix3 e k j) = w (ix4 0 e k j) := by
  pointwise [down0]
theorem of0_apply (p : FVec Ideal S34816x4x8 .f32) (s : Fin 34816) (e : Fin 8) : of0 p (ix2 s e) = p (ix3 s 0 e) := by
  pointwise [of0]
theorem in1_apply (w : FVec Ideal S4x8x1024x256 .bf16) (e : Fin 8) (k : Fin 1024) (j : Fin 256) : in1 w (ix3 e k j) = w (ix4 1 e k j) := by
  pointwise [in1]
theorem down1_apply (w : FVec Ideal S4x8x256x1024 .bf16) (e : Fin 8) (k : Fin 256) (j : Fin 1024) : down1 w (ix3 e k j) = w (ix4 1 e k j) := by
  pointwise [down1]
theorem of1_apply (p : FVec Ideal S34816x4x8 .f32) (s : Fin 34816) (e : Fin 8) : of1 p (ix2 s e) = p (ix3 s 1 e) := by
  pointwise [of1]
theorem in2_apply (w : FVec Ideal S4x8x1024x256 .bf16) (e : Fin 8) (k : Fin 1024) (j : Fin 256) : in2 w (ix3 e k j) = w (ix4 2 e k j) := by
  pointwise [in2]
theorem down2_apply (w : FVec Ideal S4x8x256x1024 .bf16) (e : Fin 8) (k : Fin 256) (j : Fin 1024) : down2 w (ix3 e k j) = w (ix4 2 e k j) := by
  pointwise [down2]
theorem of2_apply (p : FVec Ideal S34816x4x8 .f32) (s : Fin 34816) (e : Fin 8) : of2 p (ix2 s e) = p (ix3 s 2 e) := by
  pointwise [of2]
theorem in3_apply (w : FVec Ideal S4x8x1024x256 .bf16) (e : Fin 8) (k : Fin 1024) (j : Fin 256) : in3 w (ix3 e k j) = w (ix4 3 e k j) := by
  pointwise [in3]
theorem down3_apply (w : FVec Ideal S4x8x256x1024 .bf16) (e : Fin 8) (k : Fin 256) (j : Fin 1024) : down3 w (ix3 e k j) = w (ix4 3 e k j) := by
  pointwise [down3]
theorem of3_apply (p : FVec Ideal S34816x4x8 .f32) (s : Fin 34816) (e : Fin 8) : of3 p (ix2 s e) = p (ix3 s 3 e) := by
  pointwise [of3]

/-- One row's sum over the experts of one group. -/
def expertSum (s : Fin 34816) (g : Fin 4) (d : Fin 1024) : EReal :=
  ∑ e : Fin 8, ∑ j : Fin 256,
    gated (∑ k : Fin 1024, xs (ix2 s ⟨k.val, by omega⟩) * wg (ix4 g e k j)) (∑ k : Fin 1024, xs (ix2 s ⟨k.val, by omega⟩) * wu (ix4 g e k j)) (xs (ix2 s ⟨1024 + e.val, by omega⟩))
      * wd (ix4 g e j d)

/-- The layer's entry is the sum of the four groups' shares. -/
theorem experts_apply (s : Fin 34816) (d : Fin 1024) :
    experts tg nu xs wg wu wd (ix2 s d)
      = share (rows xs) (in0 wg) (in0 wu) (down0 wd) (of0 (combine tg nu xs)) (ix2 s d)
        + share (rows xs) (in1 wg) (in1 wu) (down1 wd) (of1 (combine tg nu xs)) (ix2 s d)
        + share (rows xs) (in2 wg) (in2 wu) (down2 wd) (of2 (combine tg nu xs)) (ix2 s d)
        + share (rows xs) (in3 wg) (in3 wu) (down3 wd) (of3 (combine tg nu xs)) (ix2 s d) := by
  pointwise [experts]

/-- No weight where the tile is not the group's or not in use. -/
theorem combine_zero (s : Fin 34816) (g : Fin 4) (e : Fin 8)
    (h : ¬ ((BitVec.ofNat 32 (s.val / 512)).slt (nu (ix1 0)) = true ∧ tg (ix1 ⟨s.val / 512, by omega⟩) = BitVec.ofNat 32 g.val)) :
    combine tg nu xs (ix3 s g e) = 0 := by
  rw [combine_apply, member_apply, if_neg h, zero_mul]

/-- The row's own weight where the tile is in use and the group's. -/
theorem combine_own (s : Fin 34816) (g : Fin 4) (e : Fin 8)
    (h : (BitVec.ofNat 32 (s.val / 512)).slt (nu (ix1 0)) = true ∧ tg (ix1 ⟨s.val / 512, by omega⟩) = BitVec.ofNat 32 g.val) :
    combine tg nu xs (ix3 s g e) = xs (ix2 s ⟨1024 + e.val, by omega⟩) := by
  rw [combine_apply, member_apply, if_pos h, one_mul]

/-- A row of a tile not in use is zero. -/
theorem experts_unused (s : Fin 34816) (d : Fin 1024) (h : ¬ (BitVec.ofNat 32 (s.val / 512)).slt (nu (ix1 0)) = true) :
    experts tg nu xs wg wu wd (ix2 s d) = 0 := by
  rw [experts_apply, share_zero _ _ _ _ _ s d fun e => ?_, share_zero _ _ _ _ _ s d fun e => ?_, share_zero _ _ _ _ _ s d fun e => ?_,
    share_zero _ _ _ _ _ s d fun e => ?_, add_zero, add_zero, add_zero]
  · rw [of3_apply]; exact combine_zero tg nu xs s 3 e fun hx => h hx.1
  · rw [of2_apply]; exact combine_zero tg nu xs s 2 e fun hx => h hx.1
  · rw [of1_apply]; exact combine_zero tg nu xs s 1 e fun hx => h hx.1
  · rw [of0_apply]; exact combine_zero tg nu xs s 0 e fun hx => h hx.1

/-- The share of the group whose weights the row's own are. -/
theorem share_own (h : FVec Ideal S34816x1024 .f32) (gw uw : FVec Ideal S8x1024x256 .f32) (dw : FVec Ideal S8x256x1024 .f32) (p : FVec Ideal S34816x8 .f32)
    (s : Fin 34816) (d : Fin 1024) (g : Fin 4) (hh : ∀ k : Fin 1024, h (ix2 s k) = xs (ix2 s ⟨k.val, by omega⟩)) (hg : ∀ e k j, gw (ix3 e k j) = wg (ix4 g e k j))
    (hu : ∀ e k j, uw (ix3 e k j) = wu (ix4 g e k j)) (hd : ∀ e k j, dw (ix3 e k j) = wd (ix4 g e k j)) (hp : ∀ e : Fin 8, p (ix2 s e) = xs (ix2 s ⟨1024 + e.val, by omega⟩)) :
    share h gw uw dw p (ix2 s d) = expertSum xs wg wu wd s g d := by
  rw [share_apply]
  unfold expertSum
  simp only [hh, hg, hu, hd, hp]

/-- Another group than the tile's gives the row no weight. -/
theorem combine_other (s : Fin 34816) (g g' : Fin 4) (hn : g.val ≠ g'.val) (hg : tg (ix1 ⟨s.val / 512, by omega⟩) = BitVec.ofNat 32 g.val) (e : Fin 8) :
    combine tg nu xs (ix3 s g' e) = 0 :=
  combine_zero tg nu xs s g' e fun hx => hn (by
    have := congrArg BitVec.toNat (hg.symm.trans hx.2)
    rw [BitVec.toNat_ofNat, BitVec.toNat_ofNat, Nat.mod_eq_of_lt (by omega), Nat.mod_eq_of_lt (by omega)] at this
    exact this)

section

variable (s : Fin 34816) (d : Fin 1024) (g : Fin 4) (hu : (BitVec.ofNat 32 (s.val / 512)).slt (nu (ix1 0)) = true)
  (hg : tg (ix1 ⟨s.val / 512, by omega⟩) = BitVec.ofNat 32 g.val)
include hu hg

/-- Group 0's share of a row of a tile in use. -/
theorem share0 : share (rows xs) (in0 wg) (in0 wu) (down0 wd) (of0 (combine tg nu xs)) (ix2 s d) = if g = 0 then expertSum xs wg wu wd s g d else 0 := by
  split
  · next hk =>
    refine share_own xs wg wu wd _ _ _ _ _ s d g (rows_apply xs s) (fun e k j => ?_) (fun e k j => ?_) (fun e k j => ?_) (fun e => ?_)
    · rw [in0_apply, hk]
    · rw [in0_apply, hk]
    · rw [down0_apply, hk]
    · rw [of0_apply, ← hk]
      exact combine_own tg nu xs s g e ⟨hu, hg⟩
  · next hk =>
    refine share_zero _ _ _ _ _ s d fun e => ?_
    rw [of0_apply]
    exact combine_other tg nu xs s g 0 (fun hx => hk (Fin.ext hx)) hg e

/-- Group 1's share of a row of a tile in use. -/
theorem share1 : share (rows xs) (in1 wg) (in1 wu) (down1 wd) (of1 (combine tg nu xs)) (ix2 s d) = if g = 1 then expertSum xs wg wu wd s g d else 0 := by
  split
  · next hk =>
    refine share_own xs wg wu wd _ _ _ _ _ s d g (rows_apply xs s) (fun e k j => ?_) (fun e k j => ?_) (fun e k j => ?_) (fun e => ?_)
    · rw [in1_apply, hk]
    · rw [in1_apply, hk]
    · rw [down1_apply, hk]
    · rw [of1_apply, ← hk]
      exact combine_own tg nu xs s g e ⟨hu, hg⟩
  · next hk =>
    refine share_zero _ _ _ _ _ s d fun e => ?_
    rw [of1_apply]
    exact combine_other tg nu xs s g 1 (fun hx => hk (Fin.ext hx)) hg e

/-- Group 2's share of a row of a tile in use. -/
theorem share2 : share (rows xs) (in2 wg) (in2 wu) (down2 wd) (of2 (combine tg nu xs)) (ix2 s d) = if g = 2 then expertSum xs wg wu wd s g d else 0 := by
  split
  · next hk =>
    refine share_own xs wg wu wd _ _ _ _ _ s d g (rows_apply xs s) (fun e k j => ?_) (fun e k j => ?_) (fun e k j => ?_) (fun e => ?_)
    · rw [in2_apply, hk]
    · rw [in2_apply, hk]
    · rw [down2_apply, hk]
    · rw [of2_apply, ← hk]
      exact combine_own tg nu xs s g e ⟨hu, hg⟩
  · next hk =>
    refine share_zero _ _ _ _ _ s d fun e => ?_
    rw [of2_apply]
    exact combine_other tg nu xs s g 2 (fun hx => hk (Fin.ext hx)) hg e

/-- Group 3's share of a row of a tile in use. -/
theorem share3 : share (rows xs) (in3 wg) (in3 wu) (down3 wd) (of3 (combine tg nu xs)) (ix2 s d) = if g = 3 then expertSum xs wg wu wd s g d else 0 := by
  split
  · next hk =>
    refine share_own xs wg wu wd _ _ _ _ _ s d g (rows_apply xs s) (fun e k j => ?_) (fun e k j => ?_) (fun e k j => ?_) (fun e => ?_)
    · rw [in3_apply, hk]
    · rw [in3_apply, hk]
    · rw [down3_apply, hk]
    · rw [of3_apply, ← hk]
      exact combine_own tg nu xs s g e ⟨hu, hg⟩
  · next hk =>
    refine share_zero _ _ _ _ _ s d fun e => ?_
    rw [of3_apply]
    exact combine_other tg nu xs s g 3 (fun hx => hk (Fin.ext hx)) hg e

/-- A row of a tile in use is the sum over the experts of the tile's group. -/
theorem experts_used : experts tg nu xs wg wu wd (ix2 s d) = expertSum xs wg wu wd s g d := by
  rw [experts_apply, share0 tg nu xs wg wu wd s d g hu hg, share1 tg nu xs wg wu wd s d g hu hg, share2 tg nu xs wg wu wd s d g hu hg,
    share3 tg nu xs wg wu wd s d g hu hg]
  generalize expertSum xs wg wu wd s g d = X
  have h4 := (by decide : ∀ g : Fin 4, g = 0 ∨ g = 1 ∨ g = 2 ∨ g = 3) g
  rcases h4 with h | h | h | h <;> subst h <;> simp

end

end Cert.Reference2Ideal.Experts

end

end
-- ==== Proof.Lanes.lean ====
module

public import proofs.«01_k».proof.Proof.Experts
public import proofs.«01_k».proof.Proof.Ref2
public import Idealize.ShloMosaic.Lib.Pointwise
public import Idealize.ShloMosaic.Lib.Pipeline.ValueKit

@[expose] public section

set_option maxRecDepth 16384

noncomputable section

namespace Cert.Kernel2Ideal.Experts

open Cert.Kernel2Ideal Cert.Kernel2Ideal.Gen Idealize.ShloMosaic Idealize.ShloMosaic.TcCoe Idealize.SL.Sem
open Cert.Reference2Ideal.Experts (gated)

/-! ## The payloads of the body, entry by entry -/

/-- The last product. -/
theorem pay2_apply (s : FVec Ideal S512x2048 .bf16) (w : FVec Ideal S1x8x256x1024 .bf16) (r : Fin 512) (d : Fin 1024) :
    k0_pay2 (F := Ideal) s w (ix2 r d) = ∑ k : Fin 2048, s (ix2 r k) * w (ix4 0 ⟨k.val / 256, by omega⟩ ⟨k.val % 256, by omega⟩ d) := by
  pointwise [k0_pay2]

/-- The zeros stored where a tile is not in use. -/
theorem pay3_apply (r : Fin 512) (d : Fin 1024) : k0_pay3 (F := Ideal) (ix2 r d) = 0 := by
  pointwise [k0_pay3]

variable (h : FVec Ideal S512x1024 .f32) (c : FVec Ideal S512x128 .f32) (g u : FVec Ideal S1x1x1024x256 .bf16)

/-- One hidden unit of expert `e` of a tile's row. -/
def unit (e : Fin 128) (r : Fin 512) (j : Fin 256) : EReal :=
  gated (∑ k : Fin 1024, h (ix2 r k) * g (ix4 0 0 k j)) (∑ k : Fin 1024, h (ix2 r k) * u (ix4 0 0 k j)) (c (ix2 r e))

/-- What the body stores for the group's expert 0. -/
theorem lane0 (r : Fin 512) (j : Fin 256) : k0_pay5 (F := Ideal) h c g u (ix2 r j) = unit h c g u 0 r j := by
  pointwise [k0_pay5, k0_pay4, unit, gated, zero_sub, sub_eq_add_neg, zero_add]

/-- What the body stores for the group's expert 1. -/
theorem lane1 (r : Fin 512) (j : Fin 256) : k0_pay8 (F := Ideal) (k0_pay4 h) c (k0_pay6 h g) (k0_pay7 u) (constant S512x256 .f32 0#32) (ix2 r j) = unit h c g u 1 r j := by
  pointwise [k0_pay8, k0_pay4, k0_pay6, k0_pay7, unit, gated, zero_sub, sub_eq_add_neg, zero_add]

/-- What the body stores for the group's expert 2. -/
theorem lane2 (r : Fin 512) (j : Fin 256) : k0_pay9 (F := Ideal) (k0_pay4 h) c g u (ix2 r j) = unit h c g u 2 r j := by
  pointwise [k0_pay9, k0_pay4, unit, gated, zero_sub, sub_eq_add_neg, zero_add]

/-- What the body stores for the group's expert 3. -/
theorem lane3 (r : Fin 512) (j : Fin 256) : k0_pay10 (F := Ideal) (k0_pay4 h) c g u (ix2 r j) = unit h c g u 3 r j := by
  pointwise [k0_pay10, k0_pay4, unit, gated, zero_sub, sub_eq_add_neg, zero_add]

/-- What the body stores for the group's expert 4. -/
theorem lane4 (r : Fin 512) (j : Fin 256) : k0_pay14 (F := Ideal) c (k0_pay11 (k0_pay4 h) g) (k0_pay12 (k0_pay4 h) u) (k0_pay13 (k0_pay4 h) g) (FloatOps.ofBits .f32 0x3F800000#32) (ix2 r j) = unit h c g u 4 r j := by
  pointwise [k0_pay14, k0_pay11, k0_pay12, k0_pay13, k0_pay4, unit, gated, zero_sub, sub_eq_add_neg, zero_add]

/-- What the body stores for the group's expert 5. -/
theorem lane5 (r : Fin 512) (j : Fin 256) : k0_pay15 (F := Ideal) (k0_pay4 h) c g u (ix2 r j) = unit h c g u 5 r j := by
  pointwise [k0_pay15, k0_pay4, unit, gated, zero_sub, sub_eq_add_neg, zero_add]

/-- What the body stores for the group's expert 6. -/
theorem lane6 (r : Fin 512) (j : Fin 256) : k0_pay16 (F := Ideal) (k0_pay4 h) c g u (ix2 r j) = unit h c g u 6 r j := by
  pointwise [k0_pay16, k0_pay4, unit, gated, zero_sub, sub_eq_add_neg, zero_add]

/-- What the body stores for the group's expert 7. -/
theorem lane7 (r : Fin 512) (j : Fin 256) : k0_pay1 (F := Ideal) c (k0_pay17 (k0_pay4 h) u) (k0_pay18 (k0_pay4 h) g) (ix2 r j) = unit h c g u 7 r j := by
  pointwise [k0_pay1, k0_pay17, k0_pay18, k0_pay4, unit, gated, zero_sub, sub_eq_add_neg, zero_add]

/-! ## A tile's blocks -/

section

variable (X : FVec Ideal S512x1152 .f32) (G U : FVec Ideal S1x8x1024x256 .bf16) (D : FVec Ideal S1x8x256x1024 .bf16)

/-- One hidden unit of expert `e` of the tile's row, from the blocks. -/
def unitOf (e : Fin 8) (r : Fin 512) (j : Fin 256) : EReal :=
  gated (∑ k : Fin 1024, X (ix2 r ⟨k.val, by omega⟩) * G (ix4 0 e k j)) (∑ k : Fin 1024, X (ix2 r ⟨k.val, by omega⟩) * U (ix4 0 e k j)) (X (ix2 r ⟨1024 + e.val, by omega⟩))

/-- One row's sum over the experts, from the blocks. -/
def tileSum (r : Fin 512) (d : Fin 1024) : EReal :=
  ∑ k : Fin 2048, unitOf X G U ⟨k.val / 256, by omega⟩ r ⟨k.val % 256, by omega⟩ * D (ix4 0 ⟨k.val / 256, by omega⟩ ⟨k.val % 256, by omega⟩ d)

/-- What is computed from the loads is the unit of the blocks. -/
theorem unit_loads (h : FVec Ideal S512x1024 .f32) (c : FVec Ideal S512x128 .f32) (g u : FVec Ideal S1x1x1024x256 .bf16) (e : Fin 8) (e' : Fin 128)
    (r : Fin 512) (j : Fin 256) (hh : ∀ k : Fin 1024, h (ix2 r k) = X (ix2 r ⟨k.val, by omega⟩)) (hc : c (ix2 r e') = X (ix2 r ⟨1024 + e.val, by omega⟩))
    (hg : ∀ k : Fin 1024, g (ix4 0 0 k j) = G (ix4 0 e k j)) (hu : ∀ k : Fin 1024, u (ix4 0 0 k j) = U (ix4 0 e k j)) :
    unit h c g u e' r j = unitOf X G U e r j := by
  unfold unit unitOf
  simp only [hh, hc, hg, hu]

/-- A coordinate counted from zero in steps of one. -/
theorem unit_index (a b : ℕ) (h : a = 0 + 1 * b) : a = b := by omega

/-- An entry of the rows' block depends on its coordinates' numbers only. -/
theorem rows_congr (i i' : S512x1152.Idx) (h0 : (i 0).val = (i' 0).val) (h1 : (i 1).val = (i' 1).val) : X i = X i' :=
  congrArg X (funext fun a => Fin.ext (match a with | ⟨0, _⟩ => h0 | ⟨1, _⟩ => h1))

/-- An entry of a weights' block depends on its coordinates' numbers only. -/
theorem weights_congr (i i' : S1x8x1024x256.Idx) (h1 : (i 1).val = (i' 1).val) (h2 : (i 2).val = (i' 2).val) (h3 : (i 3).val = (i' 3).val) : G i = G i' :=
  congrArg G (funext fun a => Fin.ext (match a with
    | ⟨0, _⟩ => (Nat.lt_one_iff.1 (i 0).isLt).trans (Nat.lt_one_iff.1 (i' 0).isLt).symm | ⟨1, _⟩ => h1 | ⟨2, _⟩ => h2 | ⟨3, _⟩ => h3))

/-- A unit depends on its numbers only. -/
theorem unitOf_congr {e e' : Fin 8} {r r' : Fin 512} {j j' : Fin 256} (he : e.val = e'.val) (hr : r.val = r'.val) (hj : j.val = j'.val) :
    unitOf X G U e r j = unitOf X G U e' r' j' := by
  rw [Fin.ext he, Fin.ext hr, Fin.ext hj]

end

variable (m : (ℓ : Loc nD τ sig) → Buf (Elt Ideal) ℓ) (ρ : Dev nD → PrngReg) (hok : ok0 (F := Ideal) (tables m))

set_option maxHeartbeats 1600000 in
/-- The tile of a position in use: the sum over the experts' hidden units. -/
theorem tile_used (c : Dev nD) (t : Fin (pipe m hok).N) (hu : k0_cond1 (pt m hok t) (usedWord m) = 1#1) (r : Fin 512) (d : Fin 1024) :
    tileOut m ρ hok c t (ix2 r d) = tileSum (blockIn m ρ hok c (0 : Fin 5) t) (blockIn m ρ hok c (1 : Fin 5) t) (blockIn m ρ hok c (2 : Fin 5) t) (blockIn m ρ hok c (3 : Fin 5) t) r d := by
  unfold tileOut
  rw [dif_pos hu]
  unfold out0_A_4
  frame_out
  simp only [View.read_rep]
  rw [pay2_apply]
  clear hu
  generalize blockIn m ρ hok c (0 : Fin 5) t = X
  generalize blockIn m ρ hok c (1 : Fin 5) t = G
  generalize blockIn m ρ hok c (2 : Fin 5) t = U
  unfold tileSum
  refine Finset.sum_congr rfl fun k _ => ?_
  refine congrArg (· * _) ?_
  rw [View.readCov_eq_canon']
  canon_tiles x h
  · idx_vars x
    replace h0 : 0 + 1 * r.val = _ := h0
    replace h1 : 0 + 1 * k.val = _ := h1
    refine ((lane7 _ _ _ _ _ _).trans (unit_loads X G U _ _ _ _ 7 7 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 7 = k.val / 256
      omega
    · omega
    · dsimp only
      omega
  · idx_vars x
    replace h0 : 0 + 1 * r.val = _ := h0
    replace h1 : 0 + 1 * k.val = _ := h1
    refine ((lane6 _ _ _ _ _ _).trans (unit_loads X G U _ _ _ _ 6 6 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 6 = k.val / 256
      omega
    · omega
    · dsimp only
      omega
  · idx_vars x
    replace h0 : 0 + 1 * r.val = _ := h0
    replace h1 : 0 + 1 * k.val = _ := h1
    refine ((lane5 _ _ _ _ _ _).trans (unit_loads X G U _ _ _ _ 5 5 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 5 = k.val / 256
      omega
    · omega
    · dsimp only
      omega
  · idx_vars x
    replace h0 : 0 + 1 * r.val = _ := h0
    replace h1 : 0 + 1 * k.val = _ := h1
    refine ((lane4 _ _ _ _ _ _).trans (unit_loads X G U _ _ _ _ 4 4 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 4 = k.val / 256
      omega
    · omega
    · dsimp only
      omega
  · idx_vars x
    replace h0 : 0 + 1 * r.val = _ := h0
    replace h1 : 0 + 1 * k.val = _ := h1
    refine ((lane3 _ _ _ _ _ _).trans (unit_loads X G U _ _ _ _ 3 3 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 3 = k.val / 256
      omega
    · omega
    · dsimp only
      omega
  · idx_vars x
    replace h0 : 0 + 1 * r.val = _ := h0
    replace h1 : 0 + 1 * k.val = _ := h1
    refine ((lane2 _ _ _ _ _ _).trans (unit_loads X G U _ _ _ _ 2 2 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 2 = k.val / 256
      omega
    · omega
    · dsimp only
      omega
  · idx_vars x
    replace h0 : 0 + 1 * r.val = _ := h0
    replace h1 : 0 + 1 * k.val = _ := h1
    refine ((lane1 _ _ _ _ _ _).trans (unit_loads X G U _ _ _ _ 1 1 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 1 = k.val / 256
      omega
    · omega
    · dsimp only
      omega
  · idx_vars x
    replace h0 : 0 + 1 * r.val = _ := h0
    replace h1 : 0 + 1 * k.val = _ := h1
    refine ((lane0 _ _ _ _ _ _).trans (unit_loads X G U _ _ _ _ 0 0 _ _ (fun i => rows_congr X _ _ ?_ ?_) (rows_congr X _ _ ?_ ?_)
      (fun i => weights_congr G _ _ ?_ ?_ ?_) (fun i => weights_congr U _ _ ?_ ?_ ?_))).trans (unitOf_congr X G U ?_ ?_ ?_)
    · exact unit_index _ _ rfl
    · exact unit_index _ _ rfl
    · exact unit_index _ _ rfl
    · rfl
    · rfl
    · exact unit_index _ _ rfl
    · exact unit_index _ _ rfl
    · rfl
    · exact unit_index _ _ rfl
    · exact unit_index _ _ rfl
    · show 0 = k.val / 256
      omega
    · omega
    · dsimp only
      omega

/-- The tile of a position not in use: zeros. -/
theorem tile_unused (c : Dev nD) (t : Fin (pipe m hok).N) (hu : ¬ k0_cond1 (pt m hok t) (usedWord m) = 1#1) (r : Fin 512) (d : Fin 1024) :
    tileOut m ρ hok c t (ix2 r d) = 0 := by
  unfold tileOut
  rw [dif_neg hu]
  unfold out0_B_4
  frame_out
  exact pay3_apply r d

end Cert.Kernel2Ideal.Experts

end

end
-- ==== Proof.Tiles.lean ====
module

public import proofs.«01_k».proof.Proof.Lanes

@[expose] public section

set_option maxRecDepth 16384

noncomputable section

namespace Cert.Kernel2Ideal.Experts

open Cert.Kernel2Ideal Cert.Kernel2Ideal.Gen Idealize.ShloMosaic Idealize.ShloMosaic.TcCoe Idealize.SL.Sem
open Idealize.ShloMosaic.Pipeline (Dat)
open Cert.Reference2Ideal.Experts (experts experts_used experts_unused expertSum gated)

/-! ## The whole run: every tile of rows -/

/-- The result's window, apart from the tables. -/
abbrev outWin : Pipeline.Window sig grid0 :=
  Pipeline.Window.ofSpec (Memref.whole main_v0) S512x1024.size cc0_transform_4 reads0_4 true false 2 stage0_4 sem0_4
    hrank0 hreads0_4 hinb0_4 nbuf0_4 (Memref.isWhole_whole _) hwx0_4 hstage0_4

/-- The result's blocks cover it. -/
theorem outWin_covers : outWin.Covers := by decide +kernel

/-- The rows' block index and the result's. -/
theorem index_rows : ∀ t : Fin grid0.N, cc0_transform_0 (grid0.coords t) = ![t.val, 0] ∧ cc0_transform_4 (grid0.coords t) = ![t.val, 0] ∧ (grid0.coords t 0).val = t.val ∧ t.val < 68 := by
  decide +kernel

variable (m : (ℓ : Loc nD τ sig) → Buf (Elt Ideal) ℓ) (ρ : Dev nD → PrngReg) (hok : ok0 (F := Ideal) (tables m))

/-- The pipeline's result window covers the result. -/
theorem out_covers : ((pipe m hok).win (4 : Fin 5)).Covers := outWin_covers

/-- The rows' block at a position. -/
theorem rows_block (c : Dev nD) (t : Fin (pipe m hok).N) (r : Fin 512) (k : Fin 1152) :
    blockIn m ρ hok c (0 : Fin 5) t (ix2 r k) = m ((c : Thread nD τ).loc main_arg2) (ix2 ⟨512 * t.val + r.val, by have := (index_rows t).2.2.2; omega⟩ k) := by
  refine congrArg (m ((c : Thread nD τ).loc main_arg2)) (funext fun a => Fin.ext ?_)
  match a with
  | ⟨0, _⟩ =>
    show cc0_transform_0 (grid0.coords t) 0 * 512 + 1 * r.val = 512 * t.val + r.val
    rw [(index_rows t).1]
    show t.val * 512 + 1 * r.val = 512 * t.val + r.val
    omega
  | ⟨1, _⟩ =>
    show cc0_transform_0 (grid0.coords t) 1 * 1152 + 1 * k.val = k.val
    rw [(index_rows t).1]
    show 0 * 1152 + 1 * k.val = k.val
    omega

/-- A tile's number, taken as an index, is itself. -/
theorem small_index : ∀ t : Fin 68, BitVec.toNat (Scalar.indexCast (BitVec.ofNat 32 t.val) : Index) = t.val := by decide +kernel

/-- The table's word at a position. -/
theorem word_at (t : Fin (pipe m hok).N) :
    (tables m).at 0 (Rect.unit (s := S68) ![(Scalar.indexCast (BitVec.ofNat 32 (pt m hok t 0).val) : Index).toNat] S1.size (k0_off1_inb (pt m hok t))) numel1_S1
      = groups m (ix1 ⟨t.val, (index_rows t).2.2.2⟩) := by
  refine congrArg (groups m) (funext fun a => Fin.ext ?_)
  match a with
  | ⟨0, _⟩ =>
    have h1 : (pt m hok t 0).val = t.val := (index_rows t).2.2.1
    have h2 := (index_rows t).2.2.2
    show (Scalar.indexCast (BitVec.ofNat 32 (pt m hok t 0).val) : Index).toNat + 1 * 0 = t.val
    rw [h1]
    have h3 : BitVec.toNat (Scalar.indexCast (BitVec.ofNat 32 t.val) : Index) = t.val := small_index ⟨t.val, h2⟩
    omega

/-- A group's number as a block index. -/
theorem group_index : ∀ g : Fin 4, (![(BitVec.ofNat 32 g.val).toNat, (0#32).toNat, (0#32).toNat, (0#32).toNat] : Fin 4 → ℕ) = ![g.val, 0, 0, 0] := by decide

/-- The gates' block at a position: the experts of the tile's group. -/
theorem gate_block (c : Dev nD) (t : Fin (pipe m hok).N) (g : Fin 4) (hg : groups m (ix1 ⟨t.val, (index_rows t).2.2.2⟩) = BitVec.ofNat 32 g.val) (e : Fin 8) (k : Fin 1024) (j : Fin 256) :
    blockIn m ρ hok c (1 : Fin 5) t (ix4 0 e k j) = m ((c : Thread nD τ).loc main_arg3) (ix4 g e k j) := by
  refine congrArg (m ((c : Thread nD τ).loc main_arg3)) (funext fun a => Fin.ext ?_)
  have hi : cc0_transform_1 k0_off1_inb numel1_S1 (tables m) (grid0.coords t) = ![g.val, 0, 0, 0] := by
    unfold cc0_transform_1
    dsimp only
    rw [word_at m hok t, hg]
    exact group_index g
  match a with
  | ⟨0, _⟩ =>
    show cc0_transform_1 k0_off1_inb numel1_S1 (tables m) (grid0.coords t) 0 * 1 + 1 * 0 = g.val
    rw [hi]
    show g.val * 1 + 1 * 0 = g.val
    omega
  | ⟨1, _⟩ =>
    show cc0_transform_1 k0_off1_inb numel1_S1 (tables m) (grid0.coords t) 1 * 8 + 1 * e.val = e.val
    rw [hi]
    show 0 * 8 + 1 * e.val = e.val
    omega
  | ⟨2, _⟩ =>
    show cc0_transform_1 k0_off1_inb numel1_S1 (tables m) (grid0.coords t) 2 * 1024 + 1 * k.val = k.val
    rw [hi]
    show 0 * 1024 + 1 * k.val = k.val
    omega
  | ⟨3, _⟩ =>
    show cc0_transform_1 k0_off1_inb numel1_S1 (tables m) (grid0.coords t) 3 * 256 + 1 * j.val = j.val
    rw [hi]
    show 0 * 256 + 1 * j.val = j.val
    omega

/-- The other projections' block likewise. -/
theorem up_block (c : Dev nD) (t : Fin (pipe m hok).N) (g : Fin 4) (hg : groups m (ix1 ⟨t.val, (index_rows t).2.2.2⟩) = BitVec.ofNat 32 g.val) (e : Fin 8) (k : Fin 1024) (j : Fin 256) :
    blockIn m ρ hok c (2 : Fin 5) t (ix4 0 e k j) = m ((c : Thread nD τ).loc main_arg4) (ix4 g e k j) := by
  refine congrArg (m ((c : Thread nD τ).loc main_arg4)) (funext fun a => Fin.ext ?_)
  have hi : cc0_transform_2 k0_off1_inb numel1_S1 (tables m) (grid0.coords t) = ![g.val, 0, 0, 0] := by
    unfold cc0_transform_2
    dsimp only
    rw [word_at m hok t, hg]
    exact group_index g
  match a with
  | ⟨0, _⟩ =>
    show cc0_transform_2 k0_off1_inb numel1_S1 (tables m) (grid0.coords t) 0 * 1 + 1 * 0 = g.val
    rw [hi]
    show g.val * 1 + 1 * 0 = g.val
    omega
  | ⟨1, _⟩ =>
    show cc0_transform_2 k0_off1_inb numel1_S1 (tables m) (grid0.coords t) 1 * 8 + 1 * e.val = e.val
    rw [hi]
    show 0 * 8 + 1 * e.val = e.val
    omega
  | ⟨2, _⟩ =>
    show cc0_transform_2 k0_off1_inb numel1_S1 (tables m) (grid0.coords t) 2 * 1024 + 1 * k.val = k.val
    rw [hi]
    show 0 * 1024 + 1 * k.val = k.val
    omega
  | ⟨3, _⟩ =>
    show cc0_transform_2 k0_off1_inb numel1_S1 (tables m) (grid0.coords t) 3 * 256 + 1 * j.val = j.val
    rw [hi]
    show 0 * 256 + 1 * j.val = j.val
    omega

/-- The output projections' block likewise. -/
theorem down_block (c : Dev nD) (t : Fin (pipe m hok).N) (g : Fin 4) (hg : groups m (ix1 ⟨t.val, (index_rows t).2.2.2⟩) = BitVec.ofNat 32 g.val) (e : Fin 8) (k : Fin 256) (j : Fin 1024) :
    blockIn m ρ hok c (3 : Fin 5) t (ix4 0 e k j) = m ((c : Thread nD τ).loc main_arg5) (ix4 g e k j) := by
  refine congrArg (m ((c : Thread nD τ).loc main_arg5)) (funext fun a => Fin.ext ?_)
  have hi : cc0_transform_3 k0_off1_inb numel1_S1 (tables m) (grid0.coords t) = ![g.val, 0, 0, 0] := by
    unfold cc0_transform_3
    dsimp only
    rw [word_at m hok t, hg]
    exact group_index g
  match a with
  | ⟨0, _⟩ =>
    show cc0_transform_3 k0_off1_inb numel1_S1 (tables m) (grid0.coords t) 0 * 1 + 1 * 0 = g.val
    rw [hi]
    show g.val * 1 + 1 * 0 = g.val
    omega
  | ⟨1, _⟩ =>
    show cc0_transform_3 k0_off1_inb numel1_S1 (tables m) (grid0.coords t) 1 * 8 + 1 * e.val = e.val
    rw [hi]
    show 0 * 8 + 1 * e.val = e.val
    omega
  | ⟨2, _⟩ =>
    show cc0_transform_3 k0_off1_inb numel1_S1 (tables m) (grid0.coords t) 2 * 256 + 1 * k.val = k.val
    rw [hi]
    show 0 * 256 + 1 * k.val = k.val
    omega
  | ⟨3, _⟩ =>
    show cc0_transform_3 k0_off1_inb numel1_S1 (tables m) (grid0.coords t) 3 * 1024 + 1 * j.val = j.val
    rw [hi]
    show 0 * 1024 + 1 * j.val = j.val
    omega

/-- The body's test of a tile: its number is below the number of tiles in use. -/
theorem test_iff (i : grid0.Coords) (w : BitVec 32) : k0_cond1 i w = 1#1 ↔ (BitVec.ofNat 32 (i 0).val).slt w = true := by
  unfold k0_cond1
  simp only [Scalar.cmpi, Scalar.extui, IntOp.cmpi]
  generalize (BitVec.ofNat 32 (i 0).val).slt w = b
  cases b <;> decide

/-- The word the tests read is the number of tiles in use. -/
theorem usedWord_eq : usedWord m = used m (ix1 0) := by
  refine congrArg (used m) (funext fun a => Fin.ext ?_)
  match a with
  | ⟨0, _⟩ => rfl

/-- A sum over 2048 hidden units is a sum over eight experts of 256. -/
theorem sum_units (f : Fin 8 → Fin 256 → EReal) :
    ∑ k : Fin 2048, f ⟨k.val / 256, by omega⟩ ⟨k.val % 256, by omega⟩ = ∑ e : Fin 8, ∑ j : Fin 256, f e j := by
  rw [← Fintype.sum_prod_type' f]
  exact Fintype.sum_equiv (finProdFinEquiv (m := 8) (n := 256)).symm (fun k : Fin 2048 => f ⟨k.val / 256, by omega⟩ ⟨k.val % 256, by omega⟩) (fun p => f p.1 p.2) fun k => rfl

/-- The layer of the launch memory's arrays. -/
abbrev layer (c : Dev nD) : FVec Ideal S34816x1024 .f32 :=
  experts (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a position writes is the reference's tile. -/
theorem tile_value (hlt : ∀ x : S68.Idx, (BitVec.toNat (groups m x : BitVec 32)) < 4) (c : Dev nD) (t : Fin (pipe m hok).N) (r : Fin 512) (d : Fin 1024) :
    tileOut m ρ hok c t (ix2 r d) = layer m c (ix2 ⟨512 * t.val + r.val, by have := (index_rows t).2.2.2; omega⟩ d) := by
  have ht := (index_rows t).2.2.2
  have hpt : (pt m hok t 0).val = t.val := (index_rows t).2.2.1
  have hs : (⟨(512 * t.val + r.val) / 512, by omega⟩ : Fin 68) = ⟨t.val, ht⟩ := Fin.ext (by dsimp only; omega)
  have hs' : (512 * t.val + r.val) / 512 = t.val := by omega
  obtain rfl : c = 0 := Subsingleton.elim _ _
  by_cases hu : (BitVec.ofNat 32 t.val).slt (used m (ix1 0)) = true
  · have hk : k0_cond1 (pt m hok t) (usedWord m) = 1#1 := (test_iff _ _).2 (by rw [usedWord_eq, hpt]; exact hu)
    have hg : groups m (ix1 ⟨t.val, ht⟩) = BitVec.ofNat 32 (⟨BitVec.toNat (groups m (ix1 ⟨t.val, ht⟩) : BitVec 32), hlt _⟩ : Fin 4).val :=
      BitVec.eq_of_toNat_eq (by
        have := hlt (ix1 ⟨t.val, ht⟩)
        rw [BitVec.toNat_ofNat, Nat.mod_eq_of_lt (by dsimp only; omega)])
    generalize (⟨BitVec.toNat (groups m (ix1 ⟨t.val, ht⟩) : BitVec 32), hlt _⟩ : Fin 4) = g at hg
    rw [tile_used m ρ hok 0 t hk]
    refine Eq.trans ?_ (experts_used _ _ _ _ _ _ ⟨512 * t.val + r.val, by omega⟩ d g (by dsimp only; rw [hs']; exact hu)
      ((congrArg (fun i => groups m (ix1 i)) hs).trans hg)).symm
    unfold tileSum expertSum
    rw [← sum_units]
    refine Finset.sum_congr rfl fun k _ => ?_
    unfold unitOf
    simp only [rows_block, gate_block m ρ hok 0 t g hg, up_block m ρ hok 0 t g hg, down_block m ρ hok 0 t g hg]
  · have hk : ¬ k0_cond1 (pt m hok t) (usedWord m) = 1#1 := fun h => hu (by have := (test_iff _ _).1 h; rw [usedWord_eq, hpt] at this; exact this)
    rw [tile_unused m ρ hok 0 t hk]
    exact (experts_unused _ _ _ _ _ _ ⟨512 * t.val + r.val, by omega⟩ d (by dsimp only; rw [hs']; exact hu)).symm

set_option maxHeartbeats 1600000 in
/-- After the run the result is the reference's. -/
theorem final (hlt : ∀ x : S68.Idx, (BitVec.toNat (groups m x : BitVec 32)) < 4) (c : Dev nD) :
    (data m ρ hok 0 c).arrAt (4 : Fin 5) (pipe m hok).N = layer m c := by
  refine (data m ρ hok 0 c).arrAt_eq_of_covers (4 : Fin 5) _ (out_covers m hok) fun t hf y => ?_
  refine Eq.trans (b := tileOut m ρ hok c t (ix2 (y 0) (y 1))) ?_ ((tile_value m ρ hok hlt c t (y 0) (y 1)).trans (congrArg (layer m c) (funext fun a => Fin.ext ?_)))
  · refine (cast_eq _ _).trans ?_
    refine (congrFun (after_4 m ρ hok c t) _).trans (congrArg (tileOut m ρ hok c t) (funext fun a => Fin.ext ?_))
    match a with
    | ⟨0, _⟩ => rfl
    | ⟨1, _⟩ => rfl
  · match a with
    | ⟨0, _⟩ =>
      show 512 * t.val + (y 0).val = cc0_transform_4 (grid0.coords t) 0 * 512 + 1 * (y 0).val
      rw [(index_rows t).2.1]
      show 512 * t.val + (y 0).val = t.val * 512 + 1 * (y 0).val
      omega
    | ⟨1, _⟩ =>
      show (y 1).val = cc0_transform_4 (grid0.coords t) 1 * 1024 + 1 * (y 1).val
      rw [(index_rows t).2.1]
      show (y 1).val = 0 * 1024 + 1 * (y 1).val
      omega

end Cert.Kernel2Ideal.Experts

end

end
-- ==== Proof.OutEven.lean ====
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Reference3Ideal.Out

open Cert.Reference3Ideal Cert.Reference3Ideal.Gen Idealize.ShloMosaic Idealize.ShloMosaic.TcCoe Idealize.SL.Sem

/-- The output projection with the residual: both head groups side by side, times one matrix, added to the stream. -/
def projected (x : FVec Ideal S32768x1024 .f32) (a : FVec Ideal S32768x1024 .bf16) (b : FVec Ideal S32768x1024 .bf16) (w : FVec Ideal S2048x1024 .f32) :
    FVec Ideal S32768x1024 .f32 :=
  addf x (Host.dotGeneral dot_S32768x2048_S2048x1024_S32768x1024_1_0_0_1_n_n none (extf .f32 (concatenate S32768x2048 1 [⟨S32768x1024, a⟩, ⟨S32768x1024, b⟩] concatenates_S32768x1024_S32768x1024_S32768x2048_d1) bitsLt_bf16_f32) w)

/-- An entry of it: the two groups' sums added to the stream in turn. -/
theorem projected_apply (x : FVec Ideal S32768x1024 .f32) (a : FVec Ideal S32768x1024 .bf16) (b : FVec Ideal S32768x1024 .bf16) (w : FVec Ideal S2048x1024 .f32)
    (r : Fin 32768) (d : Fin 1024) :
    projected x a b w (ix2 r d) = x (ix2 r d) + (∑ k : Fin 1024, a (ix2 r k) * w (ix2 ⟨k.val, by omega⟩ d))
      + ∑ k : Fin 1024, b (ix2 r k) * w (ix2 ⟨1024 + k.val, by omega⟩ d) := by
  pointwise [projected]
  rw [add_assoc]

end Cert.Reference3Ideal.Out

namespace Cert.Kernel3Ideal.Out

open Cert.Kernel3Ideal Cert.Kernel3Ideal.Gen Idealize.ShloMosaic Idealize.ShloMosaic.TcCoe Idealize.SL.Sem
open Idealize.ShloMosaic.Pipeline (Dat)
open Cert.Reference3Ideal.Out (projected projected_apply)

/-- What a block of rows stores, entry by entry. -/
theorem pay_apply (x : FVec Ideal S512x1024 .f32) (a : FVec Ideal S512x1024 .bf16) (wa : FVec Ideal S1024x1024 .bf16) (b : FVec Ideal S512x1024 .bf16) (wb : FVec Ideal S1024x1024 .bf16)
    (r : Fin 512) (d : Fin 1024) :
    k0_pay1 (F := Ideal) x a wa b wb (ix2 r d) = x (ix2 r d) + (∑ k : Fin 1024, a (ix2 r k) * wa (ix2 k d)) + ∑ k : Fin 1024, b (ix2 r k) * wb (ix2 k d) := by
  pointwise [k0_pay1]

/-- A load of a whole block is the block. -/
theorem whole0 {e : EltTy} (x : S512x1024.Idx → Elt Ideal e) : View.ld (Val := Elt Ideal) x r0_0 = x := View.ld_unit_zero (by decide) _ x

/-- A load of a whole block is the block. -/
theorem whole1 {e : EltTy} (x : S1024x1024.Idx → Elt Ideal e) : View.ld (Val := Elt Ideal) x r0_1 = x := View.ld_unit_zero (by decide) _ x

/-- The blocks a grid point reads and the block it writes. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 64 :=
  (by decide +kernel : ∀ t : Fin grid0.N, _)

/-- The weights of the first group. -/
def first (w : FVec Ideal S2048x1024 .f32) : FVec Ideal S1024x1024 .bf16 :=
  truncf .bf16 (extractStridedSlice S1024x1024 ![0, 0] w slices_S2048x1024_S1024x1024_0_0) bitsLt_bf16_f32

/-- The weights of the second group. -/
def second (w : FVec Ideal S2048x1024 .f32) : FVec Ideal S1024x1024 .bf16 :=
  truncf .bf16 (extractStridedSlice S1024x1024 ![1024, 0] w slices_S2048x1024_S1024x1024_1024_0) bitsLt_bf16_f32

/-- An entry of the first group's weights. -/
theorem first_apply (w : FVec Ideal S2048x1024 .f32) (k : Fin 1024) (d : Fin 1024) : first w (ix2 k d) = w (ix2 ⟨k.val, by omega⟩ d) := by
  pointwise [first]

/-- An entry of the second group's weights. -/
theorem second_apply (w : FVec Ideal S2048x1024 .f32) (k : Fin 1024) (d : Fin 1024) : second w (ix2 k d) = w (ix2 ⟨1024 + k.val, by omega⟩ d) := by
  pointwise [second]

variable (m : (ℓ : Loc nD τ sig) → Buf (Elt Ideal) ℓ) (c : Dev nD)

/-- The call finds the first group's weights. -/
theorem first_eq : V m c main_v1 = first (m ((c : Thread nD τ).loc main_arg3)) := by
  unfold V
  after_results_simp
  rfl

/-- The call finds the second group's weights. -/
theorem second_eq : V m c main_v3 = second (m ((c : Thread nD τ).loc main_arg3)) := by
  unfold V
  after_results_simp
  rfl

/-- The rows of a block of the stream. -/
theorem block0 (t : Fin cfg0.N) (r : Fin 512) (d : Fin 1024) : iblk m c 0 t (ix2 r d) = m ((c : Thread nD τ).loc main_arg0) (ix2 ⟨512 * t.val + r.val, by have := (idx t).2.2.2.2.2.2; omega⟩ d) := by
  rw [← V_main_arg0 m c]
  blk_ext [iblk, idx t]

/-- The rows of a block of the first head group. -/
theorem block1 (t : Fin cfg0.N) (r : Fin 512) (d : Fin 1024) : iblk m c 1 t (ix2 r d) = m ((c : Thread nD τ).loc main_arg1) (ix2 ⟨512 * t.val + r.val, by have := (idx t).2.2.2.2.2.2; omega⟩ d) := by
  rw [← V_main_arg1 m c]
  blk_ext [iblk, idx t]

/-- The rows of a block of the second head group. -/
theorem block2 (t : Fin cfg0.N) (r : Fin 512) (d : Fin 1024) : iblk m c 2 t (ix2 r d) = m ((c : Thread nD τ).loc main_arg2) (ix2 ⟨512 * t.val + r.val, by have := (idx t).2.2.2.2.2.2; omega⟩ d) := by
  rw [← V_main_arg2 m c]
  blk_ext [iblk, idx t]

/-- The first group's weights at every point. -/
theorem block3 (t : Fin cfg0.N) (k : Fin 1024) (d : Fin 1024) : iblk m c 3 t (ix2 k d) = first (m ((c : Thread nD τ).loc main_arg3)) (ix2 k d) := by
  rw [← first_eq m c]
  blk_ext [iblk, idx t]

/-- The second group's weights at every point. -/
theorem block4 (t : Fin cfg0.N) (k : Fin 1024) (d : Fin 1024) : iblk m c 4 t (ix2 k d) = second (m ((c : Thread nD τ).loc main_arg3)) (ix2 k d) := by
  rw [← second_eq m c]
  blk_ext [iblk, idx t]

/-- After the run the output array is the projection of the four arguments. -/
theorem final : (dats m 0 c).arrAt 5 cfg0.N = projected (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out0_5]
  canon_tiles x h
  idx_vars x
  have ht := (idx t).2.2.2.2.2.2
  refine (pay_apply _ _ _ _ _ _ _).trans ?_
  refine Eq.trans ?_ ((projected_apply (m ((c : Thread nD τ).loc main_arg0)) (m ((c : Thread nD τ).loc main_arg1)) (m ((c : Thread nD τ).loc main_arg2)) (m ((c : Thread nD τ).loc main_arg3)) ⟨512 * t.val + x0.val, by omega⟩ x1).symm.trans ?_)
  · refine congrArg₂ (· + ·) (congrArg₂ (· + ·) ?_ (Finset.sum_congr rfl fun k _ => congrArg₂ (· * ·) ?_ ?_)) (Finset.sum_congr rfl fun k _ => congrArg₂ (· * ·) ?_ ?_)
    · exact (congrFun (whole0 (iblk m c 0 t)) _).trans (block0 m c t x0 x1)
    · exact (congrFun (whole0 (iblk m c 1 t)) _).trans (block1 m c t x0 k)
    · exact (congrFun (whole1 (iblk m c 3 t)) _).trans ((block3 m c t k x1).trans (first_apply _ k x1))
    · exact (congrFun (whole0 (iblk m c 2 t)) _).trans (block2 m c t x0 k)
    · exact (congrFun (whole1 (iblk m c 4 t)) _).trans ((block4 m c t k x1).trans (second_apply _ k x1))
  · blk_ext [idx t]

end Cert.Kernel3Ideal.Out

end

end
-- ==== Proof.OutOdd.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Reference4Ideal.Out

open Cert.Reference4Ideal Cert.Reference4Ideal.Gen Idealize.ShloMosaic Idealize.ShloMosaic.TcCoe Idealize.SL.Sem

/-- The output projection with the residual: both head groups side by side, times one matrix, added to the stream. -/
def projected (x : FVec Ideal S32768x1024 .f32) (a : FVec Ideal S32768x1024 .bf16) (b : FVec Ideal S32768x2048 .bf16) (w : FVec Ideal S3072x1024 .f32) :
    FVec Ideal S32768x1024 .f32 :=
  addf x (Host.dotGeneral dot_S32768x3072_S3072x1024_S32768x1024_1_0_0_1_n_n none (extf .f32 (concatenate S32768x3072 1 [⟨S32768x1024, a⟩, ⟨S32768x2048, b⟩] concatenates_S32768x1024_S32768x2048_S32768x3072_d1) bitsLt_bf16_f32) w)

/-- An entry of it: the two groups' sums added to the stream in turn. -/
theorem projected_apply (x : FVec Ideal S32768x1024 .f32) (a : FVec Ideal S32768x1024 .bf16) (b : FVec Ideal S32768x2048 .bf16) (w : FVec Ideal S3072x1024 .f32)
    (r : Fin 32768) (d : Fin 1024) :
    projected x a b w (ix2 r d) = x (ix2 r d) + (∑ k : Fin 1024, a (ix2 r k) * w (ix2 ⟨k.val, by omega⟩ d))
      + ∑ k : Fin 2048, b (ix2 r k) * w (ix2 ⟨1024 + k.val, by omega⟩ d) := by
  pointwise [projected]
  rw [add_assoc]

end Cert.Reference4Ideal.Out

namespace Cert.Kernel4Ideal.Out

open Cert.Kernel4Ideal Cert.Kernel4Ideal.Gen Idealize.ShloMosaic Idealize.ShloMosaic.TcCoe Idealize.SL.Sem
open Idealize.ShloMosaic.Pipeline (Dat)
open Cert.Reference4Ideal.Out (projected projected_apply)

/-- What a block of rows stores, entry by entry. -/
theorem pay_apply (x : FVec Ideal S512x1024 .f32) (a : FVec Ideal S512x1024 .bf16) (wa : FVec Ideal S1024x1024 .bf16) (b : FVec Ideal S512x2048 .bf16) (wb : FVec Ideal S2048x1024 .bf16)
    (r : Fin 512) (d : Fin 1024) :
    k0_pay1 (F := Ideal) x a wa b wb (ix2 r d) = x (ix2 r d) + (∑ k : Fin 1024, a (ix2 r k) * wa (ix2 k d)) + ∑ k : Fin 2048, b (ix2 r k) * wb (ix2 k d) := by
  pointwise [k0_pay1]

/-- A load of a whole block is the block. -/
theorem whole0 {e : EltTy} (x : S512x1024.Idx → Elt Ideal e) : View.ld (Val := Elt Ideal) x r0_0 = x := View.ld_unit_zero (by decide) _ x

/-- A load of a whole block is the block. -/
theorem whole1 {e : EltTy} (x : S1024x1024.Idx → Elt Ideal e) : View.ld (Val := Elt Ideal) x r0_1 = x := View.ld_unit_zero (by decide) _ x

/-- A load of a whole block is the block. -/
theorem whole2 {e : EltTy} (x : S512x2048.Idx → Elt Ideal e) : View.ld (Val := Elt Ideal) x r0_2 = x := View.ld_unit_zero (by decide) _ x

/-- A load of a whole block is the block. -/
theorem whole3 {e : EltTy} (x : S2048x1024.Idx → Elt Ideal e) : View.ld (Val := Elt Ideal) x r0_3 = x := View.ld_unit_zero (by decide) _ x

/-- The blocks a grid point reads and the block it writes. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 64 :=
  (by decide +kernel : ∀ t : Fin grid0.N, _)

/-- The weights of the first group. -/
def first (w : FVec Ideal S3072x1024 .f32) : FVec Ideal S1024x1024 .bf16 :=
  truncf .bf16 (extractStridedSlice S1024x1024 ![0, 0] w slices_S3072x1024_S1024x1024_0_0) bitsLt_bf16_f32

/-- The weights of the second group. -/
def second (w : FVec Ideal S3072x1024 .f32) : FVec Ideal S2048x1024 .bf16 :=
  truncf .bf16 (extractStridedSlice S2048x1024 ![1024, 0] w slices_S3072x1024_S2048x1024_1024_0) bitsLt_bf16_f32

/-- An entry of the first group's weights. -/
theorem first_apply (w : FVec Ideal S3072x1024 .f32) (k : Fin 1024) (d : Fin 1024) : first w (ix2 k d) = w (ix2 ⟨k.val, by omega⟩ d) := by
  pointwise [first]

/-- An entry of the second group's weights. -/
theorem second_apply (w : FVec Ideal S3072x1024 .f32) (k : Fin 2048) (d : Fin 1024) : second w (ix2 k d) = w (ix2 ⟨1024 + k.val, by omega⟩ d) := by
  pointwise [second]

variable (m : (ℓ : Loc nD τ sig) → Buf (Elt Ideal) ℓ) (c : Dev nD)

/-- The call finds the first group's weights. -/
theorem first_eq : V m c main_v1 = first (m ((c : Thread nD τ).loc main_arg3)) := by
  unfold V
  after_results_simp
  rfl

/-- The call finds the second group's weights. -/
theorem second_eq : V m c main_v3 = second (m ((c : Thread nD τ).loc main_arg3)) := by
  unfold V
  after_results_simp
  rfl

/-- The rows of a block of the stream. -/
theorem block0 (t : Fin cfg0.N) (r : Fin 512) (d : Fin 1024) : iblk m c 0 t (ix2 r d) = m ((c : Thread nD τ).loc main_arg0) (ix2 ⟨512 * t.val + r.val, by have := (idx t).2.2.2.2.2.2; omega⟩ d) := by
  rw [← V_main_arg0 m c]
  blk_ext [iblk, idx t]

/-- The rows of a block of the first head group. -/
theorem block1 (t : Fin cfg0.N) (r : Fin 512) (d : Fin 1024) : iblk m c 1 t (ix2 r d) = m ((c : Thread nD τ).loc main_arg1) (ix2 ⟨512 * t.val + r.val, by have := (idx t).2.2.2.2.2.2; omega⟩ d) := by
  rw [← V_main_arg1 m c]
  blk_ext [iblk, idx t]

/-- The rows of a block of the second head group. -/
theorem block2 (t : Fin cfg0.N) (r : Fin 512) (d : Fin 2048) : iblk m c 2 t (ix2 r d) = m ((c : Thread nD τ).loc main_arg2) (ix2 ⟨512 * t.val + r.val, by have := (idx t).2.2.2.2.2.2; omega⟩ d) := by
  rw [← V_main_arg2 m c]
  blk_ext [iblk, idx t]

/-- The first group's weights at every point. -/
theorem block3 (t : Fin cfg0.N) (k : Fin 1024) (d : Fin 1024) : iblk m c 3 t (ix2 k d) = first (m ((c : Thread nD τ).loc main_arg3)) (ix2 k d) := by
  rw [← first_eq m c]
  blk_ext [iblk, idx t]

/-- The second group's weights at every point. -/
theorem block4 (t : Fin cfg0.N) (k : Fin 2048) (d : Fin 1024) : iblk m c 4 t (ix2 k d) = second (m ((c : Thread nD τ).loc main_arg3)) (ix2 k d) := by
  rw [← second_eq m c]
  blk_ext [iblk, idx t]

/-- After the run the output array is the projection of the four arguments. -/
theorem final : (dats m 0 c).arrAt 5 cfg0.N = projected (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, out0_5]
  canon_tiles x h
  idx_vars x
  have ht := (idx t).2.2.2.2.2.2
  refine (pay_apply _ _ _ _ _ _ _).trans ?_
  refine Eq.trans ?_ ((projected_apply (m ((c : Thread nD τ).loc main_arg0)) (m ((c : Thread nD τ).loc main_arg1)) (m ((c : Thread nD τ).loc main_arg2)) (m ((c : Thread nD τ).loc main_arg3)) ⟨512 * t.val + x0.val, by omega⟩ x1).symm.trans ?_)
  · refine congrArg₂ (· + ·) (congrArg₂ (· + ·) ?_ (Finset.sum_congr rfl fun k _ => congrArg₂ (· * ·) ?_ ?_)) (Finset.sum_congr rfl fun k _ => congrArg₂ (· * ·) ?_ ?_)
    · exact (congrFun (whole0 (iblk m c 0 t)) _).trans (block0 m c t x0 x1)
    · exact (congrFun (whole0 (iblk m c 1 t)) _).trans (block1 m c t x0 k)
    · exact (congrFun (whole1 (iblk m c 3 t)) _).trans ((block3 m c t k x1).trans (first_apply _ k x1))
    · exact (congrFun (whole2 (iblk m c 2 t)) _).trans (block2 m c t x0 k)
    · exact (congrFun (whole3 (iblk m c 4 t)) _).trans ((block4 m c t k x1).trans (second_apply _ k x1))
  · blk_ext [idx t]

end Cert.Kernel4Ideal.Out

end

end
-- ==== Proof.NormEven.lean ====
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.TableIdle
public import Idealize.ShloMosaic.Lib.Claim
public import Idealize.ShloMosaic.Lib.Tactic

@[expose] public section

set_option maxRecDepth 16384

noncomputable section

/-! The run of the first layer's input projection on extended reals. A row of four positions shares one tile of rows: its first position
    norms the tile, keeps it for the row, and stores the gates; every position then multiplies the kept tile by its own
    columns of the weights. -/

namespace Cert.Kernel5Ideal.Norm

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the program's separation logic. -/
abbrev World (F : FTy → Type) [FloatOps F] := MT nD τ sig Unit (Elt F) ℕ (UR sig nD τ) ℕ

/-- The rectangles the body loads and stores through, each a whole buffer. -/
abbrev rRows : Rect S1024x1024 := Rect.unit (s := S1024x1024) ![0, 0] S1024x1024.size inb_S1024x1024_S1024x1024_0_0
abbrev rGain : Rect S1x1024 := Rect.unit (s := S1x1024) ![0, 0] S1x1024.size inb_S1x1024_S1x1024_0_0
abbrev rWide : Rect S1024x1792 := Rect.unit (s := S1024x1792) ![0, 0] S1024x1792.size inb_S1024x1792_S1024x1792_0_0
abbrev rSide : Rect S1024x256 := Rect.unit (s := S1024x256) ![0, 0] S1024x256.size inb_S1024x256_S1024x256_0_0
abbrev rGate : Rect S1024x128 := Rect.unit (s := S1024x128) ![0, 0] S1024x128.size inb_S1024x128_S1024x128_0_0

/-- The normed tile the body keeps, from the tile of rows and the gains. -/
def kept (x : Vec F S1024x1024 .f32) (g : Vec F S1x1024 .f32) : Vec F S1024x1024 .bf16 :=
  View.canon [⟨rRows, k0_pay3 (View.ld x rRows) (View.ld g rGain)⟩]

/-- The gates' tile it stores at a row's first position. -/
def gates (x : Vec F S1024x1024 .f32) (g : Vec F S1x1024 .f32) (w : Vec F S1024x256 .bf16) : Vec F S1024x128 .f32 :=
  View.canon [⟨rGate, k0_pay4 (View.ld x rRows) (View.ld g rGain) (View.ld w rSide) (View.ld w rSide)⟩]

/-- The wide result's tile, from the kept tile and the position's columns of the weights. -/
def wide (h : Vec F S1024x1024 .bf16) (w : Vec F S1024x1792 .bf16) : Vec F S1024x1792 .bf16 :=
  View.canon [⟨rWide, k0_pay5 (View.ld h rRows) (View.ld w rWide)⟩]

theorem coverRows (p : rRows.shape.Idx → Elt F .bf16) (y : S1024x1024.Idx) :
    ∃ pc ∈ ([⟨rRows, p⟩] : List (View.Piece (Elt F) S1024x1024 .bf16)), y ∈ pc.1.set :=
  View.cover_of_tiled [⟨rRows, p⟩] S1024x1024.size (by rfl) y
theorem coverGate (p : rGate.shape.Idx → Elt F .f32) (y : S1024x128.Idx) :
    ∃ pc ∈ ([⟨rGate, p⟩] : List (View.Piece (Elt F) S1024x128 .f32)), y ∈ pc.1.set :=
  View.cover_of_tiled [⟨rGate, p⟩] S1024x128.size (by rfl) y
theorem coverWide (p : rWide.shape.Idx → Elt F .bf16) (y : S1024x1792.Idx) :
    ∃ pc ∈ ([⟨rWide, p⟩] : List (View.Piece (Elt F) S1024x1792 .bf16)), y ∈ pc.1.set :=
  View.cover_of_tiled [⟨rWide, p⟩] S1024x1792.size (by rfl) y

set_option maxHeartbeats 4000000 in
/-- The body at a row's first position: it keeps the normed tile, stores the gates and stores its tile of the wide result. -/
theorem body_first (c : Dev nD) (i : grid0.Coords) (hc : k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S1024x1792 .bf16) (harg4 : arg4.IsWhole) (arg5 : Memref sig .tc .vmem S1024x256 .bf16) (harg5 : arg5.IsWhole)
    (arg6 : Memref sig .tc .vmem S1x1792 .f32) (harg6 : arg6.IsWhole) (arg7 : Memref sig .tc .vmem S1024x1792 .bf16) (harg7 : arg7.IsWhole)
    (arg8 : Memref sig .tc .vmem S1024x128 .f32) (harg8 : arg8.IsWhole) (arg9 : Memref sig .tc .vmem S1024x1024 .bf16) (harg9 : arg9.IsWhole)
    (x : Vec F S1024x1024 .f32) (g : Vec F S1x1024 .f32) (w : Vec F S1024x1792 .bf16) (ws : Vec F S1024x256 .bf16) (po : Vec F S1x1792 .f32)
    (K : PUnit → sProp (World F)) :
    iprop(owns (c : Thread nD τ) arg2 fullShare x ∗ owns (c : Thread nD τ) arg3 fullShare g ∗ owns (c : Thread nD τ) arg4 fullShare w
        ∗ owns (c : Thread nD τ) arg5 fullShare ws ∗ owns (c : Thread nD τ) arg6 fullShare po
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare g ∗ owns (c : Thread nD τ) arg4 fullShare w
            ∗ owns (c : Thread nD τ) arg5 fullShare ws ∗ owns (c : Thread nD τ) arg6 fullShare po
            ∗ owns (c : Thread nD τ) arg7 fullShare (wide (kept x g) w) ∗ owns (c : Thread nD τ) arg8 fullShare (gates x g ws)
            ∗ owns (c : Thread nD τ) arg9 fullShare (kept x g)) -∗ K ⟨⟩))
      ⊢ wp frame (wpE (defs₀ (F := F)) Variants.none c none) Set.univ
          (cc0_norm_matmul i arg2 harg2 arg3 harg3 arg4 harg4 arg5 harg5 arg6 harg6 arg7 harg7 arg8 harg8 arg9 harg9) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverWide _)).trans ?_
    unfold wide kept body_first.sl.v3 body_first.sl.H7_1
    exact congrArg (fun h : Vec F S1024x1024 .bf16 => View.canon (Val := Elt F) (s := S1024x1792) (e := .bf16) [⟨rWide, k0_pay5 (F := F) h _⟩]) (View.readCov_eq_canon_ld _ _ rRows (coverRows _))
  isplitl [H6]
  · iexists _; isplitr
    swap; · iexact H6
    ipureintro
    exact View.read_writes_eq_canon _ _ _ (coverGate _)
  iexists _; isplitr
  swap; · iexact H7
  ipureintro
  exact View.read_writes_eq_canon _ _ _ (coverRows _)

set_option maxHeartbeats 4000000 in
/-- The body at a later position of a row, the row's normed tile kept: it stores its tile of the wide result. -/
theorem body_later (c : Dev nD) (i : grid0.Coords) (hc : ¬ k0_cond1 i = 1#1)
    (arg2 : Memref sig .tc .vmem S1024x1024 .f32) (harg2 : arg2.IsWhole) (arg3 : Memref sig .tc .vmem S1x1024 .f32) (harg3 : arg3.IsWhole)
    (arg4 : Memref sig .tc .vmem S1024x1792 .bf16) (harg4 : arg4.IsWhole) (arg5 : Memref sig .tc .vmem S1024x256 .bf16) (harg5 : arg5.IsWhole)
    (arg6 : Memref sig .tc .vmem S1x1792 .f32) (harg6 : arg6.IsWhole) (arg7 : Memref sig .tc .vmem S1024x1792 .bf16) (harg7 : arg7.IsWhole)
    (arg8 : Memref sig .tc .vmem S1024x128 .f32) (harg8 : arg8.IsWhole) (arg9 : Memref sig .tc .vmem S1024x1024 .bf16) (harg9 : arg9.IsWhole)
    (w : Vec F S1024x1792 .bf16) (h : Vec F S1024x1024 .bf16) (K : PUnit → sProp (World F)) :
    iprop(owns (c : Thread nD τ) arg4 fullShare w ∗ (∃ d, owns (c : Thread nD τ) arg7 fullShare d) ∗ owns (c : Thread nD τ) arg9 fullShare h
        ∗ (iprop(owns (c : Thread nD τ) arg4 fullShare w ∗ owns (c : Thread nD τ) arg7 fullShare (wide h w)
            ∗ owns (c : Thread nD τ) arg9 fullShare h) -∗ K ⟨⟩))
      ⊢ wp frame (wpE (defs₀ (F := F)) Variants.none c none) Set.univ
          (cc0_norm_matmul i arg2 harg2 arg3 harg3 arg4 harg4 arg5 harg5 arg6 harg6 arg7 harg7 arg8 harg8 arg9 harg9) K := by
  simp only [cc0_norm_matmul_eq_skeleton]; unfold cc0_norm_matmul_skel
  unfold owns
  iintro ⟨⟨%f2, %hf2, H2⟩, ⟨%d5, %f5, -, H5⟩, ⟨%f7, %hf7, H7⟩, Hk⟩
  subst hf2 hf7
  sl_exec (disch := sl_exact hc)
  sl_step
  iapply Hk
  isplitl [H2]
  · iexists f2; isplitr; · ipureintro; rfl
    iexact H2
  isplitl [H5]
  · iexists _; isplitr
    swap; · iexact H5
    ipureintro
    exact View.read_writes_eq_canon _ _ _ (coverWide _)
  iexists f7; isplitr; · ipureintro; rfl
  iexact H7

variable (m : (ℓ : Loc nD τ sig) → Buf (Elt F) ℓ) (ρ : Dev nD → PrngReg)

theorem points (t : Fin cfg0.N) : t.val < 128 := N_0 ▸ t.isLt

/-- The first position of position `t`'s row. -/
def row (t : Fin cfg0.N) : Fin cfg0.N := ⟨t.val - t.val % 4, Nat.lt_of_le_of_lt (Nat.sub_le _ _) t.isLt⟩

theorem row_first (t : Fin cfg0.N) (h : t.val % 4 = 0) : row t = t := Fin.ext (by unfold row; dsimp only; omega)

theorem row_later (t : Fin cfg0.N) (h : ¬ t.val % 4 = 0) : row ⟨t.val - 1, Nat.lt_of_le_of_lt (Nat.sub_le _ _) t.isLt⟩ = row t :=
  Fin.ext (by unfold row; dsimp only; omega)

set_option maxHeartbeats 4000000 in
/-- The body's test holds exactly at a row's first position. -/
theorem test_iff : ∀ t : Fin cfg0.N, k0_cond1 (grid0.coords t) = 1#1 ↔ t.val % 4 = 0 := by
  have h : ∀ t : Fin 128, k0_cond1 (grid0.coords (t.cast N_0.symm)) = 1#1 ↔ t.val % 4 = 0 := by decide +kernel
  exact fun t => h (t.cast N_0)

/-- The normed tile that position `t`'s row keeps. -/
def keptAt (c : Dev nD) (t : Fin cfg0.N) : Vec F S1024x1024 .bf16 := kept (iblk m c 0 (row t)) (iblk m c 1 (row t))

/-- The gates' tile of position `t`'s row. -/
def gatesAt (c : Dev nD) (t : Fin cfg0.N) : Vec F S1024x128 .f32 := gates (iblk m c 0 (row t)) (iblk m c 1 (row t)) (iblk m c 3 (row t))

/-- Before position `n`: after a row's first position the scratch buffer holds the row's normed tile; at the start of a row
    it holds anything. -/
def carried (c : Dev nD) (n : ℕ) : sProp (World F) :=
  iprop((∃ s, ⌜∀ h : n - 1 < cfg0.N, ¬ n % 4 = 0 → s = keptAt m c ⟨n - 1, h⟩⌝ ∗ owns (c : Thread nD τ) (Memref.whole cc0_scratch0) fullShare s)
    ∗ ∃ r, prngReg c r)

/-- The pipeline's proof data: each window's array at launch, and what each staging buffer holds after each position. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wide (keptAt m c t) (iblk m c 2 t)
    | ⟨6, _⟩ => gatesAt m c t
  Φ n := carried m c n.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = wide (keptAt m c t) (iblk m c 2 t) := by dsimp only [dats]
theorem after_6 (c : Dev nD) (t : Fin cfg0.N) : (dats m 0 c).after 6 t = gatesAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The body leaves the gates' buffer alone exactly off a row's first position. -/
theorem idle_6 (t : Fin cfg0.N) : cfg0.idle 6 (cfg0.grid.coords t) = !(decide (t.val % 4 = 0)) := by
  have h : cfg0.idle 6 (cfg0.grid.coords t) = !(k0_cond1 (grid0.coords t) == 1#1) := rfl
  rw [h]
  by_cases hc : t.val % 4 = 0
  · rw [(test_iff t).2 hc]; simp [hc]
  · have := mt (test_iff t).1 hc
    simp [hc, this]

/-- The gates' buffer holds nothing stored exactly when a row starts. -/
theorem fresh_6 (n : ℕ) (h : n ≤ cfg0.N) : cfg0.fresh 6 n = decide (n % 4 = 0) :=
  cfg0.fresh_tab 6 (fun n => decide (n % 4 = 0)) rfl (fun t => by
    rw [idle_6, Bool.eq_iff_iff, Bool.or_eq_true, flush0_6]
    simp only [decide_eq_true_eq, Bool.and_eq_true, Bool.not_eq_true', decide_eq_false_iff_not]
    have := points t
    omega) n h

/-- When the body runs at a later position of a row, the gates' buffer holds the row's gates. -/
theorem before_6 (c : Dev nD) (t : Fin cfg0.N) (h : ¬ t.val % 4 = 0) (d) : (dats m 0 c).before 6 t d = gatesAt m c t := by
  rw [(dats m 0 c).before_out_traj 6 rfl (fun _ _ => rfl) (fun t ht hi hf => by
      rw [after_6, after_6]
      have hr : ¬ t.val % 4 = 0 := by
        rw [fresh_6 t.val t.isLt.le, decide_eq_false_iff_not] at hf; exact hf
      unfold gatesAt; rw [row_later t hr]) t.val t rfl d,
    if_neg (by rw [fresh_6 t.val t.isLt.le]; simpa using h), after_6]
  unfold gatesAt; rw [row_later t h]

set_option maxHeartbeats 4000000 in
/-- At every position the body, from its blocks and what its row carries, leaves each window's contents as stated. -/
theorem body_runs (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)) := by
  unfold bodyAt0
  simp only [before_0, before_1, before_2, before_3, before_4, after_0, after_1, after_2, after_3, after_4, after_5, after_6]
  rw [show (dats m 0 c).owesAt () t.succ = (dats m 0 c).owesAt () t.castSucc from rfl,
    show (dats m 0 c).Φ t.castSucc = carried m c t.val from rfl, show (dats m 0 c).Φ t.succ = carried m c (t.val + 1) from rfl]
  unfold carried
  by_cases h : t.val % 4 = 0
  · have e1 : keptAt m c t = kept (iblk m c 0 t) (iblk m c 1 t) := by unfold keptAt; rw [row_first t h]
    have e2 : gatesAt m c t = gates (iblk m c 0 t) (iblk m c 1 t) (iblk m c 3 t) := by unfold gatesAt; rw [row_first t h]
    rw [e1, e2]
    iintro ⟨⟨⟨%s, -, Hs⟩, Hr⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) ((test_iff t).2 h) _ _ _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexists _; iexact Hs
    iintro ⟨H0, H1, H2, H3, H4, H5, H6, Hs⟩
    isplitl [Hs Hr]
    · isplitl [Hs]
      · iexists _; isplitr; swap
        · iexact Hs
        · ipureintro; exact fun _ _ => e1.symm
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before_6 m c t h]
    iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩⟩
    have es : s = keptAt m c t := (hs (Nat.lt_of_le_of_lt (Nat.sub_le _ _) t.isLt) h).trans (by unfold keptAt; rw [row_later t h])
    subst es
    iapply (body_later c (grid0.coords t) (mt (test_iff t).1 h) _ _ _ _ _ _ _ _ _ _ _ _ _ _ _ _ (iblk m c 2 t) (keptAt m c t) _)
    isplitl [H2]; · iexact H2
    isplitl [H5]; · iexists _; iexact H5
    isplitl [Hs]; · iexact Hs
    iintro ⟨H2, H5, Hs⟩
    isplitl [Hs Hr]
    · isplitl [Hs]
      · iexists _; isplitr; swap
        · iexact Hs
        · ipureintro; exact fun _ _ => rfl
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs_row (t : Fin cfg0.N) : defs₀ (F := F) .tc cfg0.body (cfg0.bodyArgs t (cfg0.slots t)) = bodyAt0 t := by
  unfold defs₀; rw [Defs.onTc_tc]

/-- What the pipeline asks of the gates' window: its contents where the row is written back or the body stores, else its buffer
    as found, which holds the same. -/
theorem side_post (c : Dev nD) (t : Fin cfg0.N) :
    owns (c : Thread nD τ) (st0_6 t) fullShare ((dats m 0 c).after 6 t) ⊢
      (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp (World F)) := by
  by_cases h : t.val % 4 = 0
  · have hi : cfg0.idle 6 (cfg0.grid.coords t) = false := by rw [idle_6]; simp [h]
    rw [hi]
  · have hi : cfg0.idle 6 (cfg0.grid.coords t) = true := by rw [idle_6]; simp [h]
    rw [hi]
    cases (cfg0.win 6).flush t
    · simp only [before_6 m c t h, after_6]
      iintro H
      iexists default
      iexact H
    · exact .rfl

theorem live_0 (t : Fin cfg0.N) : cfg0.idle 0 (cfg0.grid.coords t) = false := rfl
theorem live_1 (t : Fin cfg0.N) : cfg0.idle 1 (cfg0.grid.coords t) = false := rfl
theorem live_2 (t : Fin cfg0.N) : cfg0.idle 2 (cfg0.grid.coords t) = false := rfl
theorem live_3 (t : Fin cfg0.N) : cfg0.idle 3 (cfg0.grid.coords t) = false := rfl
theorem live_4 (t : Fin cfg0.N) : cfg0.idle 4 (cfg0.grid.coords t) = false := rfl
theorem live_5 (t : Fin cfg0.N) : cfg0.idle 5 (cfg0.grid.coords t) = false := rfl

/-- What the body is left with, window by window, is what the pipeline asks of it. -/
theorem post_restated (c : Dev nD) (t : Fin cfg0.N) :
    iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t))
      ⊢ iprop((dats m 0 c).Φ t.succ ∗ (dats m 0 c).owesAt () t.succ
        ∗ bigSep Finset.univ fun w : Fin cfg0.W =>
            match cfg0.idle w (cfg0.grid.coords t) with
            | true =>
              match (cfg0.win w).flush t with
              | false => iprop(∃ d, owns (c : Thread nD τ) ((cfg0.win w).stage (cfg0.slots t w)) fullShare ((dats m 0 c).before w t d))
              | true => owns (c : Thread nD τ) ((cfg0.win w).stage (cfg0.slots t w)) fullShare ((dats m 0 c).after w t)
            | false => owns (c : Thread nD τ) ((cfg0.win w).stage (cfg0.slots t w)) fullShare ((dats m 0 c).after w t)) := by
  rw [bigSep_W0]
  simp only [live_0, live_1, live_2, live_3, live_4, live_5]
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (side_post m c t)
  iexact H6

/-- The pipeline's body obligation. -/
theorem obligation (c : Dev nD) : BodyObligation (dats (F := F) m 0 c) (defs₀ (F := F)) Variants.none () Set.univ := fun t => by
  rw [bigSep_W0, defs_row]
  exact (body_runs m c t).trans ((wp frame (wpE (defs₀ (F := F)) Variants.none c none) Set.univ (bodyAt0 t)).mono fun _ => post_restated m c t)

/-- The first position finds the scratch buffer at anything, -/
theorem carried_first (c : Dev nD) : Pipeline.ΦA spec0 c ⊢ (dats (F := F) m 0 c).Φ 0 := by
  rw [show (dats (F := F) m 0 c).Φ 0 = carried m c 0 from rfl]
  unfold Pipeline.ΦA carried
  rw [scopedRest0_eq]
  iintro ⟨⟨%f, Hs⟩, Hr⟩
  isplitl [Hs]
  · iexists f
    rw [owns_whole]
    isplitr; swap
    · iexact Hs
    · ipureintro; exact fun _ h => (h (Nat.zero_mod 4)).elim
  iexact Hr

/-- and the last leaves it at something. -/
theorem carried_last (c : Dev nD) : (dats (F := F) m 0 c).Φ (Fin.last cfg0.N) ⊢ Pipeline.ΦA spec0 c := by
  rw [show (dats (F := F) m 0 c).Φ (Fin.last cfg0.N) = carried m c cfg0.N from rfl]
  unfold Pipeline.ΦA carried
  rw [scopedRest0_eq]
  simp only [owns_whole]
  iintro ⟨⟨%s, -, Hs⟩, Hr⟩
  isplitl [Hs]
  · iexists s; iexact Hs
  iexact Hr

set_option backward.isDefEq.respectTransparency.types false in
set_option maxHeartbeats 800000 in
/-- The kernel ends with every array at the computed contents and every semaphore counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := carried_first m) (hout := carried_last m)

/-- The kernel leaves its arguments as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Kernel5Ideal.Norm

end
-- ==== Proof.NormEvenValue.lean ====
module

public import proofs.«01_k».proof.Proof.NormEven
public import proofs.«01_k».proof.Proof.Finite
public import proofs.«01_k».proof.Proof.Gen.Reference5Ideal.Run
public import Idealize.ShloMosaic.Lib.StableHlo.RunClose
public import Idealize.ShloMosaic.Lib.Pointwise
public import Idealize.ShloMosaic.Lib.Pipeline.ValueKit

@[expose] public section

set_option maxRecDepth 16384

noncomputable section

namespace Cert.Reference5Ideal.Norm

open Cert.Reference5Ideal Cert.Reference5Ideal.Gen Idealize.ShloMosaic Idealize.ShloMosaic.TcCoe Idealize.SL.Sem

/-- What a row is scaled by, from the sum of its squares. -/
def scale (s : EReal) : EReal := Ideal.rsqrt (Ideal.div s (Ideal.ofBits .f32 0x44800000#32) + Ideal.ofBits .f32 0x358637BD#32)

/-- The rows normed by their mean squares and multiplied by the gains. -/
def normed (x : FVec Ideal S32768x1024 .f32) (g : FVec Ideal S1024 .f32) : FVec Ideal S32768x1024 .f32 :=
  mulf (mulf x (broadcastInDim S32768x1024 ![0, 1] bcast_S32768x1_S32768x1024_0_1
      (Host.rsqrt (addf (Host.divf
          (broadcastInDim S32768x1 ![0] bcast_S32768_S32768x1_0
            (Host.reduceAdd (mulf x x) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- An entry of the normed rows. -/
theorem normed_apply (x : FVec Ideal S32768x1024 .f32) (g : FVec Ideal S1024 .f32) (r : Fin 32768) (k : Fin 1024) :
    normed x g (ix2 r k) = x (ix2 r k) * scale (∑ j : Fin 1024, x (ix2 r j) * x (ix2 r j)) * g (ix1 k) := by
  pointwise [normed, scale]

theorem count_real : Ideal.ofBits .f32 0x44800000#32 = ((1024 : ℝ) : EReal) := by
  simp [Ideal.ofBits, Ideal.ieee, -EReal.coe_mul]
  norm_num

theorem eps_real : ∃ e : ℝ, 0 < e ∧ Ideal.ofBits .f32 0x358637BD#32 = (e : EReal) := by
  refine ⟨8796093 * 2⁻¹ ^ 43, by positivity, ?_⟩
  simp [Ideal.ofBits, Ideal.ieee]

/-- An infinite sum of squares scales its row to nothing, -/
theorem scale_top : scale ⊤ = 0 := by
  obtain ⟨e, he, h⟩ := eps_real
  unfold scale
  rw [h, count_real]
  have : Ideal.div ⊤ ((1024 : ℝ) : EReal) = ⊤ := by
    unfold Ideal.div
    rw [if_neg (by norm_num), ← EReal.coe_inv]
    exact EReal.top_mul_coe_of_pos (by norm_num)
  rw [this, EReal.top_add_coe, Ideal.rsqrt_top]

/-- and a finite one by a real number. -/
theorem scale_real (s : ℝ) (hs : 0 ≤ s) : ∃ q : ℝ, scale (s : EReal) = (q : EReal) := by
  obtain ⟨e, he, h⟩ := eps_real
  unfold scale
  rw [h, count_real]
  have : Ideal.div (s : EReal) ((1024 : ℝ) : EReal) = ((s * (1024 : ℝ)⁻¹ : ℝ) : EReal) := by
    unfold Ideal.div
    rw [if_neg (by norm_num), ← EReal.coe_inv, EReal.coe_mul]
  have hp : 0 < s * (1024 : ℝ)⁻¹ + e := by positivity
  rw [this, ← EReal.coe_add, Ideal.rsqrt_coe, if_neg (by linarith), if_neg hp.ne']
  exact ⟨_, rfl⟩

theorem square_nonneg (x : EReal) : 0 ≤ x * x := by
  induction x with
  | bot => simp
  | top => simp
  | coe r => rw [← EReal.coe_mul]; exact_mod_cast mul_self_nonneg r

/-- A row scaled by its sum of squares is finite, whatever it holds. -/
theorem scaled_real (x : Fin 1024 → EReal) (k : Fin 1024) : ∃ q : ℝ, x k * scale (∑ j, x j * x j) = (q : EReal) := by
  by_cases h : ∀ j, ∃ y : ℝ, x j = (y : EReal)
  · choose y hy using h
    obtain ⟨q, hq⟩ := scale_real (∑ j, y j * y j) (Finset.sum_nonneg fun j _ => mul_self_nonneg _)
    refine ⟨y k * q, ?_⟩
    simp only [hy, ← EReal.coe_mul, Cert.Softmax.coe_sum, hq]
  · obtain ⟨j, hj⟩ := not_forall.mp h
    have hsq : x j * x j = ⊤ := by
      generalize x j = z at hj ⊢
      induction z with
      | bot => simp
      | top => simp
      | coe r => exact absurd ⟨r, rfl⟩ hj
    have hsum : (∑ j, x j * x j) = ⊤ := top_le_iff.mp (hsq ▸ Finset.single_le_sum (f := fun i => x i * x i) (fun i _ => square_nonneg _) (Finset.mem_univ j))
    rw [hsum, scale_top, mul_zero]
    exact ⟨0, rfl⟩

/-- With finite gains every normed entry is finite. -/
theorem normed_real (x : FVec Ideal S32768x1024 .f32) (g : FVec Ideal S1024 .f32) (hg : ∀ k, ∃ q : ℝ, g (ix1 k) = (q : EReal)) (r : Fin 32768) (k : Fin 1024) :
    ∃ q : ℝ, normed x g (ix2 r k) = (q : EReal) := by
  obtain ⟨p, hp⟩ := scaled_real (fun j => x (ix2 r j)) k
  obtain ⟨q, hq⟩ := hg k
  exact ⟨p * q, by rw [normed_apply, hq, EReal.coe_mul]; exact congrArg (· * (q : EReal)) hp⟩

/-- The normed rows times the weights. -/
def projected (x : FVec Ideal S32768x1024 .f32) (g : FVec Ideal S1024 .f32) (w : FVec Ideal S1024x7192 .f32) : FVec Ideal S32768x7192 .f32 :=
  Host.dotGeneral dot_S32768x1024_S1024x7192_S32768x7192_1_0_0_1_n_n none (normed x g) w

theorem projected_apply (x : FVec Ideal S32768x1024 .f32) (g : FVec Ideal S1024 .f32) (w : FVec Ideal S1024x7192 .f32) (r : Fin 32768) (d : Fin 7192) :
    projected x g w (ix2 r d) = ∑ k : Fin 1024, normed x g (ix2 r k) * w (ix2 k d) := by
  pointwise [projected]

/-- The wide result: the first 3072 columns and the 4096 after the gates'. -/
def wide (x : FVec Ideal S32768x1024 .f32) (g : FVec Ideal S1024 .f32) (w : FVec Ideal S1024x7192 .f32) : FVec Ideal S32768x7168 .bf16 :=
  truncf .bf16 (concatenate S32768x7168 1
    [⟨S32768x3072, extractStridedSlice S32768x3072 ![0, 0] (projected x g w) slices_S32768x7192_S32768x3072_0_0⟩,
      ⟨S32768x4096, extractStridedSlice S32768x4096 ![0, 3080] (projected x g w) slices_S32768x7192_S32768x4096_0_3080⟩]
    concatenates_S32768x3072_S32768x4096_S32768x7168_d1) bitsLt_bf16_f32

/-- The column of the weights that a column of the wide result reads. -/
def column (d : Fin 7168) : Fin 7192 := if d.val < 3072 then ⟨d.val, by omega⟩ else ⟨d.val + 8, by omega⟩

theorem wide_apply (x : FVec Ideal S32768x1024 .f32) (g : FVec Ideal S1024 .f32) (w : FVec Ideal S1024x7192 .f32) (r : Fin 32768) (d : Fin 7168) :
    wide x g w (ix2 r d) = ∑ k : Fin 1024, normed x g (ix2 r k) * w (ix2 k (column d)) := by
  rw [← projected_apply]
  pointwise [wide, column]
  by_cases h : d.val < 3072
  · rw [dif_pos h, if_pos h]
  · rw [dif_neg h, if_neg h]
    exact congrArg (fun e => projected x g w (ix2 r e)) (Fin.ext (by dsimp only; omega))

/-- The gates' result: their 8 and 16 columns in their lanes of 128, and zeros. -/
def gates (x : FVec Ideal S32768x1024 .f32) (g : FVec Ideal S1024 .f32) (w : FVec Ideal S1024x7192 .f32) : FVec Ideal S32768x128 .f32 :=
  concatenate S32768x128 1
    [⟨S32768x8, extractStridedSlice S32768x8 ![0, 3072] (projected x g w) slices_S32768x7192_S32768x8_0_3072⟩,
      ⟨S32768x8, broadcastInDim S32768x8 ![] bcast_S_S32768x8 (constant S_ .f32 0x00000000#32)⟩,
      ⟨S32768x16, extractStridedSlice S32768x16 ![0, 7176] (projected x g w) slices_S32768x7192_S32768x16_0_7176⟩,
      ⟨S32768x96, broadcastInDim S32768x96 ![] bcast_S_S32768x96 (constant S_ .f32 0x00000000#32)⟩]
    concatenates_S32768x8_S32768x8_S32768x16_S32768x96_S32768x128_d1

/-- The weight of a lane: the gates' columns in their lanes, and zeros. -/
def lane (w : FVec Ideal S1024x7192 .f32) (k : Fin 1024) (l : Fin 128) : EReal :=
  if h : l.val < 8 then w (ix2 k ⟨3072 + l.val, by omega⟩)
  else if h' : 16 ≤ l.val ∧ l.val < 32 then w (ix2 k ⟨7160 + l.val, by omega⟩) else 0

theorem gates_apply (x : FVec Ideal S32768x1024 .f32) (g : FVec Ideal S1024 .f32) (w : FVec Ideal S1024x7192 .f32) (r : Fin 32768) (l : Fin 128) :
    gates x g w (ix2 r l) = ∑ k : Fin 1024, normed x g (ix2 r k) * lane w k l := by
  unfold lane
  by_cases h : l.val < 8
  · simp only [dif_pos h]
    rw [← projected_apply]
    pointwise [gates]
    rw [dif_pos h]
  · by_cases h' : 16 ≤ l.val ∧ l.val < 32
    · simp only [dif_neg h, dif_pos h']
      rw [← projected_apply]
      pointwise [gates]
      rw [dif_neg h, dif_neg (by omega), dif_pos (by omega)]
      exact congrArg (fun e => projected x g w (ix2 r e)) (Fin.ext (by dsimp only; omega))
    · simp only [dif_neg h, dif_neg h', mul_zero, Finset.sum_const_zero]
      pointwise [gates]
      rw [dif_neg h]
      by_cases h'' : l.val - 8 < 8
      · rw [dif_pos h'']
      · rw [dif_neg h'', dif_neg (by omega)]

end Cert.Reference5Ideal.Norm

namespace Cert.Kernel5Ideal.Norm

open Cert.Kernel5Ideal Cert.Kernel5Ideal.Gen Idealize.ShloMosaic Idealize.ShloMosaic.TcCoe Idealize.SL.Sem
open Idealize.ShloMosaic.Pipeline (Dat)
open Cert.Reference5Ideal.Norm (scale normed_real normed normed_apply column lane wide_apply gates_apply)

theorem pay1_apply (x : FVec Ideal S1024x1024 .f32) (g : FVec Ideal S1x1024 .f32) (r k : Fin 1024) :
    k0_pay1 (F := Ideal) x g (ix2 r k) = x (ix2 r k) * scale (∑ j : Fin 1024, x (ix2 r j) * x (ix2 r j)) * g (ix2 0 k) := by
  pointwise [k0_pay1, scale]

theorem pay2_apply (x : FVec Ideal S1024x1024 .f32) (g : FVec Ideal S1x1024 .f32) (r k : Fin 1024) :
    k0_pay2 (F := Ideal) x g (ix2 r k) = k0_pay1 (F := Ideal) x g (ix2 r k) := by
  pointwise [k0_pay2]

theorem pay3_apply (x : FVec Ideal S1024x1024 .f32) (g : FVec Ideal S1x1024 .f32) (r k : Fin 1024) :
    k0_pay3 (F := Ideal) x g (ix2 r k) = k0_pay1 (F := Ideal) x g (ix2 r k) := by
  pointwise [k0_pay3, k0_pay2]

theorem pay5_apply (h : FVec Ideal S1024x1024 .bf16) (w : FVec Ideal S1024x1792 .bf16) (r : Fin 1024) (d : Fin 1792) :
    k0_pay5 (F := Ideal) h w (ix2 r d) = ∑ k : Fin 1024, h (ix2 r k) * w (ix2 k d) := by
  pointwise [k0_pay5]

theorem pay4_apply (x : FVec Ideal S1024x1024 .f32) (g : FVec Ideal S1x1024 .f32) (w : FVec Ideal S1024x256 .bf16) (r : Fin 1024) (l : Fin 128) :
    k0_pay4 (F := Ideal) x g w w (ix2 r l)
      = ((∑ k : Fin 1024, k0_pay1 (F := Ideal) x g (ix2 r k) * w (ix2 k ⟨l.val, by omega⟩))
          + ∑ k : Fin 1024, (k0_pay1 (F := Ideal) x g (ix2 r k) - k0_pay1 (F := Ideal) x g (ix2 r k)) * w (ix2 k ⟨l.val, by omega⟩))
        + ((∑ k : Fin 1024, k0_pay1 (F := Ideal) x g (ix2 r k) * w (ix2 k ⟨128 + l.val, by omega⟩))
          + ∑ k : Fin 1024, (k0_pay1 (F := Ideal) x g (ix2 r k) - k0_pay1 (F := Ideal) x g (ix2 r k)) * w (ix2 k ⟨128 + l.val, by omega⟩)) := by
  pointwise [k0_pay4, k0_pay2]

/-! A load of a whole buffer is the buffer, and a store of a whole buffer leaves what it stored. -/

theorem kept_eq (x : Vec Ideal S1024x1024 .f32) (g : Vec Ideal S1x1024 .f32) : kept (F := Ideal) x g = k0_pay3 x g :=
  (View.canon_unit_zero (by decide) _ _).trans (congrArg₂ (k0_pay3 (F := Ideal)) (View.ld_unit_zero (by decide) _ x) (View.ld_unit_zero (by decide) _ g))

theorem wide_eq (h : Vec Ideal S1024x1024 .bf16) (w : Vec Ideal S1024x1792 .bf16) : wide (F := Ideal) h w = k0_pay5 h w :=
  (View.canon_unit_zero (by decide) _ _).trans (congrArg₂ (k0_pay5 (F := Ideal)) (View.ld_unit_zero (by decide) _ h) (View.ld_unit_zero (by decide) _ w))

theorem gates_eq (x : Vec Ideal S1024x1024 .f32) (g : Vec Ideal S1x1024 .f32) (w : Vec Ideal S1024x256 .bf16) : gates (F := Ideal) x g w = k0_pay4 x g w w := by
  refine (View.canon_unit_zero (by decide) _ _).trans ?_
  rw [show View.ld (Val := Elt Ideal) x rRows = x from View.ld_unit_zero (by decide) _ x,
    show View.ld (Val := Elt Ideal) g rGain = g from View.ld_unit_zero (by decide) _ g,
    show View.ld (Val := Elt Ideal) w rSide = w from View.ld_unit_zero (by decide) _ w]

/-! The arrays the call finds. -/

/-- The gains as a row. -/
def gainRow (g : FVec Ideal S1024 .f32) : FVec Ideal S1x1024 .f32 := shapeCast S1x1024 g shapeCasts_S1024_S1x1024

theorem gainRow_apply (g : FVec Ideal S1024 .f32) (k : Fin 1024) : gainRow g (ix2 0 k) = g (ix1 k) := by
  pointwise [gainRow]

/-- The weights of the wide result, side by side. -/
def big (w : FVec Ideal S1024x7192 .f32) : FVec Ideal S1024x7168 .bf16 :=
  truncf .bf16 (concatenate S1024x7168 1
    [⟨S1024x3072, extractStridedSlice S1024x3072 ![0, 0] w slices_S1024x7192_S1024x3072_0_0⟩,
      ⟨S1024x4096, extractStridedSlice S1024x4096 ![0, 3080] w slices_S1024x7192_S1024x4096_0_3080⟩]
    concatenates_S1024x3072_S1024x4096_S1024x7168_d1) bitsLt_bf16_f32

theorem big_apply (w : FVec Ideal S1024x7192 .f32) (k : Fin 1024) (d : Fin 7168) : big w (ix2 k d) = w (ix2 k (column d)) := by
  pointwise [big, column]
  by_cases h : d.val < 3072
  · rw [dif_pos h, if_pos h]
  · rw [dif_neg h, if_neg h]
    exact congrArg (fun e => w (ix2 k e)) (Fin.ext (by dsimp only; omega))

/-- The corner of an update at the first row and a lane. -/
abbrev starts (l : BitVec 32) : Fin 2 → Int := fun k => BitVec.toInt ((![constantI S_ 32 0#32, constantI S_ 32 l] : Fin 2 → IVec S_ 32) k (Shape.Idx.first h_S_))

/-- The gates' weights in their lanes. -/
def lanes (w : FVec Ideal S1024x7192 .f32) : FVec Ideal S1024x128 .f32 :=
  Host.dynamicUpdateSlice
    (Host.dynamicUpdateSlice
      (Host.dynamicUpdateSlice
        (Host.dynamicUpdateSlice (broadcastInDim S1024x128 ![] bcast_S_S1024x128 (constant S_ .f32 0x00000000#32))
          (extractStridedSlice S1024x4 ![0, 3072] w slices_S1024x7192_S1024x4_0_3072) (starts 0#32) updateFits_S1024x128_S1024x4)
        (extractStridedSlice S1024x4 ![0, 3076] w slices_S1024x7192_S1024x4_0_3076) (starts 4#32) updateFits_S1024x128_S1024x4)
      (extractStridedSlice S1024x8 ![0, 7176] w slices_S1024x7192_S1024x8_0_7176) (starts 16#32) updateFits_S1024x128_S1024x8)
    (extractStridedSlice S1024x8 ![0, 7184] w slices_S1024x7192_S1024x8_0_7184) (starts 24#32) updateFits_S1024x128_S1024x8

theorem lanes_apply (w : FVec Ideal S1024x7192 .f32) (k : Fin 1024) (l : Fin 128) : lanes w (ix2 k l) = lane w k l := by
  pointwise [lanes, lane]
  have e8 : ∀ h, Host.clampedStart S1024x128 S1024x8 h (starts 24#32) 0 = 0 := fun _ => rfl
  have e24 : ∀ h, Host.clampedStart S1024x128 S1024x8 h (starts 24#32) 1 = 24 := fun _ => rfl
  have f8 : ∀ h, Host.clampedStart S1024x128 S1024x8 h (starts 16#32) 0 = 0 := fun _ => rfl
  have e16 : ∀ h, Host.clampedStart S1024x128 S1024x8 h (starts 16#32) 1 = 16 := fun _ => rfl
  have f4 : ∀ h, Host.clampedStart S1024x128 S1024x4 h (starts 4#32) 0 = 0 := fun _ => rfl
  have e4 : ∀ h, Host.clampedStart S1024x128 S1024x4 h (starts 4#32) 1 = 4 := fun _ => rfl
  have f0 : ∀ h, Host.clampedStart S1024x128 S1024x4 h (starts 0#32) 0 = 0 := fun _ => rfl
  have e0 : ∀ h, Host.clampedStart S1024x128 S1024x4 h (starts 0#32) 1 = 0 := fun _ => rfl
  simp only [e8, e24, f8, e16, f4, e4, f0, e0, Nat.zero_le, true_and, Nat.sub_zero, Nat.zero_add]
  split_ifs <;> first | omega | rfl | exact congrArg (fun e => w (ix2 k e)) (Fin.ext (by dsimp only; omega))

/-- The same beside their low parts. -/
def side (w : FVec Ideal S1024x7192 .f32) : FVec Ideal S1024x256 .bf16 :=
  concatenate S1024x256 1
    [⟨S1024x128, truncf .bf16 (lanes w) bitsLt_bf16_f32⟩,
      ⟨S1024x128, truncf .bf16 (subf (lanes w) (extf .f32 (truncf .bf16 (lanes w) bitsLt_bf16_f32 : FVec Ideal S1024x128 .bf16) bitsLt_bf16_f32)) bitsLt_bf16_f32⟩]
    concatenates_S1024x128_S1024x128_S1024x256_d1

theorem side_high (w : FVec Ideal S1024x7192 .f32) (k : Fin 1024) (l : Fin 128) : side w (ix2 k ⟨l.val, by omega⟩) = lane w k l := by
  rw [← lanes_apply]
  pointwise [side]

theorem side_low (w : FVec Ideal S1024x7192 .f32) (k : Fin 1024) (l : Fin 128) : side w (ix2 k ⟨128 + l.val, by omega⟩) = lane w k l - lane w k l := by
  rw [← lanes_apply]
  pointwise [side]

variable (m : (ℓ : Loc nD τ sig) → Buf (Elt Ideal) ℓ) (c : Dev nD)

theorem gainRow_found : V m c main_v19 = gainRow (m ((c : Thread nD τ).loc main_arg1)) := by
  unfold V
  after_results_simp
  rfl

theorem big_found : V m c main_v3 = big (m ((c : Thread nD τ).loc main_arg2)) := by
  unfold V
  after_results_simp
  rfl

/-- The gates' weights once they are all in their lanes, -/
theorem lanes_found : StableHlo.after ((hostOps0 (F := Ideal)).take 22) (fun b => m (c, b)) main_v12 = lanes (m ((c : Thread nD τ).loc main_arg2)) := by
  simp only [hostOps0, List.take_succ_cons, List.take_zero]
  after_results_simp_entrywise
  rfl

/-- and what the operations after that make of them. -/
theorem side_after (W : Valuation τ sig (Elt Ideal)) (v : FVec Ideal S1024x128 .f32) (h : W main_v12 = v) :
    StableHlo.after ((hostOps0 (F := Ideal)).drop 22) W main_v17
      = concatenate S1024x256 1
        [⟨S1024x128, truncf .bf16 v bitsLt_bf16_f32⟩,
          ⟨S1024x128, truncf .bf16 (subf v (extf .f32 (truncf .bf16 v bitsLt_bf16_f32 : FVec Ideal S1024x128 .bf16) bitsLt_bf16_f32)) bitsLt_bf16_f32⟩]
        concatenates_S1024x128_S1024x128_S1024x256_d1 := by
  subst h
  simp only [hostOps0, List.drop_succ_cons, List.drop_zero]
  after_results_simp
  rfl

theorem side_found : V m c main_v17 = side (m ((c : Thread nD τ).loc main_arg2)) := by
  unfold V
  rw [← List.take_append_drop 22 (hostOps0 (F := Ideal)), StableHlo.after_append]
  exact side_after _ _ (lanes_found m c)

/-- The blocks a position reads and writes. -/
theorem idx : ∀ t : Fin cfg0.N, win0_0.index t = ![t.val / 4, 0] ∧ win0_1.index t = ![0, 0] ∧ win0_2.index t = ![0, t.val % 4]
    ∧ win0_3.index t = ![0, 0] ∧ win0_5.index t = ![t.val / 4, t.val % 4] ∧ win0_6.index t = ![t.val / 4, 0] ∧ t.val < 128 :=
  (by decide +kernel : ∀ t : Fin grid0.N, _)

theorem row_idx (t : Fin cfg0.N) : (row t).val / 4 = t.val / 4 := by unfold row; dsimp only; omega

/-- A tile of rows. -/
theorem block0 (t : Fin cfg0.N) (r k : Fin 1024) : iblk m c 0 t (ix2 r k) = m ((c : Thread nD τ).loc main_arg0) (ix2 ⟨1024 * (t.val / 4) + r.val, by have := (idx t).2.2.2.2.2.2; omega⟩ k) := by
  rw [← V_main_arg0 m c]
  blk_ext [iblk, idx t]

/-- The same at a row's first position. -/
theorem block0_row (t : Fin cfg0.N) (r k : Fin 1024) : iblk m c 0 (row t) (ix2 r k) = m ((c : Thread nD τ).loc main_arg0) (ix2 ⟨1024 * (t.val / 4) + r.val, by have := (idx t).2.2.2.2.2.2; omega⟩ k) := by
  rw [block0]
  exact congrArg (fun i => m ((c : Thread nD τ).loc main_arg0) (ix2 i k)) (Fin.ext (by dsimp only; rw [row_idx]))

/-- The gains at every position. -/
theorem block1 (t : Fin cfg0.N) (k : Fin 1024) : iblk m c 1 t (ix2 0 k) = m ((c : Thread nD τ).loc main_arg1) (ix1 k) := by
  refine Eq.trans ?_ (gainRow_apply (m ((c : Thread nD τ).loc main_arg1)) k)
  rw [← gainRow_found m c]
  blk_ext [iblk, idx t]

/-- A position's columns of the weights. -/
theorem block2 (t : Fin cfg0.N) (k : Fin 1024) (d : Fin 1792) : iblk m c 2 t (ix2 k d)
    = m ((c : Thread nD τ).loc main_arg2) (ix2 k (column ⟨1792 * (t.val % 4) + d.val, by omega⟩)) := by
  refine Eq.trans ?_ (big_apply (m ((c : Thread nD τ).loc main_arg2)) k _)
  rw [← big_found m c]
  blk_ext [iblk, idx t]

/-- The gates' weights at every position. -/
theorem block3 (t : Fin cfg0.N) (k : Fin 1024) (l : Fin 256) : iblk m c 3 t (ix2 k l) = side (m ((c : Thread nD τ).loc main_arg2)) (ix2 k l) := by
  rw [← side_found m c]
  blk_ext [iblk, idx t]

/-- The tile a row keeps is its rows of the normed stream. -/
theorem pay1_normed (t : Fin cfg0.N) (r k : Fin 1024) :
    k0_pay1 (F := Ideal) (iblk m c 0 (row t)) (iblk m c 1 (row t)) (ix2 r k)
      = normed (m ((c : Thread nD τ).loc main_arg0)) (m ((c : Thread nD τ).loc main_arg1)) (ix2 ⟨1024 * (t.val / 4) + r.val, by have := (idx t).2.2.2.2.2.2; omega⟩ k) := by
  refine (pay1_apply _ _ r k).trans (Eq.trans ?_ (normed_apply _ _ _ k).symm)
  refine congrArg₂ (· * ·) (congrArg₂ (· * ·) (block0_row m c t r k) (congrArg scale (Finset.sum_congr rfl fun j _ => ?_))) (block1 m c (row t) k)
  exact congrArg₂ (· * ·) (block0_row m c t r j) (block0_row m c t r j)

theorem keptAt_normed (t : Fin cfg0.N) (r k : Fin 1024) :
    keptAt m c t (ix2 r k)
      = normed (m ((c : Thread nD τ).loc main_arg0)) (m ((c : Thread nD τ).loc main_arg1)) (ix2 ⟨1024 * (t.val / 4) + r.val, by have := (idx t).2.2.2.2.2.2; omega⟩ k) := by
  unfold keptAt
  rw [kept_eq]
  exact (pay3_apply _ _ r k).trans (pay1_normed m c t r k)

/-- After the run the wide result is the reference's. -/
theorem final_wide : (dats m 0 c).arrAt 5 cfg0.N
    = Cert.Reference5Ideal.Norm.wide (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after_5, wide_eq]
  idx_vars y
  have ht := (idx t).2.2.2.2.2.2
  refine (pay5_apply _ _ _ _).trans ?_
  refine Eq.trans ?_ ((wide_apply (m ((c : Thread nD τ).loc main_arg0)) (m ((c : Thread nD τ).loc main_arg1)) (m ((c : Thread nD τ).loc main_arg2))
    ⟨1024 * (t.val / 4) + y0.val, by omega⟩ ⟨1792 * (t.val % 4) + y1.val, by omega⟩).symm.trans ?_)
  · exact Finset.sum_congr rfl fun k _ => congrArg₂ (· * ·) (keptAt_normed m c t y0 k) (block2 m c t k y1)
  · blk_ext [idx t]

/-- With finite gains and finite gates' weights the gates' result is the reference's: the low parts are zero. -/
theorem final_gates (hg : ∀ k, ∃ q : ℝ, m ((c : Thread nD τ).loc main_arg1) (ix1 k) = (q : EReal))
    (hw : ∀ k l, ∃ q : ℝ, lane (m ((c : Thread nD τ).loc main_arg2)) k l = (q : EReal)) : (dats m 0 c).arrAt 6 cfg0.N
    = Cert.Reference5Ideal.Norm.gates (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after_6]
  unfold gatesAt
  rw [gates_eq]
  idx_vars y
  have ht := (idx t).2.2.2.2.2.2
  refine (pay4_apply _ _ _ _ _).trans ?_
  refine Eq.trans ?_ ((gates_apply (m ((c : Thread nD τ).loc main_arg0)) (m ((c : Thread nD τ).loc main_arg1)) (m ((c : Thread nD τ).loc main_arg2))
    ⟨1024 * (t.val / 4) + y0.val, by omega⟩ y1).symm.trans ?_)
  · have hp : ∀ k, k0_pay1 (F := Ideal) (iblk m c 0 (row t)) (iblk m c 1 (row t)) (ix2 y0 k)
        - k0_pay1 (F := Ideal) (iblk m c 0 (row t)) (iblk m c 1 (row t)) (ix2 y0 k) = 0 := fun k => by
      obtain ⟨q, hq⟩ := normed_real _ _ hg ⟨1024 * (t.val / 4) + y0.val, by omega⟩ k
      rw [pay1_normed, hq, ← EReal.coe_sub, sub_self, EReal.coe_zero]
    have hh : ∀ k, @Eq EReal (iblk m c 3 (row t) (ix2 k ⟨y1.val, by omega⟩)) (lane (m ((c : Thread nD τ).loc main_arg2)) k y1) := fun k =>
      (block3 m c (row t) k _).trans (side_high _ k y1)
    have hl : ∀ k, @Eq EReal (iblk m c 3 (row t) (ix2 k ⟨128 + y1.val, by omega⟩)) 0 := fun k => by
      obtain ⟨q, hq⟩ := hw k y1
      refine (block3 m c (row t) k _).trans ((side_low _ k y1).trans ?_)
      rw [hq, ← EReal.coe_sub, sub_self, EReal.coe_zero]
    refine (congrArg₂ (· + ·) (congrArg₂ (· + ·)
        (Finset.sum_congr rfl fun k _ => congrArg₂ (· * ·) (pay1_normed m c t y0 k) (hh k))
        (Finset.sum_eq_zero fun k _ => by rw [hp, zero_mul]))
      (congrArg₂ (· + ·) (Finset.sum_eq_zero fun k _ => (congrArg₂ (· * ·) rfl (hl k)).trans (mul_zero _))
        (Finset.sum_eq_zero fun k _ => by rw [hp, zero_mul]))).trans ?_
    simp only [add_zero]
  · blk_ext [idx t]

end Cert.Kernel5Ideal.Norm

end

end
-- ==== Proof.NormOdd.lean ====
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.Pipeline.TableIdle
public import Idealize.ShloMosaic.Lib.Claim
public import Idealize.ShloMosaic.Lib.Tactic

@[expose] public section

set_option maxRecDepth 16384

noncomputable section

/-! The run of the second mixer's input projection on extended reals. A row of eight positions shares one tile of rows: its first position
    norms the tile, keeps it for the row, and stores the gates; every position then multiplies the kept tile by its own
    columns of the weights; the fourth and fifth, of the queries and the keys, norm every head of the product. -/

namespace Cert.Kernel6Ideal.Norm

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource algebra of the program's separation logic. -/
abbrev World (F : FTy → Type) [FloatOps F] := MT nD τ sig Unit (Elt F) ℕ (UR sig nD τ) ℕ

/-- The rectangles the body loads and stores through, each a whole buffer. -/
abbrev rRows : Rect S1024x1024 := Rect.unit (s := S1024x1024) ![0, 0] S1024x1024.size inb_S1024x1024_S1024x1024_0_0
abbrev rGain : Rect S1x1024 := Rect.unit (s := S1x1024) ![0, 0] S1x1024.size inb_S1x1024_S1x1024_0_0
abbrev rSide : Rect S1024x256 := Rect.unit (s := S1024x256) ![0, 0] S1024x256.size inb_S1024x256_S1024x256_0_0
abbrev rGate : Rect S1024x128 := Rect.unit (s := S1024x128) ![0, 0] S1024x128.size inb_S1024x128_S1024x128_0_0

/-- The normed tile the body keeps, from the tile of rows and the gains. -/
def kept (x : Vec F S1024x1024 .f32) (g : Vec F S1x1024 .f32) : Vec F S1024x1024 .bf16 :=
  View.canon [⟨rRows, k0_pay3 (View.ld x rRows) (View.ld g rGain)⟩]

/-- The gates' tile it stores at a row's first position. -/
def gates (x : Vec F S1024x1024 .f32) (g : Vec F S1x1024 .f32) (w : Vec F S1024x256 .bf16) : Vec F S1024x128 .f32 :=
  View.canon [⟨rGate, k0_pay4 (View.ld x rRows) (View.ld g rGain) (View.ld w rSide) (View.ld w rSide)⟩]

/-- The wide result's tile, from the kept tile and the position's columns of the weights. -/
def wide (h : Vec F S1024x1024 .bf16) (w : Vec F S1024x1024 .bf16) : Vec F S1024x1024 .bf16 :=
  View.canon [⟨rRows, k0_pay7 (View.ld h rRows) (View.ld w rRows)⟩]

theorem coverRows (p : rRows.shape.Idx → Elt F .bf16) (y : S1024x1024.Idx) :
    ∃ pc ∈ ([⟨rRows, p⟩] : List (View.Piece (Elt F) S1024x1024 .bf16)), y ∈ pc.1.set :=
  View.cover_of_tiled [⟨rRows, p⟩] S1024x1024.size (by rfl) y
theorem coverGate (p : rGate.shape.Idx → Elt F .f32) (y : S1024x128.Idx) :
    ∃ pc ∈ ([⟨rGate, p⟩] : List (View.Piece (Elt F) S1024x128 .f32)), y ∈ pc.1.set :=
  View.cover_of_tiled [⟨rGate, p⟩] S1024x128.size (by rfl) y
/-- The columns of a pair of heads in a tile, and of their factors. -/
abbrev rPair0 : Rect S1024x1024 := Rect.unit (s := S1024x1024) ![0, 0] S1024x128.size inb_S1024x1024_S1024x128_0_0
abbrev rPost0 : Rect S1x1024 := Rect.unit (s := S1x1024) ![0, 0] S1x128.size inb_S1x1024_S1x128_0_0
abbrev rPair1 : Rect S1024x1024 := Rect.unit (s := S1024x1024) ![0, 128] S1024x128.size inb_S1024x1024_S1024x128_0_128
abbrev rPost1 : Rect S1x1024 := Rect.unit (s := S1x1024) ![0, 128] S1x128.size inb_S1x1024_S1x128_0_128
abbrev rPair2 : Rect S1024x1024 := Rect.unit (s := S1024x1024) ![0, 256] S1024x128.size inb_S1024x1024_S1024x128_0_256
abbrev rPost2 : Rect S1x1024 := Rect.unit (s := S1x1024) ![0, 256] S1x128.size inb_S1x1024_S1x128_0_256
abbrev rPair3 : Rect S1024x1024 := Rect.unit (s := S1024x1024) ![0, 384] S1024x128.size inb_S1024x1024_S1024x128_0_384
abbrev rPost3 : Rect S1x1024 := Rect.unit (s := S1x1024) ![0, 384] S1x128.size inb_S1x1024_S1x128_0_384
abbrev rPair4 : Rect S1024x1024 := Rect.unit (s := S1024x1024) ![0, 512] S1024x128.size inb_S1024x1024_S1024x128_0_512
abbrev rPost4 : Rect S1x1024 := Rect.unit (s := S1x1024) ![0, 512] S1x128.size inb_S1x1024_S1x128_0_512
abbrev rPair5 : Rect S1024x1024 := Rect.unit (s := S1024x1024) ![0, 640] S1024x128.size inb_S1024x1024_S1024x128_0_640
abbrev rPost5 : Rect S1x1024 := Rect.unit (s := S1x1024) ![0, 640] S1x128.size inb_S1x1024_S1x128_0_640
abbrev rPair6 : Rect S1024x1024 := Rect.unit (s := S1024x1024) ![0, 768] S1024x128.size inb_S1024x1024_S1024x128_0_768
abbrev rPost6 : Rect S1x1024 := Rect.unit (s := S1x1024) ![0, 768] S1x128.size inb_S1x1024_S1x128_0_768
abbrev rPair7 : Rect S1024x1024 := Rect.unit (s := S1024x1024) ![0, 896] S1024x128.size inb_S1024x1024_S1024x128_0_896
abbrev rPost7 : Rect S1x1024 := Rect.unit (s := S1x1024) ![0, 896] S1x128.size inb_S1x1024_S1x128_0_896

/-- What the body stores where heads are normed, from the tile's product: a piece for every pair of heads. -/
def pieces (p : FVec F S1024x1024 .f32) (o : Vec F S1x1024 .f32) : List (View.Piece (Elt F) S1024x1024 .bf16) :=
  [⟨rPair7, k0_pay6 (k0_pay17 p (k0_pay8 (F := F)) (View.ld o rPost7))⟩,
    ⟨rPair6, k0_pay16 p (k0_pay8 (F := F)) (View.ld o rPost6)⟩,
    ⟨rPair5, k0_pay15 p (k0_pay8 (F := F)) (View.ld o rPost5)⟩,
    ⟨rPair4, k0_pay14 p (k0_pay8 (F := F)) (View.ld o rPost4)⟩,
    ⟨rPair3, k0_pay13 p (k0_pay8 (F := F)) (View.ld o rPost3)⟩,
    ⟨rPair2, k0_pay12 (k0_pay8 (F := F)) (k0_pay11 p) (View.ld o rPost2)⟩,
    ⟨rPair1, k0_pay10 p (View.ld o rPost1)⟩,
    ⟨rPair0, k0_pay9 p (View.ld o rPost0)⟩]

/-- The wide result's tile where heads are normed. -/
def headed (h : Vec F S1024x1024 .bf16) (w : Vec F S1024x1024 .bf16) (o : Vec F S1x1024 .f32) : Vec F S1024x1024 .bf16 :=
  View.canon (pieces (k0_pay5 (View.ld h rRows) (View.ld w rRows)) o)

theorem coverPairs (p : FVec F S1024x1024 .f32) (o : Vec F S1x1024 .f32) (y : S1024x1024.Idx) : ∃ pc ∈ pieces p o, y ∈ pc.1.set :=
  View.cover_of_tiled (pieces p o) S1024x128.size (by rfl) y

set_option maxHeartbeats 4000000 in
/-- The body at a row's first position: it keeps the normed tile, stores the gates and stores its tile of the wide result. -/
theorem body_first (c : Dev nD) (i : grid0.Coords) (hc : k0_cond1 i = 1#1) (hc2 : ¬ k0_cond2 i = 1#1) (hc3 : k0_cond3 i = 1#1)
    (arg2 : Memref sig .tc .vmem S1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x256 .bf16) (harg5 : arg5.IsWhole)
    (arg6 : Memref sig .tc .vmem S1x1024 .f32) (harg6 : arg6.IsWhole) (arg7 : Memref sig .tc .vmem S1024x1024 .bf16) (harg7 : arg7.IsWhole)
    (arg8 : Memref sig .tc .vmem S1024x128 .f32) (harg8 : arg8.IsWhole) (arg9 : Memref sig .tc .vmem S1024x1024 .bf16) (harg9 : arg9.IsWhole)
    (x : Vec F S1024x1024 .f32) (g : Vec F S1x1024 .f32) (w : Vec F S1024x1024 .bf16) (ws : Vec F S1024x256 .bf16) (po : Vec F S1x1024 .f32)
    (K : PUnit → sProp (World F)) :
    iprop(owns (c : Thread nD τ) arg2 fullShare x ∗ owns (c : Thread nD τ) arg3 fullShare g ∗ owns (c : Thread nD τ) arg4 fullShare w
        ∗ owns (c : Thread nD τ) arg5 fullShare ws ∗ owns (c : Thread nD τ) arg6 fullShare po
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare g ∗ owns (c : Thread nD τ) arg4 fullShare w
            ∗ owns (c : Thread nD τ) arg5 fullShare ws ∗ owns (c : Thread nD τ) arg6 fullShare po
            ∗ owns (c : Thread nD τ) arg7 fullShare (wide (kept x g) w) ∗ owns (c : Thread nD τ) arg8 fullShare (gates x g ws)
            ∗ owns (c : Thread nD τ) arg9 fullShare (kept x g)) -∗ K ⟨⟩))
      ⊢ wp frame (wpE (defs₀ (F := F)) Variants.none c none) Set.univ
          (cc0_norm_matmul i arg2 harg2 arg3 harg3 arg4 harg4 arg5 harg5 arg6 harg6 arg7 harg7 arg8 harg8 arg9 harg9) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | sl_exact hc | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (coverRows _)).trans ?_
    unfold wide kept body_first.sl.v3 body_first.sl.H7_1
    exact congrArg (fun h : Vec F S1024x1024 .bf16 => View.canon (Val := Elt F) (s := S1024x1024) (e := .bf16) [⟨rRows, k0_pay7 (F := F) h _⟩]) (View.readCov_eq_canon_ld _ _ rRows (coverRows _))
  isplitl [H6]
  · iexists _; isplitr
    swap; · iexact H6
    ipureintro
    exact View.read_writes_eq_canon _ _ _ (coverGate _)
  iexists _; isplitr
  swap; · iexact H7
  ipureintro
  exact View.read_writes_eq_canon _ _ _ (coverRows _)

set_option maxHeartbeats 4000000 in
/-- The body at a later position of a row, the row's normed tile kept: it stores its tile of the wide result. -/
theorem body_later (c : Dev nD) (i : grid0.Coords) (hc : ¬ k0_cond1 i = 1#1) (hc2 : ¬ k0_cond2 i = 1#1) (hc3 : k0_cond3 i = 1#1)
    (arg2 : Memref sig .tc .vmem S1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x256 .bf16) (harg5 : arg5.IsWhole)
    (arg6 : Memref sig .tc .vmem S1x1024 .f32) (harg6 : arg6.IsWhole) (arg7 : Memref sig .tc .vmem S1024x1024 .bf16) (harg7 : arg7.IsWhole)
    (arg8 : Memref sig .tc .vmem S1024x128 .f32) (harg8 : arg8.IsWhole) (arg9 : Memref sig .tc .vmem S1024x1024 .bf16) (harg9 : arg9.IsWhole)
    (w : Vec F S1024x1024 .bf16) (h : Vec F S1024x1024 .bf16) (K : PUnit → sProp (World F)) :
    iprop(owns (c : Thread nD τ) arg4 fullShare w ∗ (∃ d, owns (c : Thread nD τ) arg7 fullShare d) ∗ owns (c : Thread nD τ) arg9 fullShare h
        ∗ (iprop(owns (c : Thread nD τ) arg4 fullShare w ∗ owns (c : Thread nD τ) arg7 fullShare (wide h w)
            ∗ owns (c : Thread nD τ) arg9 fullShare h) -∗ K ⟨⟩))
      ⊢ wp frame (wpE (defs₀ (F := F)) Variants.none c none) Set.univ
          (cc0_norm_matmul i arg2 harg2 arg3 harg3 arg4 harg4 arg5 harg5 arg6 harg6 arg7 harg7 arg8 harg8 arg9 harg9) K := by
  simp only [cc0_norm_matmul_eq_skeleton]; unfold cc0_norm_matmul_skel
  unfold owns
  iintro ⟨⟨%f2, %hf2, H2⟩, ⟨%d5, %f5, -, H5⟩, ⟨%f7, %hf7, H7⟩, Hk⟩
  subst hf2 hf7
  sl_exec (disch := first | sl_exact hc | sl_exact hc2 | sl_exact hc3)
  sl_step
  iapply Hk
  isplitl [H2]
  · iexists f2; isplitr; · ipureintro; rfl
    iexact H2
  isplitl [H5]
  · iexists _; isplitr
    swap; · iexact H5
    ipureintro
    exact View.read_writes_eq_canon _ _ _ (coverRows _)
  iexists f7; isplitr; · ipureintro; rfl
  iexact H7

set_option maxHeartbeats 4000000 in
/-- The body where heads are normed: it stores its tile piece by piece. -/
theorem body_heads (c : Dev nD) (i : grid0.Coords) (hc : ¬ k0_cond1 i = 1#1) (hc2 : k0_cond2 i = 1#1) (hc3 : ¬ k0_cond3 i = 1#1)
    (arg2 : Memref sig .tc .vmem S1024x1024 .f32) (harg2 : arg2.IsWhole) (arg3 : Memref sig .tc .vmem S1x1024 .f32) (harg3 : arg3.IsWhole)
    (arg4 : Memref sig .tc .vmem S1024x1024 .bf16) (harg4 : arg4.IsWhole) (arg5 : Memref sig .tc .vmem S1024x256 .bf16) (harg5 : arg5.IsWhole)
    (arg6 : Memref sig .tc .vmem S1x1024 .f32) (harg6 : arg6.IsWhole) (arg7 : Memref sig .tc .vmem S1024x1024 .bf16) (harg7 : arg7.IsWhole)
    (arg8 : Memref sig .tc .vmem S1024x128 .f32) (harg8 : arg8.IsWhole) (arg9 : Memref sig .tc .vmem S1024x1024 .bf16) (harg9 : arg9.IsWhole)
    (w : Vec F S1024x1024 .bf16) (h : Vec F S1024x1024 .bf16) (o : Vec F S1x1024 .f32) (K : PUnit → sProp (World F)) :
    iprop(owns (c : Thread nD τ) arg4 fullShare w ∗ owns (c : Thread nD τ) arg6 fullShare o ∗ (∃ d, owns (c : Thread nD τ) arg7 fullShare d) ∗ owns (c : Thread nD τ) arg9 fullShare h
        ∗ (iprop(owns (c : Thread nD τ) arg4 fullShare w ∗ owns (c : Thread nD τ) arg6 fullShare o ∗ owns (c : Thread nD τ) arg7 fullShare (headed h w o)
            ∗ owns (c : Thread nD τ) arg9 fullShare h) -∗ K ⟨⟩))
      ⊢ wp frame (wpE (defs₀ (F := F)) Variants.none c none) Set.univ
          (cc0_norm_matmul i arg2 harg2 arg3 harg3 arg4 harg4 arg5 harg5 arg6 harg6 arg7 harg7 arg8 harg8 arg9 harg9) K := by
  simp only [cc0_norm_matmul_eq_skeleton]; unfold cc0_norm_matmul_skel
  simp only [k0_part1_eq_skeleton, k0_part2_eq_skeleton, k0_part3_eq_skeleton]; unfold k0_part1_skel k0_part2_skel k0_part3_skel
  unfold owns
  iintro ⟨⟨%f2, %hf2, H2⟩, ⟨%f4, %hf4, H4⟩, ⟨%d5, %f5, -, H5⟩, ⟨%f7, %hf7, H7⟩, Hk⟩
  subst hf2 hf4 hf7
  sl_exec (disch := first | sl_exact hc | sl_exact hc2 | sl_exact hc3)
  sl_step
  iapply Hk
  isplitl [H2]
  · iexists f2; isplitr; · ipureintro; rfl
    iexact H2
  isplitl [H4]
  · iexists f4; isplitr; · ipureintro; rfl
    iexact H4
  isplitl [H5]
  · iexists _; isplitr
    swap; · iexact H5
    ipureintro
    exact View.read_writes_eq_canon _ _ _ (coverPairs _ _)
  iexists f7; isplitr; · ipureintro; rfl
  iexact H7

variable (m : (ℓ : Loc nD τ sig) → Buf (Elt F) ℓ) (ρ : Dev nD → PrngReg)

theorem points (t : Fin cfg0.N) : t.val < 256 := N_0 ▸ t.isLt

/-- The first position of position `t`'s row. -/
def row (t : Fin cfg0.N) : Fin cfg0.N := ⟨t.val - t.val % 8, Nat.lt_of_le_of_lt (Nat.sub_le _ _) t.isLt⟩

theorem row_first (t : Fin cfg0.N) (h : t.val % 8 = 0) : row t = t := Fin.ext (by unfold row; dsimp only; omega)

theorem row_later (t : Fin cfg0.N) (h : ¬ t.val % 8 = 0) : row ⟨t.val - 1, Nat.lt_of_le_of_lt (Nat.sub_le _ _) t.isLt⟩ = row t :=
  Fin.ext (by unfold row; dsimp only; omega)

set_option maxHeartbeats 4000000 in
/-- The body's test holds exactly at a row's first position. -/
theorem test_iff : ∀ t : Fin cfg0.N, k0_cond1 (grid0.coords t) = 1#1 ↔ t.val % 8 = 0 := by
  have h : ∀ t : Fin 256, k0_cond1 (grid0.coords (t.cast N_0.symm)) = 1#1 ↔ t.val % 8 = 0 := by decide +kernel
  exact fun t => h (t.cast N_0)

set_option maxHeartbeats 4000000 in
/-- The body norms heads exactly at a row's fourth and fifth positions, -/
theorem heads_iff : ∀ t : Fin cfg0.N, k0_cond2 (grid0.coords t) = 1#1 ↔ (t.val % 8 = 3 ∨ t.val % 8 = 4) := by
  have h : ∀ t : Fin 256, k0_cond2 (grid0.coords (t.cast N_0.symm)) = 1#1 ↔ (t.val % 8 = 3 ∨ t.val % 8 = 4) := by decide +kernel
  exact fun t => h (t.cast N_0)

set_option maxHeartbeats 4000000 in
/-- and stores the product as it is at the others. -/
theorem plain_iff : ∀ t : Fin cfg0.N, k0_cond3 (grid0.coords t) = 1#1 ↔ ¬ (t.val % 8 = 3 ∨ t.val % 8 = 4) := by
  have h : ∀ t : Fin 256, k0_cond3 (grid0.coords (t.cast N_0.symm)) = 1#1 ↔ ¬ (t.val % 8 = 3 ∨ t.val % 8 = 4) := by decide +kernel
  exact fun t => h (t.cast N_0)

/-- The normed tile that position `t`'s row keeps. -/
def keptAt (c : Dev nD) (t : Fin cfg0.N) : Vec F S1024x1024 .bf16 := kept (iblk m c 0 (row t)) (iblk m c 1 (row t))

/-- The gates' tile of position `t`'s row. -/
def gatesAt (c : Dev nD) (t : Fin cfg0.N) : Vec F S1024x128 .f32 := gates (iblk m c 0 (row t)) (iblk m c 1 (row t)) (iblk m c 3 (row t))

/-- The wide result's tile of position `t`. -/
def wideAt (c : Dev nD) (t : Fin cfg0.N) : Vec F S1024x1024 .bf16 :=
  if t.val % 8 = 3 ∨ t.val % 8 = 4 then headed (keptAt m c t) (iblk m c 2 t) (iblk m c 4 t) else wide (keptAt m c t) (iblk m c 2 t)

/-- Before position `n`: after a row's first position the scratch buffer holds the row's normed tile; at the start of a row
    it holds anything. -/
def carried (c : Dev nD) (n : ℕ) : sProp (World F) :=
  iprop((∃ s, ⌜∀ h : n - 1 < cfg0.N, ¬ n % 8 = 0 → s = keptAt m c ⟨n - 1, h⟩⌝ ∗ owns (c : Thread nD τ) (Memref.whole cc0_scratch0) fullShare s)
    ∗ ∃ r, prngReg c r)

/-- The pipeline's proof data: each window's array at launch, and what each staging buffer holds after each position. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wideAt m c t
    | ⟨6, _⟩ => gatesAt m c t
  Φ n := carried m c n.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = wideAt m c t := by dsimp only [dats]
theorem after_6 (c : Dev nD) (t : Fin cfg0.N) : (dats m 0 c).after 6 t = gatesAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The body leaves the gates' buffer alone exactly off a row's first position. -/
theorem idle_6 (t : Fin cfg0.N) : cfg0.idle 6 (cfg0.grid.coords t) = !(decide (t.val % 8 = 0)) := by
  have h : cfg0.idle 6 (cfg0.grid.coords t) = !(k0_cond1 (grid0.coords t) == 1#1) := rfl
  rw [h]
  by_cases hc : t.val % 8 = 0
  · rw [(test_iff t).2 hc]; simp [hc]
  · have := mt (test_iff t).1 hc
    simp [hc, this]

/-- The gates' buffer holds nothing stored exactly when a row starts. -/
theorem fresh_6 (n : ℕ) (h : n ≤ cfg0.N) : cfg0.fresh 6 n = decide (n % 8 = 0) :=
  cfg0.fresh_tab 6 (fun n => decide (n % 8 = 0)) rfl (fun t => by
    rw [idle_6, Bool.eq_iff_iff, Bool.or_eq_true, flush0_6]
    simp only [decide_eq_true_eq, Bool.and_eq_true, Bool.not_eq_true', decide_eq_false_iff_not]
    have := points t
    omega) n h

/-- When the body runs at a later position of a row, the gates' buffer holds the row's gates. -/
theorem before_6 (c : Dev nD) (t : Fin cfg0.N) (h : ¬ t.val % 8 = 0) (d) : (dats m 0 c).before 6 t d = gatesAt m c t := by
  rw [(dats m 0 c).before_out_traj 6 rfl (fun _ _ => rfl) (fun t ht hi hf => by
      rw [after_6, after_6]
      have hr : ¬ t.val % 8 = 0 := by
        rw [fresh_6 t.val t.isLt.le, decide_eq_false_iff_not] at hf; exact hf
      unfold gatesAt; rw [row_later t hr]) t.val t rfl d,
    if_neg (by rw [fresh_6 t.val t.isLt.le]; simpa using h), after_6]
  unfold gatesAt; rw [row_later t h]

set_option maxHeartbeats 4000000 in
/-- At every position the body, from its blocks and what its row carries, leaves each window's contents as stated. -/
theorem body_runs (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t)
            ∗ owns (c : Thread nD τ) (st0_5 t) fullShare ((dats m 0 c).after 5 t)
            ∗ owns (c : Thread nD τ) (st0_6 t) fullShare ((dats m 0 c).after 6 t)) := by
  unfold bodyAt0
  simp only [before_0, before_1, before_2, before_3, before_4, after_0, after_1, after_2, after_3, after_4, after_5, after_6]
  rw [show (dats m 0 c).owesAt () t.succ = (dats m 0 c).owesAt () t.castSucc from rfl,
    show (dats m 0 c).Φ t.castSucc = carried m c t.val from rfl, show (dats m 0 c).Φ t.succ = carried m c (t.val + 1) from rfl]
  unfold carried
  by_cases h : t.val % 8 = 0
  · have e1 : keptAt m c t = kept (iblk m c 0 t) (iblk m c 1 t) := by unfold keptAt; rw [row_first t h]
    have e2 : gatesAt m c t = gates (iblk m c 0 t) (iblk m c 1 t) (iblk m c 3 t) := by unfold gatesAt; rw [row_first t h]
    have hp : ¬ (t.val % 8 = 3 ∨ t.val % 8 = 4) := by omega
    have e3 : wideAt m c t = wide (kept (iblk m c 0 t) (iblk m c 1 t)) (iblk m c 2 t) := by unfold wideAt; rw [if_neg hp, e1]
    rw [e3, e2]
    iintro ⟨⟨⟨%s, -, Hs⟩, Hr⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) ((test_iff t).2 h) (mt (heads_iff t).1 hp) ((plain_iff t).2 hp) _ _ _ _ _ _ _ _ _ _ _ _ _ _ _ _ (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [Hs]; · iexists _; iexact Hs
    iintro ⟨H0, H1, H2, H3, H4, H5, H6, Hs⟩
    isplitl [Hs Hr]
    · isplitl [Hs]
      · iexists _; isplitr; swap
        · iexact Hs
        · ipureintro; exact fun _ _ => e1.symm
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before_6 m c t h]
    iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩⟩
    have es : s = keptAt m c t := (hs (Nat.lt_of_le_of_lt (Nat.sub_le _ _) t.isLt) h).trans (by unfold keptAt; rw [row_later t h])
    subst es
    by_cases hp : t.val % 8 = 3 ∨ t.val % 8 = 4
    · rw [show wideAt m c t = headed (keptAt m c t) (iblk m c 2 t) (iblk m c 4 t) from if_pos hp]
      iapply (body_heads c (grid0.coords t) (mt (test_iff t).1 h) ((heads_iff t).2 hp) (mt (plain_iff t).1 (not_not_intro hp)) _ _ _ _ _ _ _ _ _ _ _ _ _ _ _ _ (iblk m c 2 t) (keptAt m c t) (iblk m c 4 t) _)
      isplitl [H2]; · iexact H2
      isplitl [H4]; · iexact H4
      isplitl [H5]; · iexists _; iexact H5
      isplitl [Hs]; · iexact Hs
      iintro ⟨H2, H4, H5, Hs⟩
      isplitl [Hs Hr]
      · isplitl [Hs]
        · iexists _; isplitr; swap
          · iexact Hs
          · ipureintro; exact fun _ _ => rfl
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show wideAt m c t = wide (keptAt m c t) (iblk m c 2 t) from if_neg hp]
      iapply (body_later c (grid0.coords t) (mt (test_iff t).1 h) (mt (heads_iff t).1 hp) ((plain_iff t).2 hp) _ _ _ _ _ _ _ _ _ _ _ _ _ _ _ _ (iblk m c 2 t) (keptAt m c t) _)
      isplitl [H2]; · iexact H2
      isplitl [H5]; · iexists _; iexact H5
      isplitl [Hs]; · iexact Hs
      iintro ⟨H2, H5, Hs⟩
      isplitl [Hs Hr]
      · isplitl [Hs]
        · iexists _; isplitr; swap
          · iexact Hs
          · ipureintro; exact fun _ _ => rfl
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs_row (t : Fin cfg0.N) : defs₀ (F := F) .tc cfg0.body (cfg0.bodyArgs t (cfg0.slots t)) = bodyAt0 t := by
  unfold defs₀; rw [Defs.onTc_tc]

/-- What the pipeline asks of the gates' window: its contents where the row is written back or the body stores, else its buffer
    as found, which holds the same. -/
theorem side_post (c : Dev nD) (t : Fin cfg0.N) :
    owns (c : Thread nD τ) (st0_6 t) fullShare ((dats m 0 c).after 6 t) ⊢
      (match cfg0.idle 6 (cfg0.grid.coords t) with
        | true =>
          match (cfg0.win 6).flush t with
          | false => iprop(∃ d, owns (c : Thread nD τ) ((cfg0.win 6).stage (cfg0.slots t 6)) fullShare ((dats m 0 c).before 6 t d))
          | true => owns (c : Thread nD τ) ((cfg0.win 6).stage (cfg0.slots t 6)) fullShare ((dats m 0 c).after 6 t)
        | false => owns (c : Thread nD τ) ((cfg0.win 6).stage (cfg0.slots t 6)) fullShare ((dats m 0 c).after 6 t) : sProp (World F)) := by
  by_cases h : t.val % 8 = 0
  · have hi : cfg0.idle 6 (cfg0.grid.coords t) = false := by rw [idle_6]; simp [h]
    rw [hi]
  · have hi : cfg0.idle 6 (cfg0.grid.coords t) = true := by rw [idle_6]; simp [h]
    rw [hi]
    cases (cfg0.win 6).flush t
    · simp only [before_6 m c t h, after_6]
      iintro H
      iexists default
      iexact H
    · exact .rfl

theorem live_0 (t : Fin cfg0.N) : cfg0.idle 0 (cfg0.grid.coords t) = false := rfl
theorem live_1 (t : Fin cfg0.N) : cfg0.idle 1 (cfg0.grid.coords t) = false := rfl
theorem live_2 (t : Fin cfg0.N) : cfg0.idle 2 (cfg0.grid.coords t) = false := rfl
theorem live_3 (t : Fin cfg0.N) : cfg0.idle 3 (cfg0.grid.coords t) = false := rfl
theorem live_4 (t : Fin cfg0.N) : cfg0.idle 4 (cfg0.grid.coords t) = false := rfl
theorem live_5 (t : Fin cfg0.N) : cfg0.idle 5 (cfg0.grid.coords t) = false := by
  have h : cfg0.idle 5 (cfg0.grid.coords t) = (!(k0_cond2 (grid0.coords t) == 1#1) && !(k0_cond3 (grid0.coords t) == 1#1)) := rfl
  rw [h]
  by_cases hc : t.val % 8 = 3 ∨ t.val % 8 = 4
  · rw [(heads_iff t).2 hc]; rfl
  · rw [(plain_iff t).2 hc]; simp

/-- What the pipeline asks of the wide result's window, which the body stores at every position. -/
theorem wide_post (c : Dev nD) (t : Fin cfg0.N) :
    owns (c : Thread nD τ) (st0_5 t) fullShare ((dats m 0 c).after 5 t) ⊢
      (match cfg0.idle 5 (cfg0.grid.coords t) with
        | true =>
          match (cfg0.win 5).flush t with
          | false => iprop(∃ d, owns (c : Thread nD τ) ((cfg0.win 5).stage (cfg0.slots t 5)) fullShare ((dats m 0 c).before 5 t d))
          | true => owns (c : Thread nD τ) ((cfg0.win 5).stage (cfg0.slots t 5)) fullShare ((dats m 0 c).after 5 t)
        | false => owns (c : Thread nD τ) ((cfg0.win 5).stage (cfg0.slots t 5)) fullShare ((dats m 0 c).after 5 t) : sProp (World F)) := by
  rw [live_5]

/-- What the body is left with, window by window, is what the pipeline asks of it. -/
theorem post_restated (c : Dev nD) (t : Fin cfg0.N) :
    iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t))
      ⊢ iprop((dats m 0 c).Φ t.succ ∗ (dats m 0 c).owesAt () t.succ
        ∗ bigSep Finset.univ fun w : Fin cfg0.W =>
            match cfg0.idle w (cfg0.grid.coords t) with
            | true =>
              match (cfg0.win w).flush t with
              | false => iprop(∃ d, owns (c : Thread nD τ) ((cfg0.win w).stage (cfg0.slots t w)) fullShare ((dats m 0 c).before w t d))
              | true => owns (c : Thread nD τ) ((cfg0.win w).stage (cfg0.slots t w)) fullShare ((dats m 0 c).after w t)
            | false => owns (c : Thread nD τ) ((cfg0.win w).stage (cfg0.slots t w)) fullShare ((dats m 0 c).after w t)) := by
  rw [bigSep_W0]
  simp only [live_0, live_1, live_2, live_3, live_4]
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (wide_post m c t)
    iexact H5
  iapply (side_post m c t)
  iexact H6

/-- The pipeline's body obligation. -/
theorem obligation (c : Dev nD) : BodyObligation (dats (F := F) m 0 c) (defs₀ (F := F)) Variants.none () Set.univ := fun t => by
  rw [bigSep_W0, defs_row]
  exact (body_runs m c t).trans ((wp frame (wpE (defs₀ (F := F)) Variants.none c none) Set.univ (bodyAt0 t)).mono fun _ => post_restated m c t)

/-- The first position finds the scratch buffer at anything, -/
theorem carried_first (c : Dev nD) : Pipeline.ΦA spec0 c ⊢ (dats (F := F) m 0 c).Φ 0 := by
  rw [show (dats (F := F) m 0 c).Φ 0 = carried m c 0 from rfl]
  unfold Pipeline.ΦA carried
  rw [scopedRest0_eq]
  iintro ⟨⟨%f, Hs⟩, Hr⟩
  isplitl [Hs]
  · iexists f
    rw [owns_whole]
    isplitr; swap
    · iexact Hs
    · ipureintro; exact fun _ h => (h (Nat.zero_mod 8)).elim
  iexact Hr

/-- and the last leaves it at something. -/
theorem carried_last (c : Dev nD) : (dats (F := F) m 0 c).Φ (Fin.last cfg0.N) ⊢ Pipeline.ΦA spec0 c := by
  rw [show (dats (F := F) m 0 c).Φ (Fin.last cfg0.N) = carried m c cfg0.N from rfl]
  unfold Pipeline.ΦA carried
  rw [scopedRest0_eq]
  simp only [owns_whole]
  iintro ⟨⟨%s, -, Hs⟩, Hr⟩
  isplitl [Hs]
  · iexists s; iexact Hs
  iexact Hr

set_option backward.isDefEq.respectTransparency.types false in
set_option maxHeartbeats 800000 in
/-- The kernel ends with every array at the computed contents and every semaphore counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := carried_first m) (hout := carried_last m)

/-- The kernel leaves its arguments as they were. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Kernel6Ideal.Norm

end
-- ==== Proof.RefOdd.lean ====
module

public import proofs.«01_k».proof.Proof.NormEvenValue
public import proofs.«01_k».proof.Proof.Gen.Reference6Ideal.Run
public import Idealize.ShloMosaic.Lib.StableHlo.RunClose
public import Idealize.ShloMosaic.Lib.Pointwise
public import Idealize.ShloMosaic.Lib.Pipeline.ValueKit

@[expose] public section

set_option maxRecDepth 2000

noncomputable section

namespace Cert.Reference6Ideal.Norm

open Cert.Reference6Ideal Cert.Reference6Ideal.Gen Idealize.ShloMosaic Idealize.ShloMosaic.TcCoe Idealize.SL.Sem
open Cert.Reference5Ideal.Norm (scale normed normed_apply normed_real square_nonneg)

/-- The normed rows times the weights. -/
def projected (x : FVec Ideal S32768x1024 .f32) (g : FVec Ideal S1024 .f32) (w : FVec Ideal S1024x8224 .f32) : FVec Ideal S32768x8224 .f32 :=
  Host.dotGeneral dot_S32768x1024_S1024x8224_S32768x8224_1_0_0_1_n_n none (normed x g) w

theorem projected_apply (x : FVec Ideal S32768x1024 .f32) (g : FVec Ideal S1024 .f32) (w : FVec Ideal S1024x8224 .f32) (r : Fin 32768) (d : Fin 8224) :
    projected x g w (ix2 r d) = ∑ k : Fin 1024, normed x g (ix2 r k) * w (ix2 k d) := by
  pointwise [projected]

/-- What a head is scaled by, from the sum of its squares. -/
def headScale (s : EReal) : EReal := Ideal.rsqrt (Ideal.div s (Ideal.ofBits .f32 0x42800000#32) + Ideal.ofBits .f32 0x358637BD#32)

/-- Every head of 64 lanes divided by the root of its mean square. -/
def headed (a : FVec Ideal S32768x16x64 .f32) : FVec Ideal S32768x16x64 .f32 :=
  mulf a (broadcastInDim S32768x16x64 ![0, 1, 2] bcast_S32768x16x1_S32768x16x64_0_1_2
    (Host.rsqrt (addf (Host.divf
        (broadcastInDim S32768x16x1 ![0, 1] bcast_S32768x16_S32768x16x1_0_1
          (Host.reduceAdd (mulf a a) (constant S_ .f32 0x00000000#32) reducesTo_S32768x16x64_S32768x16_d2 h_S_))
        (broadcastInDim S32768x16x1 ![] bcast_S_S32768x16x1 (constant S_ .f32 0x42800000#32)))
      (broadcastInDim S32768x16x1 ![] bcast_S_S32768x16x1 (constant S_ .f32 0x358637BD#32)))))

theorem headed_apply (a : FVec Ideal S32768x16x64 .f32) (r : Fin 32768) (h : Fin 16) (e : Fin 64) :
    headed a (ix3 r h e) = a (ix3 r h e) * headScale (∑ j : Fin 64, a (ix3 r h j) * a (ix3 r h j)) := by
  pointwise [headed, headScale]

/-- A row of gains for every head. -/
def factors (q : FVec Ideal S64 .f32) : FVec Ideal S32768x16x64 .f32 :=
  broadcastInDim S32768x16x64 ![0, 1, 2] bcast_S1x1x64_S32768x16x64_0_1_2 (broadcastInDim S1x1x64 ![2] bcast_S64_S1x1x64_2 q)

/-- The queries: normed heads times their gains and an eighth. -/
def queries (p : FVec Ideal S32768x8224 .f32) (q : FVec Ideal S64 .f32) : FVec Ideal S32768x1024 .f32 :=
  shapeCast S32768x1024 (mulf (mulf (headed (shapeCast S32768x16x64 (extractStridedSlice S32768x1024 ![0, 0] p slices_S32768x8224_S32768x1024_0_0) shapeCasts_S32768x1024_S32768x16x64))
      (factors q)) (broadcastInDim S32768x16x64 ![] bcast_S_S32768x16x64 (constant S_ .f32 0x3E000000#32))) shapeCasts_S32768x16x64_S32768x1024

/-- The keys: normed heads times their gains. -/
def keys (p : FVec Ideal S32768x8224 .f32) (q : FVec Ideal S64 .f32) : FVec Ideal S32768x1024 .f32 :=
  shapeCast S32768x1024 (mulf (headed (shapeCast S32768x16x64 (extractStridedSlice S32768x1024 ![0, 1024] p slices_S32768x8224_S32768x1024_0_1024) shapeCasts_S32768x1024_S32768x16x64))
      (factors q)) shapeCasts_S32768x16x64_S32768x1024

/-- A row's lanes in heads. -/
theorem split_apply (a : FVec Ideal S32768x1024 .f32) (r : Fin 32768) (h : Fin 16) (e : Fin 64) :
    shapeCast S32768x16x64 a shapeCasts_S32768x1024_S32768x16x64 (ix3 r h e) = a (ix2 r ⟨64 * h.val + e.val, by omega⟩) := by
  pointwise []
  exact congrArg (fun e => a (ix2 r e)) (Fin.ext (by dsimp only; omega))

/-- Heads as a row's lanes. -/
theorem joined_apply (a : FVec Ideal S32768x16x64 .f32) (r : Fin 32768) (d : Fin 1024) :
    shapeCast S32768x1024 a shapeCasts_S32768x16x64_S32768x1024 (ix2 r d) = a (ix3 r ⟨d.val / 64, by omega⟩ ⟨d.val % 64, by omega⟩) := by
  pointwise []

theorem queries_apply (p : FVec Ideal S32768x8224 .f32) (q : FVec Ideal S64 .f32) (r : Fin 32768) (d : Fin 1024) :
    queries p q (ix2 r d) = p (ix2 r ⟨d.val, by omega⟩)
      * headScale (∑ j : Fin 64, p (ix2 r ⟨64 * (d.val / 64) + j.val, by omega⟩) * p (ix2 r ⟨64 * (d.val / 64) + j.val, by omega⟩))
      * (q (ix1 ⟨d.val % 64, by omega⟩) * Ideal.ofBits .f32 0x3E000000#32) := by
  have hs : ∀ e : Fin 64, shapeCast S32768x16x64 (extractStridedSlice S32768x1024 ![0, 0] p slices_S32768x8224_S32768x1024_0_0) shapeCasts_S32768x1024_S32768x16x64
      (ix3 r (⟨d.val / 64, by omega⟩ : Fin 16) e) = p (ix2 r ⟨64 * (d.val / 64) + e.val, by omega⟩) := fun e => by
    rw [split_apply]; pointwise []
  have hf : factors q (ix3 r (⟨d.val / 64, by omega⟩ : Fin 16) (⟨d.val % 64, by omega⟩ : Fin 64)) = q (ix1 ⟨d.val % 64, by omega⟩) := by pointwise [factors]
  have hd : (⟨64 * (d.val / 64) + d.val % 64, by omega⟩ : Fin 8224) = ⟨d.val, by omega⟩ := Fin.ext (by dsimp only; omega)
  unfold queries
  rw [joined_apply]
  refine (congrArg₂ (· * ·) (congrArg₂ (· * ·) (headed_apply _ r _ _) hf) rfl).trans ?_
  simp only [hs, hd]
  exact mul_assoc _ _ _

theorem keys_apply (p : FVec Ideal S32768x8224 .f32) (q : FVec Ideal S64 .f32) (r : Fin 32768) (d : Fin 1024) :
    keys p q (ix2 r d) = p (ix2 r ⟨1024 + d.val, by omega⟩)
      * headScale (∑ j : Fin 64, p (ix2 r ⟨1024 + (64 * (d.val / 64) + j.val), by omega⟩) * p (ix2 r ⟨1024 + (64 * (d.val / 64) + j.val), by omega⟩))
      * q (ix1 ⟨d.val % 64, by omega⟩) := by
  have hs : ∀ e : Fin 64, shapeCast S32768x16x64 (extractStridedSlice S32768x1024 ![0, 1024] p slices_S32768x8224_S32768x1024_0_1024) shapeCasts_S32768x1024_S32768x16x64
      (ix3 r (⟨d.val / 64, by omega⟩ : Fin 16) e) = p (ix2 r ⟨1024 + (64 * (d.val / 64) + e.val), by omega⟩) := fun e => by
    rw [split_apply]; pointwise []
  have hf : factors q (ix3 r (⟨d.val / 64, by omega⟩ : Fin 16) (⟨d.val % 64, by omega⟩ : Fin 64)) = q (ix1 ⟨d.val % 64, by omega⟩) := by pointwise [factors]
  have hd : (⟨1024 + (64 * (d.val / 64) + d.val % 64), by omega⟩ : Fin 8224) = ⟨1024 + d.val, by omega⟩ := Fin.ext (by dsimp only; omega)
  unfold keys
  rw [joined_apply]
  refine (congrArg₂ (· * ·) (headed_apply _ r _ _) hf).trans ?_
  simp only [hs, hd]

/-- The wide result. -/
def wide (x : FVec Ideal S32768x1024 .f32) (g : FVec Ideal S1024 .f32) (w : FVec Ideal S1024x8224 .f32) (q k : FVec Ideal S64 .f32) : FVec Ideal S32768x8192 .bf16 :=
  truncf .bf16 (concatenate S32768x8192 1
    [⟨S32768x3072, extractStridedSlice S32768x3072 ![0, 5120] (projected x g w) slices_S32768x8224_S32768x3072_0_5120⟩,
      ⟨S32768x1024, queries (projected x g w) q⟩, ⟨S32768x1024, keys (projected x g w) k⟩,
      ⟨S32768x3072, extractStridedSlice S32768x3072 ![0, 2048] (projected x g w) slices_S32768x8224_S32768x3072_0_2048⟩]
    concatenates_S32768x3072_S32768x1024_S32768x1024_S32768x3072_S32768x8192_d1) bitsLt_bf16_f32

/-- The column of the weights that a column of the wide result reads. -/
def column (d : Fin 8192) : Fin 8224 := if h : d.val < 3072 then ⟨d.val + 5120, by omega⟩ else ⟨d.val - 3072, by omega⟩

/-- An entry of the product that the wide result is made of. -/
def entry (x : FVec Ideal S32768x1024 .f32) (g : FVec Ideal S1024 .f32) (w : FVec Ideal S1024x8224 .f32) (r : Fin 32768) (d : Fin 8192) : EReal :=
  ∑ k : Fin 1024, normed x g (ix2 r k) * w (ix2 k (column d))

theorem entry_eq (x : FVec Ideal S32768x1024 .f32) (g : FVec Ideal S1024 .f32) (w : FVec Ideal S1024x8224 .f32) (r : Fin 32768) (d : Fin 8192) (e : Fin 8224)
    (h : column d = e) : entry x g w r d = projected x g w (ix2 r e) := by
  subst h; exact (projected_apply x g w r _).symm

/-- The gain of a column of the queries or keys. -/
def gainAt (q k : FVec Ideal S64 .f32) (d : ℕ) : EReal :=
  if d < 4096 then q (ix1 ⟨d % 64, by omega⟩) * Ideal.ofBits .f32 0x3E000000#32 else k (ix1 ⟨d % 64, by omega⟩)

/-- The wide result off the queries and keys. -/
theorem wide_plain (x : FVec Ideal S32768x1024 .f32) (g : FVec Ideal S1024 .f32) (w : FVec Ideal S1024x8224 .f32) (q k : FVec Ideal S64 .f32)
    (r : Fin 32768) (d : Fin 8192) (h : d.val < 3072 ∨ 5120 ≤ d.val) : wide x g w q k (ix2 r d) = entry x g w r d := by
  rw [entry_eq x g w r d _ rfl]
  pointwise [wide]
  by_cases h1 : d.val < 3072
  · rw [dif_pos h1]
    exact congrArg (fun e => projected x g w (ix2 r e)) (Fin.ext (by unfold column; rw [dif_pos h1]; dsimp only; omega))
  · rw [dif_neg h1, dif_neg (by omega), dif_neg (by omega)]
    exact congrArg (fun e => projected x g w (ix2 r e)) (Fin.ext (by unfold column; rw [dif_neg h1]; dsimp only; omega))

/-- The wide result at the queries and keys. -/
theorem wide_headed (x : FVec Ideal S32768x1024 .f32) (g : FVec Ideal S1024 .f32) (w : FVec Ideal S1024x8224 .f32) (q k : FVec Ideal S64 .f32)
    (r : Fin 32768) (d : Fin 8192) (h : 3072 ≤ d.val ∧ d.val < 5120) : wide x g w q k (ix2 r d)
      = entry x g w r d * headScale (∑ j : Fin 64, entry x g w r ⟨64 * (d.val / 64) + j.val, by omega⟩ * entry x g w r ⟨64 * (d.val / 64) + j.val, by omega⟩)
        * gainAt q k d.val := by
  have hc : ∀ e : Fin 8192, 3072 ≤ e.val → column e = ⟨e.val - 3072, by omega⟩ := fun e he => by unfold column; rw [dif_neg (by omega)]
  rw [entry_eq x g w r d _ (hc d h.1), Finset.sum_congr rfl fun (j : Fin 64) _ => by
    rw [entry_eq x g w r ⟨64 * (d.val / 64) + j.val, by omega⟩ _ (hc _ (by dsimp only; omega))]]
  unfold gainAt
  by_cases h1 : d.val < 4096
  · rw [if_pos h1]
    refine Eq.trans (b := queries (projected x g w) q (ix2 r ⟨d.val - 3072, by omega⟩)) ?_ ((queries_apply _ q r _).trans ?_)
    · pointwise [wide]
      rw [dif_neg (by omega), dif_pos (by omega)]
    · have e1 : ∀ j : Fin 64, 64 * ((d.val - 3072) / 64) + j.val = 64 * (d.val / 64) + j.val - 3072 := fun j => by omega
      have e2 : (d.val - 3072) % 64 = d.val % 64 := by omega
      simp only [e1, e2]
  · rw [if_neg h1]
    refine Eq.trans (b := keys (projected x g w) k (ix2 r ⟨d.val - 4096, by omega⟩)) ?_ ((keys_apply _ k r _).trans ?_)
    · pointwise [wide]
      rw [dif_neg (by omega), dif_neg (by omega), dif_pos (by omega)]
      exact congrArg (fun e => keys (projected x g w) k (ix2 r e)) (Fin.ext (by dsimp only; omega))
    · have e0 : 1024 + (d.val - 4096) = d.val - 3072 := by omega
      have e1 : ∀ j : Fin 64, 1024 + (64 * ((d.val - 4096) / 64) + j.val) = 64 * (d.val / 64) + j.val - 3072 := fun j => by omega
      have e2 : (d.val - 4096) % 64 = d.val % 64 := by omega
      simp only [e0, e1, e2]

/-- The columns of the time steps, the even heads' first. -/
def steps (p : FVec Ideal S32768x8224 .f32) : FVec Ideal S32768x32 .f32 :=
  concatenate S32768x32 1
    [⟨S32768x16, Host.slice S32768x16 ![0, 0] ![1, 2] (extractStridedSlice S32768x32 ![0, 8192] p slices_S32768x8224_S32768x32_0_8192) slicesBy_S32768x32_S32768x16_0s1_0s2⟩,
      ⟨S32768x16, Host.slice S32768x16 ![0, 1] ![1, 2] (extractStridedSlice S32768x32 ![0, 8192] p slices_S32768x8224_S32768x32_0_8192) slicesBy_S32768x32_S32768x16_0s1_1s2⟩]
    concatenates_S32768x16_S32768x16_S32768x32_d1

/-- The second result: those columns twice, and zeros. -/
def gates (x : FVec Ideal S32768x1024 .f32) (g : FVec Ideal S1024 .f32) (w : FVec Ideal S1024x8224 .f32) : FVec Ideal S32768x128 .f32 :=
  concatenate S32768x128 1
    [⟨S32768x32, steps (projected x g w)⟩, ⟨S32768x32, steps (projected x g w)⟩,
      ⟨S32768x64, broadcastInDim S32768x64 ![] bcast_S_S32768x64 (constant S_ .f32 0x00000000#32)⟩]
    concatenates_S32768x32_S32768x32_S32768x64_S32768x128_d1

/-- The column of the weights that a step's lane reads. -/
def stepColumn (l : ℕ) : Fin 8224 := if h : l % 32 < 16 then ⟨8192 + 2 * (l % 32), by omega⟩ else ⟨8193 + 2 * (l % 32 - 16), by omega⟩

/-- The weight of a lane. -/
def lane (w : FVec Ideal S1024x8224 .f32) (k : Fin 1024) (l : Fin 128) : EReal :=
  if l.val < 64 then w (ix2 k (stepColumn l.val)) else 0

theorem steps_apply (p : FVec Ideal S32768x8224 .f32) (r : Fin 32768) (l : Fin 32) : steps p (ix2 r l) = p (ix2 r (stepColumn l.val)) := by
  pointwise [steps, stepColumn]
  by_cases h : l.val < 16
  · rw [dif_pos h, dif_pos (by omega)]
    exact congrArg (fun e => p (ix2 r e)) (Fin.ext (by dsimp only; omega))
  · rw [dif_neg h, dif_neg (by omega)]
    exact congrArg (fun e => p (ix2 r e)) (Fin.ext (by dsimp only; omega))

theorem gates_apply (x : FVec Ideal S32768x1024 .f32) (g : FVec Ideal S1024 .f32) (w : FVec Ideal S1024x8224 .f32) (r : Fin 32768) (l : Fin 128) :
    gates x g w (ix2 r l) = ∑ k : Fin 1024, normed x g (ix2 r k) * lane w k l := by
  unfold lane
  by_cases h : l.val < 64
  · simp only [if_pos h]
    rw [← projected_apply]
    by_cases h' : l.val < 32
    · refine Eq.trans (b := steps (projected x g w) (ix2 r ⟨l.val, h'⟩)) ?_ (steps_apply _ r _)
      pointwise [gates]
      rw [dif_pos h']
    · refine Eq.trans (b := steps (projected x g w) (ix2 r ⟨l.val - 32, by omega⟩)) ?_ ((steps_apply _ r _).trans ?_)
      · pointwise [gates]
        rw [dif_neg h', dif_pos (by omega)]
      · have e : (l.val - 32) % 32 = l.val % 32 := by omega
        unfold stepColumn
        simp only [e]
  · simp only [if_neg h, mul_zero, Finset.sum_const_zero]
    pointwise [gates]
    rw [dif_neg (by omega), dif_neg (by omega)]

end Cert.Reference6Ideal.Norm

end

end
-- ==== Proof.NormOddValue.lean ====
module

public import proofs.«01_k».proof.Proof.NormOdd
public import proofs.«01_k».proof.Proof.RefOdd
public import proofs.«01_k».proof.Proof.Softmax

@[expose] public section

set_option maxRecDepth 16384

noncomputable section

namespace Cert.Kernel6Ideal.Norm

open Cert.Kernel6Ideal Cert.Kernel6Ideal.Gen Idealize.ShloMosaic Idealize.ShloMosaic.TcCoe Idealize.SL.Sem
open Idealize.ShloMosaic.Pipeline (Dat)
open Cert.Reference5Ideal.Norm (scale normed_real normed normed_apply square_nonneg)
open Cert.Reference6Ideal.Norm (headScale column stepColumn lane gainAt entry wide_plain wide_headed gates_apply)

theorem pay1_apply (x : FVec Ideal S1024x1024 .f32) (g : FVec Ideal S1x1024 .f32) (r k : Fin 1024) :
    k0_pay1 (F := Ideal) x g (ix2 r k) = x (ix2 r k) * scale (∑ j : Fin 1024, x (ix2 r j) * x (ix2 r j)) * g (ix2 0 k) := by
  pointwise [k0_pay1, scale]

theorem pay2_apply (x : FVec Ideal S1024x1024 .f32) (g : FVec Ideal S1x1024 .f32) (r k : Fin 1024) :
    k0_pay2 (F := Ideal) x g (ix2 r k) = k0_pay1 (F := Ideal) x g (ix2 r k) := by
  pointwise [k0_pay2]

theorem pay3_apply (x : FVec Ideal S1024x1024 .f32) (g : FVec Ideal S1x1024 .f32) (r k : Fin 1024) :
    k0_pay3 (F := Ideal) x g (ix2 r k) = k0_pay1 (F := Ideal) x g (ix2 r k) := by
  pointwise [k0_pay3, k0_pay2]

theorem product_apply (h : FVec Ideal S1024x1024 .bf16) (w : FVec Ideal S1024x1024 .bf16) (r : Fin 1024) (d : Fin 1024) :
    k0_pay5 (F := Ideal) h w (ix2 r d) = ∑ k : Fin 1024, h (ix2 r k) * w (ix2 k d) := by
  pointwise [k0_pay5]

theorem pay4_apply (x : FVec Ideal S1024x1024 .f32) (g : FVec Ideal S1x1024 .f32) (w : FVec Ideal S1024x256 .bf16) (r : Fin 1024) (l : Fin 128) :
    k0_pay4 (F := Ideal) x g w w (ix2 r l)
      = ((∑ k : Fin 1024, k0_pay1 (F := Ideal) x g (ix2 r k) * w (ix2 k ⟨l.val, by omega⟩))
          + ∑ k : Fin 1024, (k0_pay1 (F := Ideal) x g (ix2 r k) - k0_pay1 (F := Ideal) x g (ix2 r k)) * w (ix2 k ⟨l.val, by omega⟩))
        + ((∑ k : Fin 1024, k0_pay1 (F := Ideal) x g (ix2 r k) * w (ix2 k ⟨128 + l.val, by omega⟩))
          + ∑ k : Fin 1024, (k0_pay1 (F := Ideal) x g (ix2 r k) - k0_pay1 (F := Ideal) x g (ix2 r k)) * w (ix2 k ⟨128 + l.val, by omega⟩)) := by
  pointwise [k0_pay4, k0_pay2]

theorem pay7_apply (h : FVec Ideal S1024x1024 .bf16) (w : FVec Ideal S1024x1024 .bf16) (r : Fin 1024) (d : Fin 1024) :
    k0_pay7 (F := Ideal) h w (ix2 r d) = ∑ k : Fin 1024, h (ix2 r k) * w (ix2 k d) := by
  refine Eq.trans ?_ (product_apply h w r d)
  pointwise [k0_pay7]

/-! The head norms: a product with a matrix that averages over the lanes of a head. -/

theorem sixtyFour : Ideal.ofBits .f32 0x42800000#32 = ((64 : ℝ) : EReal) := by
  simp [Ideal.ofBits, Ideal.ieee, -EReal.coe_mul]
  norm_num

theorem sixtyFourth : Ideal.ofBits .f32 0x3C800000#32 = (((64 : ℝ)⁻¹ : ℝ) : EReal) := by
  simp [Ideal.ofBits, Ideal.ieee, -EReal.coe_mul]
  norm_num

/-- A sum of weighted terms that are not negative is the weighted sum. -/
theorem sum_scaled {n : ℕ} (f : Fin n → EReal) (hf : ∀ i, 0 ≤ f i) (q : ℝ) : (∑ i, f i * (q : EReal)) = (∑ i, f i) * (q : EReal) := by
  have h : ∀ s : Finset (Fin n), (∑ i ∈ s, f i * (q : EReal)) = (∑ i ∈ s, f i) * (q : EReal) := fun s => by
    induction s using Finset.induction_on with
    | empty => simp
    | insert a s ha ih =>
      rw [Finset.sum_insert ha, Finset.sum_insert ha, ih, EReal.right_distrib_of_nonneg (hf a) (Finset.sum_nonneg fun i _ => hf i)]
  exact h _

/-- A sum over 64 lanes, each times a 64th, is the sum divided by 64. -/
theorem mean_eq (f : Fin 64 → EReal) (hf : ∀ i, 0 ≤ f i) :
    (∑ i, f i * Ideal.ofBits .f32 0x3C800000#32) = Ideal.div (∑ i, f i) (Ideal.ofBits .f32 0x42800000#32) := by
  rw [sixtyFour, sixtyFourth, sum_scaled f hf]
  unfold Ideal.div
  rw [if_neg (by norm_num), ← EReal.coe_inv]

theorem upper_bit (i : Fin 128) : IntOp.cmpi .sge (BitVec.ofNat 32 i.val) 64#32 = BitVec.ofBool (decide (64 ≤ i.val)) := by
  revert i; decide +kernel

/-- The averaging matrix: a 64th within a head, zero between heads. -/
theorem averaging_apply (i j : Fin 128) : k0_pay8 (F := Ideal) (ix2 i j) = if i.val / 64 = j.val / 64 then Ideal.ofBits .f32 0x3C800000#32 else 0 := by
  pointwise [k0_pay8]
  by_cases hi : 64 ≤ i.val <;> by_cases hj : 64 ≤ j.val
  all_goals first
    | rw [if_pos (by omega)]; simp [Scalar.select, Scalar.cmpi, upper_bit, hi, hj]; exact fun h => absurd (by decide) h
    | rw [if_neg (by omega)]; simp [Scalar.select, Scalar.cmpi, upper_bit, hi, hj, Ideal.ofBits, Ideal.ieee]; decide

/-- A pair of heads normed and multiplied by its row of gains. -/
def pairTile (b : FVec Ideal S1024x128 .f32) (o : FVec Ideal S1x128 .f32) : FVec Ideal S1024x128 .bf16 :=
  truncf .bf16 (mulf (mulf b (rsqrt (addf (matmul dot_S1024x128_S128x128_S1024x128_1_0_0_1_n_n none (truncf .bf16 (mulf b b) bitsLt_bf16_f32)
      (k0_pay8 (F := Ideal)) (constant S1024x128 .f32 0x00000000#32)) (broadcast S1024x128 (Scalar.ofBits .f32 0x358637BD#32)))))
    (broadcastTo S1024x128 (shapeCast S1x128 o shapeCasts_S1x128_S1x128) broadcasts_S1x128_S1024x128)) bitsLt_bf16_f32

theorem pairTile_apply (b : FVec Ideal S1024x128 .f32) (o : FVec Ideal S1x128 .f32) (r : Fin 1024) (l : Fin 128) :
    pairTile b o (ix2 r l) = b (ix2 r l)
      * headScale (∑ j : Fin 64, b (ix2 r ⟨64 * (l.val / 64) + j.val, by omega⟩) * b (ix2 r ⟨64 * (l.val / 64) + j.val, by omega⟩)) * o (ix2 0 l) := by
  have h : pairTile b o (ix2 r l) = b (ix2 r l) * Ideal.rsqrt ((∑ d : Fin 128, (b (ix2 r d) * b (ix2 r d)) * k0_pay8 (F := Ideal) (ix2 d l))
      + Ideal.ofBits .f32 0x358637BD#32) * o (ix2 0 l) := by
    pointwise [pairTile]
  rw [h]
  unfold headScale
  rw [← mean_eq _ fun i => square_nonneg _]
  refine congrArg (fun s => b (ix2 r l) * Ideal.rsqrt (s + Ideal.ofBits .f32 0x358637BD#32) * o (ix2 0 l)) ?_
  refine (Finset.sum_congr rfl fun d _ => congrArg (fun q => (b (ix2 r d) * b (ix2 r d)) * q) (averaging_apply d l)).trans ?_
  exact Cert.Softmax.sum_half ⟨l.val / 64, by omega⟩ (fun d => b (ix2 r d) * b (ix2 r d)) (fun _ => Ideal.ofBits .f32 0x3C800000#32)

/-- A tile of the product where heads are normed. -/
def normedHeads (p : FVec Ideal S1024x1024 .f32) (o : Vec Ideal S1x1024 .f32) (r d : Fin 1024) : EReal :=
  p (ix2 r d) * headScale (∑ j : Fin 64, p (ix2 r ⟨64 * (d.val / 64) + j.val, by omega⟩) * p (ix2 r ⟨64 * (d.val / 64) + j.val, by omega⟩)) * o (ix2 0 d)

/-- One stored piece of it. -/
theorem piece_apply (p : FVec Ideal S1024x1024 .f32) (o : Vec Ideal S1x1024 .f32) (b : ℕ) (hb : b % 128 = 0) (hb' : b + 128 ≤ 1024)
    (hs : S1024x1024.Slices ![0, b] S1024x128) (inb : ∀ a, (![0, b] : Fin 2 → Nat) a + S1x128.size a ≤ S1x1024.size a) (r : Fin 1024) (l : Fin 128) :
    pairTile (extractStridedSlice S1024x128 ![0, b] p hs) (View.ld o (Rect.unit (s := S1x1024) ![0, b] S1x128.size inb)) (ix2 r l)
      = normedHeads p o r ⟨b + l.val, by omega⟩ := by
  have hp : ∀ e : Fin 128, extractStridedSlice S1024x128 ![0, b] p hs (ix2 r e) = p (ix2 r ⟨b + e.val, by omega⟩) := fun e => by
    pointwise []
  have ho : View.ld o (Rect.unit (s := S1x1024) ![0, b] S1x128.size inb) (ix2 0 l) = o (ix2 0 ⟨b + l.val, by omega⟩) := by
    refine congrArg o (funext fun a => Fin.ext ?_)
    match a with
    | ⟨0, _⟩ => rfl
    | ⟨1, _⟩ => show b + 1 * l.val = b + l.val; omega
  have e1 : ∀ j : Fin 64, b + (64 * (l.val / 64) + j.val) = 64 * ((b + l.val) / 64) + j.val := fun j => by omega
  rw [pairTile_apply]
  unfold normedHeads
  refine congrArg₂ (· * ·) ?_ ho
  simp only [hp, e1]

/-- The tile stored piece by piece is that tile. -/
theorem headed_apply (h w : Vec Ideal S1024x1024 .bf16) (o : Vec Ideal S1x1024 .f32) (r d : Fin 1024) :
    headed (F := Ideal) h w o (ix2 r d) = normedHeads (k0_pay5 h w) o r d := by
  have h1 : View.ld (Val := Elt Ideal) h rRows = h := View.ld_unit_zero (by decide) _ h
  have h2 : View.ld (Val := Elt Ideal) w rRows = w := View.ld_unit_zero (by decide) _ w
  unfold headed
  rw [h1, h2]
  refine (View.canon_apply_of_pieces (fun y : S1024x1024.Idx => normedHeads (k0_pay5 (F := Ideal) h w) o (y 0) (y 1)) _ ?_ _ (coverPairs _ _ _)).trans rfl
  generalize k0_pay5 (F := Ideal) h w = p
  intro q hq
  simp only [pieces, List.mem_cons, List.not_mem_nil, or_false] at hq
  rcases hq with rfl | rfl | rfl | rfl | rfl | rfl | rfl | rfl <;> intro x <;> idx_vars x
  · refine (piece_apply p o 896 (by decide) (by decide) slices_S1024x1024_o0_896_S1024x128 inb_S1x1024_S1x128_0_896 x0 x1).trans ?_
    exact congrArg₂ (normedHeads p o) (Fin.ext (by blk_simp)) (Fin.ext (by blk_simp))
  · refine (piece_apply p o 768 (by decide) (by decide) slices_S1024x1024_o0_768_S1024x128 inb_S1x1024_S1x128_0_768 x0 x1).trans ?_
    exact congrArg₂ (normedHeads p o) (Fin.ext (by blk_simp)) (Fin.ext (by blk_simp))
  · refine (piece_apply p o 640 (by decide) (by decide) slices_S1024x1024_o0_640_S1024x128 inb_S1x1024_S1x128_0_640 x0 x1).trans ?_
    exact congrArg₂ (normedHeads p o) (Fin.ext (by blk_simp)) (Fin.ext (by blk_simp))
  · refine (piece_apply p o 512 (by decide) (by decide) slices_S1024x1024_o0_512_S1024x128 inb_S1x1024_S1x128_0_512 x0 x1).trans ?_
    exact congrArg₂ (normedHeads p o) (Fin.ext (by blk_simp)) (Fin.ext (by blk_simp))
  · refine (piece_apply p o 384 (by decide) (by decide) slices_S1024x1024_o0_384_S1024x128 inb_S1x1024_S1x128_0_384 x0 x1).trans ?_
    exact congrArg₂ (normedHeads p o) (Fin.ext (by blk_simp)) (Fin.ext (by blk_simp))
  · refine (piece_apply p o 256 (by decide) (by decide) slices_S1024x1024_o0_256_S1024x128 inb_S1x1024_S1x128_0_256 x0 x1).trans ?_
    exact congrArg₂ (normedHeads p o) (Fin.ext (by blk_simp)) (Fin.ext (by blk_simp))
  · refine (piece_apply p o 128 (by decide) (by decide) slices_S1024x1024_o0_128_S1024x128 inb_S1x1024_S1x128_0_128 x0 x1).trans ?_
    exact congrArg₂ (normedHeads p o) (Fin.ext (by blk_simp)) (Fin.ext (by blk_simp))
  · refine (piece_apply p o 0 (by decide) (by decide) slices_S1024x1024_o0_0_S1024x128 inb_S1x1024_S1x128_0_0 x0 x1).trans ?_
    exact congrArg₂ (normedHeads p o) (Fin.ext (by blk_simp)) (Fin.ext (by blk_simp))
/-! A load of a whole buffer is the buffer, and a store of a whole buffer leaves what it stored. -/

theorem kept_eq (x : Vec Ideal S1024x1024 .f32) (g : Vec Ideal S1x1024 .f32) : kept (F := Ideal) x g = k0_pay3 x g :=
  (View.canon_unit_zero (by decide) _ _).trans (congrArg₂ (k0_pay3 (F := Ideal)) (View.ld_unit_zero (by decide) _ x) (View.ld_unit_zero (by decide) _ g))

theorem wide_eq (h : Vec Ideal S1024x1024 .bf16) (w : Vec Ideal S1024x1024 .bf16) : wide (F := Ideal) h w = k0_pay7 h w :=
  (View.canon_unit_zero (by decide) _ _).trans (congrArg₂ (k0_pay7 (F := Ideal)) (View.ld_unit_zero (by decide) _ h) (View.ld_unit_zero (by decide) _ w))

theorem gates_eq (x : Vec Ideal S1024x1024 .f32) (g : Vec Ideal S1x1024 .f32) (w : Vec Ideal S1024x256 .bf16) : gates (F := Ideal) x g w = k0_pay4 x g w w := by
  refine (View.canon_unit_zero (by decide) _ _).trans ?_
  rw [show View.ld (Val := Elt Ideal) x rRows = x from View.ld_unit_zero (by decide) _ x,
    show View.ld (Val := Elt Ideal) g rGain = g from View.ld_unit_zero (by decide) _ g,
    show View.ld (Val := Elt Ideal) w rSide = w from View.ld_unit_zero (by decide) _ w]

/-! The arrays the call finds. -/

/-- The gains as a row. -/
def gainRow (g : FVec Ideal S1024 .f32) : FVec Ideal S1x1024 .f32 := shapeCast S1x1024 g shapeCasts_S1024_S1x1024

theorem gainRow_apply (g : FVec Ideal S1024 .f32) (k : Fin 1024) : gainRow g (ix2 0 k) = g (ix1 k) := by
  pointwise [gainRow]

/-- The weights of the wide result, side by side. -/
def big (w : FVec Ideal S1024x8224 .f32) : FVec Ideal S1024x8192 .bf16 :=
  truncf .bf16 (concatenate S1024x8192 1
    [⟨S1024x3072, extractStridedSlice S1024x3072 ![0, 5120] w slices_S1024x8224_S1024x3072_0_5120⟩,
      ⟨S1024x3072, extractStridedSlice S1024x3072 ![0, 0] w slices_S1024x8224_S1024x3072_0_0⟩,
      ⟨S1024x2048, extractStridedSlice S1024x2048 ![0, 3072] w slices_S1024x8224_S1024x2048_0_3072⟩]
    concatenates_S1024x3072_S1024x3072_S1024x2048_S1024x8192_d1) bitsLt_bf16_f32

theorem big_apply (w : FVec Ideal S1024x8224 .f32) (k : Fin 1024) (d : Fin 8192) : big w (ix2 k d) = w (ix2 k (column d)) := by
  pointwise [big, column]
  by_cases h : d.val < 3072
  · rw [dif_pos h, dif_pos h]
    exact congrArg (fun e => w (ix2 k e)) (Fin.ext (by dsimp only; omega))
  · rw [dif_neg h, dif_neg h]
    by_cases h' : d.val - 3072 < 3072
    · rw [dif_pos h']
    · rw [dif_neg h']
      exact congrArg (fun e => w (ix2 k e)) (Fin.ext (by dsimp only; omega))

/-- The corner of an update at the first row and a lane. -/
abbrev starts (l : BitVec 32) : Fin 2 → Int := fun k => BitVec.toInt ((![constantI S_ 32 0#32, constantI S_ 32 l] : Fin 2 → IVec S_ 32) k (Shape.Idx.first h_S_))

/-- A row of 64 gains repeated for every head. -/
def tiled (q : FVec Ideal S64 .f32) : FVec Ideal S1x1024 .f32 :=
  shapeCast S1x1024 (shapeCast S1024 (broadcastInDim S16x64 ![0, 1] bcast_S1x64_S16x64_0_1 (shapeCast S1x64 q shapeCasts_S64_S1x64)) shapeCasts_S16x64_S1024)
    shapeCasts_S1024_S1x1024

theorem tiled_apply (q : FVec Ideal S64 .f32) (d : Fin 1024) : tiled q (ix2 0 d) = q (ix1 ⟨d.val % 64, by omega⟩) := by
  pointwise [tiled]

/-- The row of gains of every column of the wide result. -/
def factors (q k : FVec Ideal S64 .f32) : FVec Ideal S1x8192 .f32 :=
  Host.dynamicUpdateSlice
    (Host.dynamicUpdateSlice (broadcastInDim S1x8192 ![] bcast_S_S1x8192 (constant S_ .f32 0x3F800000#32))
      (tiled (mulf q (broadcastInDim S64 ![] bcast_S_S64 (constant S_ .f32 0x3E000000#32)))) (starts 3072#32) updateFits_S1x8192_S1x1024)
    (tiled k) (starts 4096#32) updateFits_S1x8192_S1x1024

theorem factors_apply (q k : FVec Ideal S64 .f32) (d : Fin 8192) (h : 3072 ≤ d.val ∧ d.val < 5120) : factors q k (ix2 0 d) = gainAt q k d.val := by
  have hq : ∀ e : Fin 1024, tiled (mulf q (broadcastInDim S64 ![] bcast_S_S64 (constant S_ .f32 0x3E000000#32))) (ix2 0 e)
      = q (ix1 ⟨e.val % 64, by omega⟩) * Ideal.ofBits .f32 0x3E000000#32 := fun e => by rw [tiled_apply]; pointwise []
  pointwise [factors]
  have a0 : ∀ h, Host.clampedStart S1x8192 S1x1024 h (starts 4096#32) 0 = 0 := fun _ => rfl
  have a1 : ∀ h, Host.clampedStart S1x8192 S1x1024 h (starts 4096#32) 1 = 4096 := fun _ => rfl
  have b0 : ∀ h, Host.clampedStart S1x8192 S1x1024 h (starts 3072#32) 0 = 0 := fun _ => rfl
  have b1 : ∀ h, Host.clampedStart S1x8192 S1x1024 h (starts 3072#32) 1 = 3072 := fun _ => rfl
  simp only [a0, a1, b0, b1, Nat.zero_le, true_and, Nat.sub_zero, Nat.zero_add]
  unfold gainAt
  by_cases h' : d.val < 4096
  · rw [if_pos h', dif_neg (by omega), dif_pos (by omega)]
    refine (hq _).trans ?_
    exact congrArg (fun e => q (ix1 e) * Ideal.ofBits .f32 0x3E000000#32) (Fin.ext (by dsimp only; omega))
  · rw [if_neg h', dif_pos (by omega)]
    refine (tiled_apply k _).trans ?_
    exact congrArg (fun e => k (ix1 e)) (Fin.ext (by dsimp only; omega))

/-- The columns of the time steps, the even heads' first. -/
def steps (w : FVec Ideal S1024x8224 .f32) : FVec Ideal S1024x32 .f32 :=
  concatenate S1024x32 1
    [⟨S1024x16, Host.slice S1024x16 ![0, 0] ![1, 2] (extractStridedSlice S1024x32 ![0, 8192] w slices_S1024x8224_S1024x32_0_8192) slicesBy_S1024x32_S1024x16_0s1_0s2⟩,
      ⟨S1024x16, Host.slice S1024x16 ![0, 1] ![1, 2] (extractStridedSlice S1024x32 ![0, 8192] w slices_S1024x8224_S1024x32_0_8192) slicesBy_S1024x32_S1024x16_0s1_1s2⟩]
    concatenates_S1024x16_S1024x16_S1024x32_d1

theorem steps_apply (w : FVec Ideal S1024x8224 .f32) (k : Fin 1024) (l : Fin 32) : steps w (ix2 k l) = w (ix2 k (stepColumn l.val)) := by
  pointwise [steps, stepColumn]
  by_cases h : l.val < 16
  · rw [dif_pos h, dif_pos (by omega)]
    exact congrArg (fun e => w (ix2 k e)) (Fin.ext (by dsimp only; omega))
  · rw [dif_neg h, dif_neg (by omega)]
    exact congrArg (fun e => w (ix2 k e)) (Fin.ext (by dsimp only; omega))

/-- Those columns twice. -/
def twice (w : FVec Ideal S1024x8224 .f32) : FVec Ideal S1024x64 .f32 :=
  concatenate S1024x64 1 [⟨S1024x32, steps w⟩, ⟨S1024x32, steps w⟩] concatenates_S1024x32_S1024x32_S1024x64_d1

theorem twice_apply (w : FVec Ideal S1024x8224 .f32) (k : Fin 1024) (l : Fin 64) : twice w (ix2 k l) = w (ix2 k (stepColumn l.val)) := by
  by_cases h : l.val < 32
  · refine Eq.trans (b := steps w (ix2 k ⟨l.val, h⟩)) ?_ (steps_apply w k _)
    pointwise [twice]
    rw [dif_pos h]
  · refine Eq.trans (b := steps w (ix2 k ⟨l.val - 32, by omega⟩)) ?_ ((steps_apply w k _).trans ?_)
    · pointwise [twice]
      rw [dif_neg h]
    · have e : (l.val - 32) % 32 = l.val % 32 := by omega
      unfold stepColumn
      simp only [e]

/-- The time steps' weights in their lanes. -/
def lanes (w : FVec Ideal S1024x8224 .f32) : FVec Ideal S1024x128 .f32 :=
  Host.dynamicUpdateSlice (broadcastInDim S1024x128 ![] bcast_S_S1024x128 (constant S_ .f32 0x00000000#32)) (twice w) (starts 0#32) updateFits_S1024x128_S1024x64

theorem lanes_apply (w : FVec Ideal S1024x8224 .f32) (k : Fin 1024) (l : Fin 128) : lanes w (ix2 k l) = lane w k l := by
  pointwise [lanes]
  have f0 : ∀ h, Host.clampedStart S1024x128 S1024x64 h (starts 0#32) 0 = 0 := fun _ => rfl
  have e0 : ∀ h, Host.clampedStart S1024x128 S1024x64 h (starts 0#32) 1 = 0 := fun _ => rfl
  simp only [f0, e0, Nat.zero_le, true_and, Nat.sub_zero, Nat.zero_add]
  unfold lane
  by_cases h : l.val < 64
  · rw [if_pos h, dif_pos (by omega)]
    exact twice_apply w k ⟨l.val, h⟩
  · rw [if_neg h, dif_neg (by omega)]

/-- The same beside their low parts. -/
def side (w : FVec Ideal S1024x8224 .f32) : FVec Ideal S1024x256 .bf16 :=
  concatenate S1024x256 1
    [⟨S1024x128, truncf .bf16 (lanes w) bitsLt_bf16_f32⟩,
      ⟨S1024x128, truncf .bf16 (subf (lanes w) (extf .f32 (truncf .bf16 (lanes w) bitsLt_bf16_f32 : FVec Ideal S1024x128 .bf16) bitsLt_bf16_f32)) bitsLt_bf16_f32⟩]
    concatenates_S1024x128_S1024x128_S1024x256_d1

theorem side_high (w : FVec Ideal S1024x8224 .f32) (k : Fin 1024) (l : Fin 128) : side w (ix2 k ⟨l.val, by omega⟩) = lane w k l := by
  rw [← lanes_apply]
  pointwise [side]

theorem side_low (w : FVec Ideal S1024x8224 .f32) (k : Fin 1024) (l : Fin 128) : side w (ix2 k ⟨128 + l.val, by omega⟩) = lane w k l - lane w k l := by
  rw [← lanes_apply]
  pointwise [side]

variable (m : (ℓ : Loc nD τ sig) → Buf (Elt Ideal) ℓ) (c : Dev nD)

theorem gainRow_found : V m c main_v30 = gainRow (m ((c : Thread nD τ).loc main_arg1)) := by
  unfold V
  after_results_simp
  rfl

theorem big_found : V m c main_v4 = big (m ((c : Thread nD τ).loc main_arg2)) := by
  unfold V
  after_results_simp
  rfl

/-- The gains of every column once both rows are in place, -/
theorem factors_made : StableHlo.after ((hostOps0 (F := Ideal)).take 34) (fun b => m (c, b)) main_v24
    = factors (m ((c : Thread nD τ).loc main_arg3)) (m ((c : Thread nD τ).loc main_arg4)) := by
  simp only [hostOps0, List.take_succ_cons, List.take_zero]
  after_results_simp_entrywise
  rfl

/-- which the operations after that leave alone. -/
theorem factors_after (W : Valuation τ sig (Elt Ideal)) : StableHlo.after ((hostOps0 (F := Ideal)).drop 34) W main_v24 = W main_v24 := by
  simp only [hostOps0, List.drop_succ_cons, List.drop_zero]
  after_results_simp

theorem factors_found : V m c main_v24 = factors (m ((c : Thread nD τ).loc main_arg3)) (m ((c : Thread nD τ).loc main_arg4)) := by
  unfold V
  rw [← List.take_append_drop 34 (hostOps0 (F := Ideal)), StableHlo.after_append, factors_after]
  exact factors_made m c

/-- The time steps' weights once they are all in their lanes, -/
theorem lanes_found : StableHlo.after ((hostOps0 (F := Ideal)).take 15) (fun b => m (c, b)) main_v11 = lanes (m ((c : Thread nD τ).loc main_arg2)) := by
  simp only [hostOps0, List.take_succ_cons, List.take_zero]
  after_results_simp_entrywise
  rfl

/-- and what the operations after that make of them. -/
theorem side_after (W : Valuation τ sig (Elt Ideal)) (v : FVec Ideal S1024x128 .f32) (h : W main_v11 = v) :
    StableHlo.after ((hostOps0 (F := Ideal)).drop 15) W main_v29
      = concatenate S1024x256 1
        [⟨S1024x128, truncf .bf16 v bitsLt_bf16_f32⟩,
          ⟨S1024x128, truncf .bf16 (subf v (extf .f32 (truncf .bf16 v bitsLt_bf16_f32 : FVec Ideal S1024x128 .bf16) bitsLt_bf16_f32)) bitsLt_bf16_f32⟩]
        concatenates_S1024x128_S1024x128_S1024x256_d1 := by
  subst h
  simp only [hostOps0, List.drop_succ_cons, List.drop_zero]
  after_results_simp
  rfl

theorem side_found : V m c main_v29 = side (m ((c : Thread nD τ).loc main_arg2)) := by
  unfold V
  rw [← List.take_append_drop 15 (hostOps0 (F := Ideal)), StableHlo.after_append]
  exact side_after _ _ (lanes_found m c)

/-- The blocks a position reads and writes. -/
theorem idx : ∀ t : Fin cfg0.N, win0_0.index t = ![t.val / 8, 0] ∧ win0_1.index t = ![0, 0] ∧ win0_2.index t = ![0, t.val % 8]
    ∧ win0_3.index t = ![0, 0] ∧ win0_4.index t = ![0, t.val % 8] ∧ win0_5.index t = ![t.val / 8, t.val % 8] ∧ win0_6.index t = ![t.val / 8, 0] ∧ t.val < 256 :=
  (by decide +kernel : ∀ t : Fin grid0.N, _)

theorem row_idx (t : Fin cfg0.N) : (row t).val / 8 = t.val / 8 := by unfold row; dsimp only; omega

/-- A tile of rows. -/
theorem block0 (t : Fin cfg0.N) (r k : Fin 1024) : iblk m c 0 t (ix2 r k) = m ((c : Thread nD τ).loc main_arg0) (ix2 ⟨1024 * (t.val / 8) + r.val, by have := (idx t).2.2.2.2.2.2.2; omega⟩ k) := by
  rw [← V_main_arg0 m c]
  blk_ext [iblk, idx t]

/-- The same at a row's first position. -/
theorem block0_row (t : Fin cfg0.N) (r k : Fin 1024) : iblk m c 0 (row t) (ix2 r k) = m ((c : Thread nD τ).loc main_arg0) (ix2 ⟨1024 * (t.val / 8) + r.val, by have := (idx t).2.2.2.2.2.2.2; omega⟩ k) := by
  rw [block0]
  exact congrArg (fun i => m ((c : Thread nD τ).loc main_arg0) (ix2 i k)) (Fin.ext (by dsimp only; rw [row_idx]))

/-- The gains at every position. -/
theorem block1 (t : Fin cfg0.N) (k : Fin 1024) : iblk m c 1 t (ix2 0 k) = m ((c : Thread nD τ).loc main_arg1) (ix1 k) := by
  refine Eq.trans ?_ (gainRow_apply (m ((c : Thread nD τ).loc main_arg1)) k)
  rw [← gainRow_found m c]
  blk_ext [iblk, idx t]

/-- A position's columns of the weights. -/
theorem block2 (t : Fin cfg0.N) (k : Fin 1024) (d : Fin 1024) : iblk m c 2 t (ix2 k d)
    = m ((c : Thread nD τ).loc main_arg2) (ix2 k (column ⟨1024 * (t.val % 8) + d.val, by omega⟩)) := by
  refine Eq.trans ?_ (big_apply (m ((c : Thread nD τ).loc main_arg2)) k _)
  rw [← big_found m c]
  blk_ext [iblk, idx t]

/-- The time steps' weights at every position. -/
theorem block3 (t : Fin cfg0.N) (k : Fin 1024) (l : Fin 256) : iblk m c 3 t (ix2 k l) = side (m ((c : Thread nD τ).loc main_arg2)) (ix2 k l) := by
  rw [← side_found m c]
  blk_ext [iblk, idx t]

/-- The tile a row keeps is its rows of the normed stream. -/
theorem pay1_normed (t : Fin cfg0.N) (r k : Fin 1024) :
    k0_pay1 (F := Ideal) (iblk m c 0 (row t)) (iblk m c 1 (row t)) (ix2 r k)
      = normed (m ((c : Thread nD τ).loc main_arg0)) (m ((c : Thread nD τ).loc main_arg1)) (ix2 ⟨1024 * (t.val / 8) + r.val, by have := (idx t).2.2.2.2.2.2.2; omega⟩ k) := by
  refine (pay1_apply _ _ r k).trans (Eq.trans ?_ (normed_apply _ _ _ k).symm)
  refine congrArg₂ (· * ·) (congrArg₂ (· * ·) (block0_row m c t r k) (congrArg scale (Finset.sum_congr rfl fun j _ => ?_))) (block1 m c (row t) k)
  exact congrArg₂ (· * ·) (block0_row m c t r j) (block0_row m c t r j)

theorem keptAt_normed (t : Fin cfg0.N) (r k : Fin 1024) :
    keptAt m c t (ix2 r k)
      = normed (m ((c : Thread nD τ).loc main_arg0)) (m ((c : Thread nD τ).loc main_arg1)) (ix2 ⟨1024 * (t.val / 8) + r.val, by have := (idx t).2.2.2.2.2.2.2; omega⟩ k) := by
  unfold keptAt
  rw [kept_eq]
  exact (pay3_apply _ _ r k).trans (pay1_normed m c t r k)

/-- A position's gains. -/
theorem block4 (t : Fin cfg0.N) (h : t.val % 8 = 3 ∨ t.val % 8 = 4) (d : Fin 1024) : iblk m c 4 t (ix2 0 d)
    = gainAt (m ((c : Thread nD τ).loc main_arg3)) (m ((c : Thread nD τ).loc main_arg4)) (1024 * (t.val % 8) + d.val) := by
  refine Eq.trans ?_ (factors_apply (m ((c : Thread nD τ).loc main_arg3)) (m ((c : Thread nD τ).loc main_arg4)) ⟨1024 * (t.val % 8) + d.val, by omega⟩
    (by dsimp only; omega))
  rw [← factors_found m c]
  blk_ext [iblk, idx t]

/-- A tile of the product. -/
theorem product_entry (t : Fin cfg0.N) (r d : Fin 1024) : k0_pay5 (F := Ideal) (keptAt m c t) (iblk m c 2 t) (ix2 r d)
    = entry (m ((c : Thread nD τ).loc main_arg0)) (m ((c : Thread nD τ).loc main_arg1)) (m ((c : Thread nD τ).loc main_arg2))
      ⟨1024 * (t.val / 8) + r.val, by have := (idx t).2.2.2.2.2.2.2; omega⟩ ⟨1024 * (t.val % 8) + d.val, by omega⟩ :=
  (product_apply _ _ r d).trans (Finset.sum_congr rfl fun k _ => congrArg₂ (· * ·) (keptAt_normed m c t r k) (block2 m c t k d))

/-- After the run the wide result is the reference's. -/
theorem final_wide : (dats m 0 c).arrAt 5 cfg0.N
    = Cert.Reference6Ideal.Norm.wide (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after_5]
  idx_vars y
  have ht := (idx t).2.2.2.2.2.2.2
  unfold wideAt
  by_cases hp : t.val % 8 = 3 ∨ t.val % 8 = 4
  · rw [if_pos hp]
    refine (headed_apply _ _ _ y0 y1).trans ?_
    refine Eq.trans ?_ ((wide_headed (m ((c : Thread nD τ).loc main_arg0)) (m ((c : Thread nD τ).loc main_arg1)) (m ((c : Thread nD τ).loc main_arg2))
      (m ((c : Thread nD τ).loc main_arg3)) (m ((c : Thread nD τ).loc main_arg4))
      ⟨1024 * (t.val / 8) + y0.val, by omega⟩ ⟨1024 * (t.val % 8) + y1.val, by omega⟩ (by dsimp only; omega)).symm.trans ?_)
    · unfold normedHeads
      have e : ∀ j : Fin 64, 64 * ((1024 * (t.val % 8) + y1.val) / 64) + j.val = 1024 * (t.val % 8) + (64 * (y1.val / 64) + j.val) := fun j => by omega
      refine congrArg₂ (· * ·) (congrArg₂ (· * ·) (product_entry m c t y0 y1) (congrArg headScale (Finset.sum_congr rfl fun j _ => ?_))) (block4 m c t hp y1)
      simp only [e]
      exact congrArg₂ (· * ·) (product_entry m c t y0 _) (product_entry m c t y0 _)
    · blk_ext [idx t]
  · rw [if_neg hp, wide_eq]
    refine (pay7_apply _ _ _ _).trans ?_
    refine Eq.trans ?_ ((wide_plain (m ((c : Thread nD τ).loc main_arg0)) (m ((c : Thread nD τ).loc main_arg1)) (m ((c : Thread nD τ).loc main_arg2))
      (m ((c : Thread nD τ).loc main_arg3)) (m ((c : Thread nD τ).loc main_arg4))
      ⟨1024 * (t.val / 8) + y0.val, by omega⟩ ⟨1024 * (t.val % 8) + y1.val, by omega⟩ (by dsimp only; omega)).symm.trans ?_)
    · exact Finset.sum_congr rfl fun k _ => congrArg₂ (· * ·) (keptAt_normed m c t y0 k) (block2 m c t k y1)
    · blk_ext [idx t]

/-- With finite gains and finite time steps' weights the gates' result is the reference's: the low parts are zero. -/
theorem final_gates (hg : ∀ k, ∃ q : ℝ, m ((c : Thread nD τ).loc main_arg1) (ix1 k) = (q : EReal))
    (hw : ∀ k l, ∃ q : ℝ, lane (m ((c : Thread nD τ).loc main_arg2)) k l = (q : EReal)) : (dats m 0 c).arrAt 6 cfg0.N
    = Cert.Reference6Ideal.Norm.gates (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after_6]
  unfold gatesAt
  rw [gates_eq]
  idx_vars y
  have ht := (idx t).2.2.2.2.2.2.2
  refine (pay4_apply _ _ _ _ _).trans ?_
  refine Eq.trans ?_ ((gates_apply (m ((c : Thread nD τ).loc main_arg0)) (m ((c : Thread nD τ).loc main_arg1)) (m ((c : Thread nD τ).loc main_arg2))
    ⟨1024 * (t.val / 8) + y0.val, by omega⟩ y1).symm.trans ?_)
  · have hp : ∀ k, k0_pay1 (F := Ideal) (iblk m c 0 (row t)) (iblk m c 1 (row t)) (ix2 y0 k)
        - k0_pay1 (F := Ideal) (iblk m c 0 (row t)) (iblk m c 1 (row t)) (ix2 y0 k) = 0 := fun k => by
      obtain ⟨q, hq⟩ := normed_real _ _ hg ⟨1024 * (t.val / 8) + y0.val, by omega⟩ k
      rw [pay1_normed, hq, ← EReal.coe_sub, sub_self, EReal.coe_zero]
    have hh : ∀ k, @Eq EReal (iblk m c 3 (row t) (ix2 k ⟨y1.val, by omega⟩)) (lane (m ((c : Thread nD τ).loc main_arg2)) k y1) := fun k =>
      (block3 m c (row t) k _).trans (side_high _ k y1)
    have hl : ∀ k, @Eq EReal (iblk m c 3 (row t) (ix2 k ⟨128 + y1.val, by omega⟩)) 0 := fun k => by
      obtain ⟨q, hq⟩ := hw k y1
      refine (block3 m c (row t) k _).trans ((side_low _ k y1).trans ?_)
      rw [hq, ← EReal.coe_sub, sub_self, EReal.coe_zero]
    refine (congrArg₂ (· + ·) (congrArg₂ (· + ·)
        (Finset.sum_congr rfl fun k _ => congrArg₂ (· * ·) (pay1_normed m c t y0 k) (hh k))
        (Finset.sum_eq_zero fun k _ => by rw [hp, zero_mul]))
      (congrArg₂ (· + ·) (Finset.sum_eq_zero fun k _ => (congrArg₂ (· * ·) rfl (hl k)).trans (mul_zero _))
        (Finset.sum_eq_zero fun k _ => by rw [hp, zero_mul]))).trans ?_
    simp only [add_zero]
  · blk_ext [idx t]

end Cert.Kernel6Ideal.Norm

end

end
-- ==== Proof.lean ====
/- The proof of this directory's `Cert.Claim`: the runs of the kernel and of the reference, their arguments and
   semaphores, and the equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Final
public import proofs.«01_k».proof.Proof.Finite
public import proofs.«01_k».proof.Proof.Gen.Reference2Ideal.Run
public import proofs.«01_k».proof.Proof.Experts
public import proofs.«01_k».proof.Proof.ExpertsBits
public import proofs.«01_k».proof.Proof.Ref2
public import proofs.«01_k».proof.Proof.Tiles
public import proofs.«01_k».proof.Proof.OutEven
public import proofs.«01_k».proof.Proof.OutOdd
public import proofs.«01_k».proof.Proof.NormEven
public import proofs.«01_k».proof.Proof.NormEvenBits
public import proofs.«01_k».proof.Proof.NormEvenValue
public import proofs.«01_k».proof.Proof.NormOdd
public import proofs.«01_k».proof.Proof.NormOddBits
public import proofs.«01_k».proof.Proof.NormOddValue
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import proofs.«01_k».proof.Proof.Gen.Pre_finite_gates
public import proofs.«01_k».proof.Proof.Gen.Pre_finite_steps
public import Idealize.ShloMosaic.Adequacy
public import Idealize.ShloMosaic.Init

@[expose] public section

noncomputable section

namespace Cert.Proof

open Idealize.ShloMosaic Idealize.SL.Sem

/-- The reference runs, leaves its arguments as they were, and has no semaphore that could end above zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- On finite queries, keys and biases the kernel's result is the reference's: the banded attention of the same four
    arrays. -/
theorem values_agree (hp : Cert.Pre_finite_inputs.Facts) :
    Cert.algebraic_KernelIdeal_ReferenceIdeal_pre_finite_inputs (hPre_finite_inputs := hp) := by
  intro m g m' g' hpre hagree
  refine ⟨fun c => Cert.ReferenceIdeal.Band.attention (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg5)), ?_, ?_⟩
  · refine (θ_run Cert.KernelIdeal.defs _ _).mono (fun r h c => ⟨(h c).1.trans ?_, (h c).2⟩) (Cert.KernelIdeal.Value.run_blocks m g)
    exact Cert.KernelIdeal.Band.final m c
      (Cert.Pre_finite_inputs.real_of_ones _ _ (hpre c).1) (Cert.Pre_finite_inputs.real_of_ones _ _ (hpre c).2.1)
      (Cert.Pre_finite_inputs.real_of_ones _ _ (hpre c).2.2)
  · refine (θ_run Cert.ReferenceIdeal.defs _ _).mono (fun r h c => ⟨(h c).1.trans ?_, (h c).2⟩) (Cert.ReferenceIdeal.Value.run m' g')
    obtain ⟨_, h1, h2, h3, _, h5⟩ := hagree c
    refine (Cert.ReferenceIdeal.Band.result_eq m' c).trans ?_
    rw [h1, h2, h3, h5]

/-- The experts' reference runs, leaves its arguments as they were, and has no semaphore that could end above zero. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- On a table that names only the four groups the kernel's result is the reference's: every row of a used block times
    the experts of its block's group, and zero beyond the used blocks. -/
theorem values_agree2 : Cert.algebraic_Kernel2Ideal_Reference2Ideal (hKernel2Ideal := Cert.Kernel2Ideal.Gen.facts)
    (hReference2Ideal := Cert.Reference2Ideal.Gen.facts) (hPre_groups_exist := Cert.Pre_groups_exist.Gen.facts) := by
  intro m g m' g' hpre hagree
  have hok := Cert.Kernel2Ideal.Experts.ok_of_pre m hpre
  refine ⟨fun c => Cert.Kernel2Ideal.Experts.layer m c, ?_, ?_⟩
  · refine (θ_run Cert.Kernel2Ideal.defs _ _).mono (fun r h c => ?_) (Cert.Kernel2Ideal.Experts.run m g hok)
    obtain rfl : c = 0 := Subsingleton.elim _ _
    exact ⟨((h.1 0).1 (4 : Fin 5)).trans
        (Cert.Kernel2Ideal.Experts.final m g hok (fun x => Cert.Kernel2Ideal.Experts.named _ _ _ _ _ _ (hpre 0) x) 0),
      (h.1 0).2 0, (h.1 0).2 1,
      ((h.1 0).1 (0 : Fin 5)).trans ((Cert.Kernel2Ideal.Experts.data m g hok 0 0).arrAt_in (0 : Fin 5) rfl _),
      ((h.1 0).1 (1 : Fin 5)).trans ((Cert.Kernel2Ideal.Experts.data m g hok 0 0).arrAt_in (1 : Fin 5) rfl _),
      ((h.1 0).1 (2 : Fin 5)).trans ((Cert.Kernel2Ideal.Experts.data m g hok 0 0).arrAt_in (2 : Fin 5) rfl _),
      ((h.1 0).1 (3 : Fin 5)).trans ((Cert.Kernel2Ideal.Experts.data m g hok 0 0).arrAt_in (3 : Fin 5) rfl _)⟩
  · refine (θ_run Cert.Reference2Ideal.defs _ _).mono (fun r h c => ⟨(h c).1.trans ?_, (h c).2⟩) (Cert.Reference2Ideal.Value.run m' g')
    obtain ⟨h0, h1, h2, h3, h4, h5⟩ := hagree c
    refine (Cert.Reference2Ideal.Experts.result_eq m' c).trans ?_
    rw [h0, h1, h2, h3, h4, h5]

/-- The first layer's output projection's reference runs, leaves its arguments as they were, and has no semaphore that could
    end above zero. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

/-- The first layer's output projection: the kernel's result is the reference's, on all arguments. -/
theorem values_agree3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Reference3Ideal.Out.projected (m ((c.tc : Thread _ _).loc Cert.Kernel3Ideal.main_arg0))
      (m ((c.tc : Thread _ _).loc Cert.Kernel3Ideal.main_arg1)) (m ((c.tc : Thread _ _).loc Cert.Kernel3Ideal.main_arg2))
      (m ((c.tc : Thread _ _).loc Cert.Kernel3Ideal.main_arg3)), ?_, ?_⟩
  · exact (θ_run Cert.Kernel3Ideal.defs _ _).mono (fun r h c => ⟨(h c).1.trans (Cert.Kernel3Ideal.Out.final m c), (h c).2⟩)
      (Cert.Kernel3Ideal.Value.run_blocks m g)
  · refine (θ_run Cert.Reference3Ideal.defs _ _).mono (fun r h c => ⟨(h c).1.trans ?_, (h c).2⟩) (Cert.Reference3Ideal.Value.run m' g')
    obtain ⟨h0, h1, h2, h3⟩ := hagree c
    rw [h0, h1, h2, h3]
    rfl

/-- The second layer's output projection's reference runs, leaves its arguments as they were, and has no semaphore that could
    end above zero. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

/-- The second layer's output projection: the kernel's result is the reference's, on all arguments. -/
theorem values_agree4 : Cert.algebraic_Kernel4Ideal_Reference4Ideal (hKernel4Ideal := Cert.Kernel4Ideal.Gen.facts)
    (hReference4Ideal := Cert.Reference4Ideal.Gen.facts) := by
  intro m g m' g' _ hagree
  refine ⟨fun c => Cert.Reference4Ideal.Out.projected (m ((c.tc : Thread _ _).loc Cert.Kernel4Ideal.main_arg0))
      (m ((c.tc : Thread _ _).loc Cert.Kernel4Ideal.main_arg1)) (m ((c.tc : Thread _ _).loc Cert.Kernel4Ideal.main_arg2))
      (m ((c.tc : Thread _ _).loc Cert.Kernel4Ideal.main_arg3)), ?_, ?_⟩
  · exact (θ_run Cert.Kernel4Ideal.defs _ _).mono (fun r h c => ⟨(h c).1.trans (Cert.Kernel4Ideal.Out.final m c), (h c).2⟩)
      (Cert.Kernel4Ideal.Value.run_blocks m g)
  · refine (θ_run Cert.Reference4Ideal.defs _ _).mono (fun r h c => ⟨(h c).1.trans ?_, (h c).2⟩) (Cert.Reference4Ideal.Value.run m' g')
    obtain ⟨h0, h1, h2, h3⟩ := hagree c
    rw [h0, h1, h2, h3]
    rfl

/-- The first mixer's input projection: the reference runs, leaves its arguments as they were, and has no semaphore that
    could end above zero. -/
theorem frame_reference5 : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run m ρ)

/-- The precondition makes every gain a real number. -/
theorem gain_real (m : (ℓ : Loc Cert.Kernel5Ideal.nD Cert.Kernel5Ideal.τ Cert.Kernel5Ideal.sig) → Buf (Elt Ideal) ℓ)
    (h : Cert.Pre_Kernel5Ideal_finite_gates (hPre_finite_gates := Cert.Pre_finite_gates.Gen.facts) m)
    (c : Dev Cert.Kernel5Ideal.nD) (k : Fin 1024) :
    ∃ q : ℝ, m ((c.tc : Thread _ _).loc Cert.Kernel5Ideal.main_arg1) (ix1 k) = (q : EReal) :=
  Cert.Pre_finite_inputs.real_of_ones _ _ (h c).1 (ix1 k)

/-- The precondition makes every weight of a lane a real number. -/
theorem lane_real (m : (ℓ : Loc Cert.Kernel5Ideal.nD Cert.Kernel5Ideal.τ Cert.Kernel5Ideal.sig) → Buf (Elt Ideal) ℓ)
    (h : Cert.Pre_Kernel5Ideal_finite_gates (hPre_finite_gates := Cert.Pre_finite_gates.Gen.facts) m)
    (c : Dev Cert.Kernel5Ideal.nD) (k : Fin 1024) (l : Fin 128) :
    ∃ q : ℝ, Cert.Reference5Ideal.Norm.lane (m ((c.tc : Thread _ _).loc Cert.Kernel5Ideal.main_arg2)) k l = (q : EReal) := by
  unfold Cert.Reference5Ideal.Norm.lane
  by_cases h8 : l.val < 8
  · rw [dif_pos h8]
    obtain ⟨q, hq⟩ := Cert.Pre_finite_inputs.real_of_ones _ _ (h c).2.1 (ix2 k ⟨l.val, h8⟩)
    refine ⟨q, Eq.trans ?_ hq⟩
    pointwise []
  · rw [dif_neg h8]
    by_cases h16 : 16 ≤ l.val ∧ l.val < 32
    · rw [dif_pos h16]
      obtain ⟨q, hq⟩ := Cert.Pre_finite_inputs.real_of_ones _ _ (h c).2.2 (ix2 k ⟨l.val - 16, by omega⟩)
      refine ⟨q, Eq.trans ?_ hq⟩
      pointwise []
      exact congrArg (fun e => m ((c.tc : Thread _ _).loc Cert.Kernel5Ideal.main_arg2) (ix2 k e)) (Fin.ext (by dsimp only; omega))
    · exact ⟨0, by rw [dif_neg h16]; rfl⟩

/-- The first mixer's input projection: both results of the kernel are the reference's, where gains and gates' weights
    are finite. -/
theorem values_agree5 : Cert.algebraic_Kernel5Ideal_Reference5Ideal_pre_finite_gates
    (hKernel5Ideal := Cert.Kernel5Ideal.Gen.facts) (hReference5Ideal := Cert.Reference5Ideal.Gen.facts)
    (hPre_finite_gates := Cert.Pre_finite_gates.Gen.facts) := by
  intro m g m' g' hpre hagree
  refine ⟨fun c => Cert.Reference5Ideal.Norm.wide (m ((c.tc : Thread _ _).loc Cert.Kernel5Ideal.main_arg0))
      (m ((c.tc : Thread _ _).loc Cert.Kernel5Ideal.main_arg1)) (m ((c.tc : Thread _ _).loc Cert.Kernel5Ideal.main_arg2)),
    fun c => Cert.Reference5Ideal.Norm.gates (m ((c.tc : Thread _ _).loc Cert.Kernel5Ideal.main_arg0))
      (m ((c.tc : Thread _ _).loc Cert.Kernel5Ideal.main_arg1)) (m ((c.tc : Thread _ _).loc Cert.Kernel5Ideal.main_arg2)), ?_, ?_⟩
  · exact (θ_run Cert.Kernel5Ideal.defs _ _).mono
      (fun r h c => ⟨((h.1.1 c).1 5).trans (Cert.Kernel5Ideal.Norm.final_wide m c),
        ((h.1.1 c).1 6).trans (Cert.Kernel5Ideal.Norm.final_gates m c (gain_real m hpre c) (lane_real m hpre c)), h.2.1 c⟩)
      (θ_run_and (Cert.Kernel5Ideal.Norm.run m g) (Cert.Kernel5Ideal.Norm.unchanged m g))
  · refine (θ_run Cert.Reference5Ideal.defs _ _).mono (fun r h c => ⟨(h c).1.trans ?_, (h c).2.1.trans ?_, (h c).2.2⟩)
      (Cert.Reference5Ideal.Value.run m' g')
    · obtain ⟨h0, h1, h2⟩ := hagree c
      rw [h0, h1, h2]
      rfl
    · obtain ⟨h0, h1, h2⟩ := hagree c
      rw [h0, h1, h2]
      rfl

/-- The second mixer's input projection: the reference runs, leaves its arguments as they were, and has no semaphore that
    could end above zero. -/
theorem frame_reference6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run m ρ)

/-- The precondition makes every gain of the second mixer's norm a real number. -/
theorem gain_real6 (m : (ℓ : Loc Cert.Kernel6Ideal.nD Cert.Kernel6Ideal.τ Cert.Kernel6Ideal.sig) → Buf (Elt Ideal) ℓ)
    (h : Cert.Pre_Kernel6Ideal_finite_steps (hPre_finite_steps := Cert.Pre_finite_steps.Gen.facts) m)
    (c : Dev Cert.Kernel6Ideal.nD) (k : Fin 1024) :
    ∃ q : ℝ, m ((c.tc : Thread _ _).loc Cert.Kernel6Ideal.main_arg1) (ix1 k) = (q : EReal) :=
  Cert.Pre_finite_inputs.real_of_ones _ _ (h c).1 (ix1 k)

/-- The precondition makes every time step's weight of a lane a real number. -/
theorem lane_real6 (m : (ℓ : Loc Cert.Kernel6Ideal.nD Cert.Kernel6Ideal.τ Cert.Kernel6Ideal.sig) → Buf (Elt Ideal) ℓ)
    (h : Cert.Pre_Kernel6Ideal_finite_steps (hPre_finite_steps := Cert.Pre_finite_steps.Gen.facts) m)
    (c : Dev Cert.Kernel6Ideal.nD) (k : Fin 1024) (l : Fin 128) :
    ∃ q : ℝ, Cert.Reference6Ideal.Norm.lane (m ((c.tc : Thread _ _).loc Cert.Kernel6Ideal.main_arg2)) k l = (q : EReal) := by
  have hw : ∀ e : Fin 32, ∃ q : ℝ, m ((c.tc : Thread _ _).loc Cert.Kernel6Ideal.main_arg2) (ix2 k (⟨8192 + e.val, by omega⟩ : Fin 8224)) = (q : EReal) := fun e => by
    obtain ⟨q, hq⟩ := Cert.Pre_finite_inputs.real_of_ones _ _ (h c).2 (ix2 k e)
    refine ⟨q, Eq.trans ?_ hq⟩
    pointwise []
  unfold Cert.Reference6Ideal.Norm.lane Cert.Reference6Ideal.Norm.stepColumn
  by_cases h64 : l.val < 64
  · rw [if_pos h64]
    by_cases h16 : l.val % 32 < 16
    · rw [dif_pos h16]
      exact hw ⟨2 * (l.val % 32), by omega⟩
    · rw [dif_neg h16]
      obtain ⟨q, hq⟩ := hw ⟨1 + 2 * (l.val % 32 - 16), by omega⟩
      refine ⟨q, Eq.trans ?_ hq⟩
      exact congrArg (fun e => m ((c.tc : Thread _ _).loc Cert.Kernel6Ideal.main_arg2) (ix2 k e)) (Fin.ext (by dsimp only; omega))
  · exact ⟨0, by rw [if_neg h64]; rfl⟩

/-- The second mixer's input projection: both results of the kernel are the reference's, where gains and the time steps'
    weights are finite. -/
theorem values_agree6 : Cert.algebraic_Kernel6Ideal_Reference6Ideal_pre_finite_steps
    (hKernel6Ideal := Cert.Kernel6Ideal.Gen.facts) (hReference6Ideal := Cert.Reference6Ideal.Gen.facts)
    (hPre_finite_steps := Cert.Pre_finite_steps.Gen.facts) := by
  intro m g m' g' hpre hagree
  refine ⟨fun c => Cert.Reference6Ideal.Norm.wide
      (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)),
    fun c => Cert.Reference6Ideal.Norm.gates
      (m ((c.tc : Thread _ _).loc Cert.Kernel6Ideal.main_arg0)) (m ((c.tc : Thread _ _).loc Cert.Kernel6Ideal.main_arg1)) (m ((c.tc : Thread _ _).loc Cert.Kernel6Ideal.main_arg2)), ?_, ?_⟩
  · exact (θ_run Cert.Kernel6Ideal.defs _ _).mono
      (fun r h c => ⟨((h.1.1 c).1 5).trans (Cert.Kernel6Ideal.Norm.final_wide m c),
        ((h.1.1 c).1 6).trans (Cert.Kernel6Ideal.Norm.final_gates m c (gain_real6 m hpre c) (lane_real6 m hpre c)), h.2.1 c⟩)
      (θ_run_and (Cert.Kernel6Ideal.Norm.run m g) (Cert.Kernel6Ideal.Norm.unchanged m g))
  · refine (θ_run Cert.Reference6Ideal.defs _ _).mono (fun r h c => ⟨(h c).1.trans ?_, (h c).2.1.trans ?_, (h c).2.2⟩)
      (Cert.Reference6Ideal.Value.run m' g')
    · obtain ⟨h0, h1, h2, h3, h4⟩ := hagree c
      refine Eq.trans (b := Cert.Reference6Ideal.Norm.wide (m' ((c.tc : Thread _ _).loc Cert.Reference6Ideal.main_arg0)) (m' ((c.tc : Thread _ _).loc Cert.Reference6Ideal.main_arg1)) (m' ((c.tc : Thread _ _).loc Cert.Reference6Ideal.main_arg2))
        (m' ((c.tc : Thread _ _).loc Cert.Reference6Ideal.main_arg3)) (m' ((c.tc : Thread _ _).loc Cert.Reference6Ideal.main_arg4))) rfl ?_
      rw [h0, h1, h2, h3, h4]
    · obtain ⟨h0, h1, h2, h3, h4⟩ := hagree c
      refine Eq.trans (b := Cert.Reference6Ideal.Norm.gates (m' ((c.tc : Thread _ _).loc Cert.Reference6Ideal.main_arg0)) (m' ((c.tc : Thread _ _).loc Cert.Reference6Ideal.main_arg1)) (m' ((c.tc : Thread _ _).loc Cert.Reference6Ideal.main_arg2))) rfl ?_
      rw [h0, h1, h2]

/-- Everything claimed of the six calls: the attention's, the experts', the two output projections' and the two input
    projections'. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite_inputs.facts, Cert.Pre_groups_exist.Gen.facts, Cert.Pre_finite_gates.Gen.facts, Cert.Pre_finite_steps.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ h => Cert.Kernel2.Experts.unchanged m ρ (Cert.Kernel2.Experts.ok_of_pre m h),
    fun m ρ h => Cert.Kernel2Ideal.Experts.unchanged m ρ (Cert.Kernel2Ideal.Experts.ok_of_pre m h),
    frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Norm.unchanged m ρ, fun m ρ _ => Cert.Kernel5Ideal.Norm.unchanged m ρ,
    fun m ρ _ => Cert.Kernel5Ideal.Norm.unchanged m ρ, frame_reference5, fun m ρ _ => frame_reference5 m ρ trivial,
    fun m ρ _ => Cert.Kernel6.Norm.unchanged m ρ, fun m ρ _ => Cert.Kernel6Ideal.Norm.unchanged m ρ,
    fun m ρ _ => Cert.Kernel6Ideal.Norm.unchanged m ρ, frame_reference6, fun m ρ _ => frame_reference6 m ρ trivial,
    trivial, values_agree _, trivial, values_agree2, trivial, values_agree3, trivial, values_agree4,
    trivial, values_agree5, trivial, values_agree6⟩

end Cert.Proof

end
